-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  IdealRules.named_const.Statement Cert.KernelIdeal.κ "q_scale" .f32 0x3E0293EE#32 (((11863283 / 134217728) * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)) (v2 : (c : Dev Cert.Kernel4Ideal.nD) → Buf (Elt Ideal) ((c.tc : Thread Cert.Kernel4Ideal.nD Cert.Kernel4Ideal.τ).loc Cert.Kernel4Ideal.main_v36_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_v36_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v82) = v0 c
          ∧ r.2.mem ((c.tc : Thread Cert.Reference4Ideal.nD Cert.Reference4Ideal.τ).loc Cert.Reference4Ideal.main_v121) = v1 c
          ∧ r.2.mem ((c.tc : Thread Cert.Reference4Ideal.nD Cert.Reference4Ideal.τ).loc Cert.Reference4Ideal.main_v122) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v43) = v0 c
          ∧ r.2.mem ((c.tc : Thread Cert.Reference7Ideal.nD Cert.Reference7Ideal.τ).loc Cert.Reference7Ideal.main_v44) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v43_0)) (v1 : (c : Dev Cert.Kernel8Ideal.nD) → Buf (Elt Ideal) ((c.tc : Thread Cert.Kernel8Ideal.nD Cert.Kernel8Ideal.τ).loc Cert.Kernel8Ideal.main_v43_1)) (v2 : (c : Dev Cert.Kernel8Ideal.nD) → Buf (Elt Ideal) ((c.tc : Thread Cert.Kernel8Ideal.nD Cert.Kernel8Ideal.τ).loc Cert.Kernel8Ideal.main_v43_2)) (v3 : (c : Dev Cert.Kernel8Ideal.nD) → Buf (Elt Ideal) ((c.tc : Thread Cert.Kernel8Ideal.nD Cert.Kernel8Ideal.τ).loc Cert.Kernel8Ideal.main_v43_3)) (v4 : (c : Dev Cert.Kernel8Ideal.nD) → Buf (Elt Ideal) ((c.tc : Thread Cert.Kernel8Ideal.nD Cert.Kernel8Ideal.τ).loc Cert.Kernel8Ideal.main_v43_4)) (v5 : (c : Dev Cert.Kernel8Ideal.nD) → Buf (Elt Ideal) ((c.tc : Thread Cert.Kernel8Ideal.nD Cert.Kernel8Ideal.τ).loc Cert.Kernel8Ideal.main_v43_5)) (v6 : (c : Dev Cert.Kernel8Ideal.nD) → Buf (Elt Ideal) ((c.tc : Thread Cert.Kernel8Ideal.nD Cert.Kernel8Ideal.τ).loc Cert.Kernel8Ideal.main_v43_6)) (v7 : (c : Dev Cert.Kernel8Ideal.nD) → Buf (Elt Ideal) ((c.tc : Thread Cert.Kernel8Ideal.nD Cert.Kernel8Ideal.τ).loc Cert.Kernel8Ideal.main_v43_7)) (v8 : (c : Dev Cert.Kernel8Ideal.nD) → Buf (Elt Ideal) ((c.tc : Thread Cert.Kernel8Ideal.nD Cert.Kernel8Ideal.τ).loc Cert.Kernel8Ideal.main_v43_8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v43_0) = v0 c
          ∧ r.2.mem ((c.tc : Thread Cert.Kernel8Ideal.nD Cert.Kernel8Ideal.τ).loc Cert.Kernel8Ideal.main_v43_1) = v1 c
          ∧ r.2.mem ((c.tc : Thread Cert.Kernel8Ideal.nD Cert.Kernel8Ideal.τ).loc Cert.Kernel8Ideal.main_v43_2) = v2 c
          ∧ r.2.mem ((c.tc : Thread Cert.Kernel8Ideal.nD Cert.Kernel8Ideal.τ).loc Cert.Kernel8Ideal.main_v43_3) = v3 c
          ∧ r.2.mem ((c.tc : Thread Cert.Kernel8Ideal.nD Cert.Kernel8Ideal.τ).loc Cert.Kernel8Ideal.main_v43_4) = v4 c
          ∧ r.2.mem ((c.tc : Thread Cert.Kernel8Ideal.nD Cert.Kernel8Ideal.τ).loc Cert.Kernel8Ideal.main_v43_5) = v5 c
          ∧ r.2.mem ((c.tc : Thread Cert.Kernel8Ideal.nD Cert.Kernel8Ideal.τ).loc Cert.Kernel8Ideal.main_v43_6) = v6 c
          ∧ r.2.mem ((c.tc : Thread Cert.Kernel8Ideal.nD Cert.Kernel8Ideal.τ).loc Cert.Kernel8Ideal.main_v43_7) = v7 c
          ∧ r.2.mem ((c.tc : Thread Cert.Kernel8Ideal.nD Cert.Kernel8Ideal.τ).loc Cert.Kernel8Ideal.main_v43_8) = v8 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v69) = v0 c
          ∧ r.2.mem ((c.tc : Thread Cert.Reference8Ideal.nD Cert.Reference8Ideal.τ).loc Cert.Reference8Ideal.main_v70) = v1 c
          ∧ r.2.mem ((c.tc : Thread Cert.Reference8Ideal.nD Cert.Reference8Ideal.τ).loc Cert.Reference8Ideal.main_v72) = v2 c
          ∧ r.2.mem ((c.tc : Thread Cert.Reference8Ideal.nD Cert.Reference8Ideal.τ).loc Cert.Reference8Ideal.main_v22) = v3 c
          ∧ r.2.mem ((c.tc : Thread Cert.Reference8Ideal.nD Cert.Reference8Ideal.τ).loc Cert.Reference8Ideal.main_v73) = v4 c
          ∧ r.2.mem ((c.tc : Thread Cert.Reference8Ideal.nD Cert.Reference8Ideal.τ).loc Cert.Reference8Ideal.main_v74) = v5 c
          ∧ r.2.mem ((c.tc : Thread Cert.Reference8Ideal.nD Cert.Reference8Ideal.τ).loc Cert.Reference8Ideal.main_v75) = v6 c
          ∧ r.2.mem ((c.tc : Thread Cert.Reference8Ideal.nD Cert.Reference8Ideal.τ).loc Cert.Reference8Ideal.main_v76) = v7 c
          ∧ r.2.mem ((c.tc : Thread Cert.Reference8Ideal.nD Cert.Reference8Ideal.τ).loc Cert.Reference8Ideal.main_v68) = v8 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_qk.lean ====
abbrev S4x8x8192x128 : Shape := ⟨4, ![4, 8, 8192, 128]⟩
abbrev S4x2x256x128 : Shape := ⟨4, ![4, 2, 256, 128]⟩
abbrev S4x2x8192x128 : Shape := ⟨4, ![4, 2, 8192, 128]⟩
abbrev S_ : Shape := ⟨0, ![]⟩

class Facts : Prop where
  bcast_S_S4x8x8192x128 : S_.BroadcastsInDim S4x8x8192x128 (![] : Fin 0 → Fin S4x8x8192x128.rank)
  reducesTo_S4x8x8192x128_S_d0_1_2_3 : S4x8x8192x128.ReducesTo [0, 1, 2, 3] S_
  h_S_ : 0 < S_.numel
  bcast_S_S4x2x256x128 : S_.BroadcastsInDim S4x2x256x128 (![] : Fin 0 → Fin S4x2x256x128.rank)
  reducesTo_S4x2x256x128_S_d0_1_2_3 : S4x2x256x128.ReducesTo [0, 1, 2, 3] S_
  bcast_S_S4x2x8192x128 : S_.BroadcastsInDim S4x2x8192x128 (![] : Fin 0 → Fin S4x2x8192x128.rank)
  reducesTo_S4x2x8192x128_S_d0_1_2_3 : S4x2x8192x128.ReducesTo [0, 1, 2, 3] S_

variable [Facts]

def fn {F : FTy → Type} [FloatOps F] (main_arg0 : FVec F S4x8x8192x128 .f32) (main_arg1 : FVec F S4x2x256x128 .f32) (main_arg2 : FVec F S4x2x8192x128 .f32) (main_arg3 : FVec F S4x2x256x128 .f32) (main_arg4 : FVec F S4x2x8192x128 .f32) : IVec S_ 1 :=
  let main_v0 : FVec F S4x8x8192x128 .f32 := Host.absf main_arg0
  let main_cst : FVec F S_ .f32 := constant S_ .f32 0x7F800000#32
  let main_v1 : FVec F S4x8x8192x128 .f32 := broadcastInDim S4x8x8192x128 ![] bcast_S_S4x8x8192x128 main_cst
  let main_v2 : IVec S4x8x8192x128 1 := cmpf .olt main_v0 main_v1
  let main_c : IVec S_ 1 := constantI S_ 1 1#1
  let main_v3 : IVec S_ 1 := (fun x v => Host.reduce IntOp.andi x v reducesTo_S4x8x8192x128_S_d0_1_2_3 h_S_) main_v2 main_c
  let main_v4 : FVec F S4x2x256x128 .f32 := Host.absf main_arg1
  let main_cst_0 : FVec F S_ .f32 := constant S_ .f32 0x7F800000#32
  let main_v5 : FVec F S4x2x256x128 .f32 := broadcastInDim S4x2x256x128 ![] bcast_S_S4x2x256x128 main_cst_0
  let main_v6 : IVec S4x2x256x128 1 := cmpf .olt main_v4 main_v5
  let main_c_1 : IVec S_ 1 := constantI S_ 1 1#1
  let main_v7 : IVec S_ 1 := (fun x v => Host.reduce IntOp.andi x v reducesTo_S4x2x256x128_S_d0_1_2_3 h_S_) main_v6 main_c_1
  let main_v8 : IVec S_ 1 := andi main_v3 main_v7
  let main_v9 : FVec F S4x2x8192x128 .f32 := Host.absf main_arg2
  let main_cst_2 : FVec F S_ .f32 := constant S_ .f32 0x7F800000#32
  let main_v10 : FVec F S4x2x8192x128 .f32 := broadcastInDim S4x2x8192x128 ![] bcast_S_S4x2x8192x128 main_cst_2
  let main_v11 : IVec S4x2x8192x128 1 := cmpf .olt main_v9 main_v10
  let main_c_3 : IVec S_ 1 := constantI S_ 1 1#1
  let main_v12 : IVec S_ 1 := (fun x v => Host.reduce IntOp.andi x v reducesTo_S4x2x8192x128_S_d0_1_2_3 h_S_) main_v11 main_c_3
  let main_v13 : IVec S_ 1 := andi main_v8 main_v12
  main_v13
-- ==== Kernel.lean ====
abbrev S4x8x8192x128 : Shape := ⟨4, ![4, 8, 8192, 128]⟩
abbrev S4x2x256x128 : Shape := ⟨4, ![4, 2, 256, 128]⟩
abbrev S4x2x8192x128 : Shape := ⟨4, ![4, 2, 8192, 128]⟩
abbrev S4x2x8448x128 : Shape := ⟨4, ![4, 2, 8448, 128]⟩
abbrev S4x8192x1024 : Shape := ⟨3, ![4, 8192, 1024]⟩
abbrev S1x4x512x128 : Shape := ⟨4, ![1, 4, 512, 128]⟩
abbrev S1x1x8448x128 : Shape := ⟨4, ![1, 1, 8448, 128]⟩
abbrev S1x512x512 : Shape := ⟨3, ![1, 512, 512]⟩
abbrev S512x128 : Shape := ⟨2, ![512, 128]⟩
abbrev S512x768 : Shape := ⟨2, ![512, 768]⟩
abbrev S1x1x512x128 : Shape := ⟨4, ![1, 1, 512, 128]⟩
abbrev S1x1x768x128 : Shape := ⟨4, ![1, 1, 768, 128]⟩
abbrev S768x128 : Shape := ⟨2, ![768, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 12
  | .vmem => 18
  | .smem => 0
  | _ => 0

abbrev bufTy : (tb : Table) → Fin (tcTables nBuf tb) → BufTy
  | .hbm, ⟨0, _⟩ => ⟨S4x8x8192x128, .f32⟩
  | .hbm, ⟨1, _⟩ => ⟨S4x2x256x128, .f32⟩
  | .hbm, ⟨2, _⟩ => ⟨S4x2x8192x128, .f32⟩
  | .hbm, ⟨3, _⟩ => ⟨S4x2x256x128, .f32⟩
  | .hbm, ⟨4, _⟩ => ⟨S4x2x8192x128, .f32⟩
  | .hbm, ⟨5, _⟩ => ⟨S4x2x256x128, .bf16⟩
  | .hbm, ⟨6, _⟩ => ⟨S4x2x8192x128, .bf16⟩
  | .hbm, ⟨7, _⟩ => ⟨S4x2x8448x128, .bf16⟩
  | .hbm, ⟨8, _⟩ => ⟨S4x2x256x128, .bf16⟩
  | .hbm, ⟨9, _⟩ => ⟨S4x2x8192x128, .bf16⟩
  | .hbm, ⟨10, _⟩ => ⟨S4x2x8448x128, .bf16⟩
  | .hbm, ⟨11, _⟩ => ⟨S4x8192x1024, .bf16⟩
  | .local _ .vmem, ⟨0, _⟩ => ⟨S1x4x512x128, .f32⟩
  | .local _ .vmem, ⟨1, _⟩ => ⟨S1x4x512x128, .f32⟩
  | .local _ .vmem, ⟨2, _⟩ => ⟨S1x1x8448x128, .bf16⟩
  | .local _ .vmem, ⟨3, _⟩ => ⟨S1x1x8448x128, .bf16⟩
  | .local _ .vmem, ⟨4, _⟩ => ⟨S1x1x8448x128, .bf16⟩
  | .local _ .vmem, ⟨5, _⟩ => ⟨S1x1x8448x128, .bf16⟩
  | .local _ .vmem, ⟨6, _⟩ => ⟨S1x512x512, .bf16⟩
  | .local _ .vmem, ⟨7, _⟩ => ⟨S1x512x512, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x768, .bf16⟩
  | .local _ .vmem, ⟨17, _⟩ => ⟨S512x768, .bf16⟩
  | _, _ => ⟨S4x8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_scratch9 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "q_scale" => some (((11863283 / 134217728) * (Real.log 2)⁻¹ : ℝ) : EReal)
  | _ => none
-- ==== ReferenceIdeal.lean ====
abbrev S4x8x8192x128 : Shape := ⟨4, ![4, 8, 8192, 128]⟩
abbrev S4x2x256x128 : Shape := ⟨4, ![4, 2, 256, 128]⟩
abbrev S4x2x8192x128 : Shape := ⟨4, ![4, 2, 8192, 128]⟩
abbrev S4x2x8448x128 : Shape := ⟨4, ![4, 2, 8448, 128]⟩
abbrev S4x2x4x8192x128 : Shape := ⟨5, ![4, 2, 4, 8192, 128]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x8192x2x4x128 : Shape := ⟨5, ![4, 8192, 2, 4, 128]⟩
abbrev S4x8192x1024 : Shape := ⟨3, ![4, 8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x8x8192x128, .f32⟩
  | .hbm, ⟨1, _⟩ => ⟨S4x2x256x128, .f32⟩
  | .hbm, ⟨2, _⟩ => ⟨S4x2x8192x128, .f32⟩
  | .hbm, ⟨3, _⟩ => ⟨S4x2x256x128, .f32⟩
  | .hbm, ⟨4, _⟩ => ⟨S4x2x8192x128, .f32⟩
  | .hbm, ⟨5, _⟩ => ⟨S4x2x8448x128, .f32⟩
  | .hbm, ⟨6, _⟩ => ⟨S4x2x8448x128, .f32⟩
  | .hbm, ⟨7, _⟩ => ⟨S4x2x4x8192x128, .f32⟩
  | .hbm, ⟨8, _⟩ => ⟨S4x2x4x8192x8448, .f32⟩
  | .hbm, ⟨9, _⟩ => ⟨S_, .f32⟩
  | .hbm, ⟨10, _⟩ => ⟨S4x2x4x8192x8448, .f32⟩
  | .hbm, ⟨11, _⟩ => ⟨S4x2x4x8192x8448, .f32⟩
  | .hbm, ⟨12, _⟩ => ⟨S_, .f32⟩
  | .hbm, ⟨13, _⟩ => ⟨S4x2x4x8192, .f32⟩
  | .hbm, ⟨14, _⟩ => ⟨S_, .f32⟩
  | .hbm, ⟨15, _⟩ => ⟨S4x2x4x8192, .f32⟩
  | .hbm, ⟨16, _⟩ => ⟨S4x2x4x8192, .f32⟩
  | .hbm, ⟨17, _⟩ => ⟨S4x2x4x8192x1, .f32⟩
  | .hbm, ⟨18, _⟩ => ⟨S4x2x4x8192x8448, .f32⟩
  | .hbm, ⟨19, _⟩ => ⟨S4x2x4x8192x8448, .f32⟩
  | .hbm, ⟨20, _⟩ => ⟨S4x2x4x8192x8448, .f32⟩
  | .hbm, ⟨21, _⟩ => ⟨S_, .f32⟩
  | .hbm, ⟨22, _⟩ => ⟨S4x2x4x8192, .f32⟩
  | .hbm, ⟨23, _⟩ => ⟨S4x2x4x8192x1, .f32⟩
  | .hbm, ⟨24, _⟩ => ⟨S4x2x4x8192x8448, .f32⟩
  | .hbm, ⟨25, _⟩ => ⟨S4x2x4x8192x8448, .f32⟩
  | .hbm, ⟨26, _⟩ => ⟨S4x2x4x8192x128, .f32⟩
  | .hbm, ⟨27, _⟩ => ⟨S4x8192x2x4x128, .f32⟩
  | .hbm, ⟨28, _⟩ => ⟨S4x8192x1024, .f32⟩
  | .hbm, ⟨29, _⟩ => ⟨S4x8192x1024, .bf16⟩
  | _, _ => ⟨S4x8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x1024 : Shape := ⟨3, ![4, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x16x1024 : Shape := ⟨3, ![1, 16, 1024]⟩
abbrev S1x1x1024 : Shape := ⟨3, ![1, 1, 1024]⟩
abbrev S544x1024 : Shape := ⟨2, ![544, 1024]⟩
abbrev S512x2816 : Shape := ⟨2, ![512, 2816]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1024x256 : Shape := ⟨2, ![1024, 256]⟩
abbrev S544x256 : Shape := ⟨2, ![544, 256]⟩
abbrev S512x256 : Shape := ⟨2, ![512, 256]⟩
abbrev S1x256 : Shape := ⟨2, ![1, 256]⟩
abbrev S512x768 : Shape := ⟨2, ![512, 768]⟩
abbrev S768x1024 : Shape := ⟨2, ![768, 1024]⟩
abbrev S256x1024 : Shape := ⟨2, ![256, 1024]⟩

abbrev nBuf : Space → Nat
  | .hbm => 16
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S1x1024, .f32⟩
  | .hbm, ⟨11, _⟩ => ⟨S1024x5632, .bf16⟩
  | .hbm, ⟨12, _⟩ => ⟨S1x5632, .f32⟩
  | .hbm, ⟨13, _⟩ => ⟨S2816x1024, .bf16⟩
  | .hbm, ⟨14, _⟩ => ⟨S1x1024, .f32⟩
  | .hbm, ⟨15, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S544x1024, .bf16⟩
  | .local _ .vmem, ⟨21, _⟩ => ⟨S512x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8192x1024 : Shape := ⟨3, ![4, 8192, 1024]⟩
abbrev S4x1x1024 : Shape := ⟨3, ![4, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8194x5632 : Shape := ⟨3, ![4, 8194, 5632]⟩
abbrev S1x5632 : Shape := ⟨2, ![1, 5632]⟩
abbrev S1x1x5632 : Shape := ⟨3, ![1, 1, 5632]⟩
abbrev S4x8192x2816 : Shape := ⟨3, ![4, 8192, 2816]⟩

abbrev nBuf : Space → Nat
  | .hbm => 92
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S4x1x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x5632, .f32⟩
  | .hbm, ⟨34, _⟩ => ⟨S_, .i32⟩
  | .hbm, ⟨35, _⟩ => ⟨S_, .f32⟩
  | .hbm, ⟨36, _⟩ => ⟨S4x8194x5632, .f32⟩
  | .hbm, ⟨37, _⟩ => ⟨S4x8192x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S4x8192x5632, .f32⟩
  | .hbm, ⟨42, _⟩ => ⟨S4x8192x5632, .f32⟩
  | .hbm, ⟨43, _⟩ => ⟨S1x1x5632, .f32⟩
  | .hbm, ⟨44, _⟩ => ⟨S4x8192x5632, .f32⟩
  | .hbm, ⟨45, _⟩ => ⟨S4x8192x5632, .f32⟩
  | .hbm, ⟨46, _⟩ => ⟨S4x8192x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S4x8192x5632, .f32⟩
  | .hbm, ⟨51, _⟩ => ⟨S4x8192x5632, .f32⟩
  | .hbm, ⟨52, _⟩ => ⟨S4x8192x5632, .f32⟩
  | .hbm, ⟨53, _⟩ => ⟨S4x8192x5632, .f32⟩
  | .hbm, ⟨54, _⟩ => ⟨S1x5632, .f32⟩
  | .hbm, ⟨55, _⟩ => ⟨S5632, .f32⟩
  | .hbm, ⟨56, _⟩ => ⟨S1x1x5632, .f32⟩
  | .hbm, ⟨57, _⟩ => ⟨S4x8192x5632, .f32⟩
  | .hbm, ⟨58, _⟩ => ⟨S4x8192x5632, .f32⟩
  | .hbm, ⟨59, _⟩ => ⟨S4x8192x5632, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S_, .f32⟩
  | .hbm, ⟨65, _⟩ => ⟨S4x8192x2816, .f32⟩
  | .hbm, ⟨66, _⟩ => ⟨S4x8192x2816, .f32⟩
  | .hbm, ⟨67, _⟩ => ⟨S_, .f32⟩
  | .hbm, ⟨68, _⟩ => ⟨S4x8192x2816, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S_, .f32⟩
  | .hbm, ⟨78, _⟩ => ⟨S4x8192, .f32⟩
  | .hbm, ⟨79, _⟩ => ⟨S4x8192x1, .f32⟩
  | .hbm, ⟨80, _⟩ => ⟨S_, .f32⟩
  | .hbm, ⟨81, _⟩ => ⟨S4x8192x1, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S4x8192x1, .f32⟩
  | .hbm, ⟨87, _⟩ => ⟨S4x8192x1024, .f32⟩
  | .hbm, ⟨88, _⟩ => ⟨S4x8192x1024, .f32⟩
  | .hbm, ⟨89, _⟩ => ⟨S1x1x1024, .f32⟩
  | .hbm, ⟨90, _⟩ => ⟨S4x8192x1024, .f32⟩
  | .hbm, ⟨91, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_cst_4 : Ref sig .tc := ⟨.hbm, 80, rfl⟩
abbrev main_v55 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024x1024 : Shape := ⟨2, ![1024, 1024]⟩
abbrev S4x1x1024 : Shape := ⟨3, ![4, 1, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S4x1x1024, .f32⟩
  | .hbm, ⟨4, _⟩ => ⟨S4x8192x1024, .bf16⟩
  | .hbm, ⟨5, _⟩ => ⟨S1024x1024, .bf16⟩
  | .hbm, ⟨6, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1024x1024, .f32⟩
  | .local _ .vmem, ⟨8, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x8192x1024 : Shape := ⟨3, ![4, 8192, 1024]⟩
abbrev S1024x1024 : Shape := ⟨2, ![1024, 1024]⟩
abbrev S4x1x1024 : Shape := ⟨3, ![4, 1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S4x1x1024, .f32⟩
  | .hbm, ⟨4, _⟩ => ⟨S4x8192x1024, .f32⟩
  | .hbm, ⟨5, _⟩ => ⟨S4x8192x1024, .f32⟩
  | .hbm, ⟨6, _⟩ => ⟨S4x8192x1024, .f32⟩
  | .hbm, ⟨7, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x1x1024 : Shape := ⟨3, ![4, 1, 1024]⟩
abbrev S1024 : Shape := ⟨1, ![1024]⟩
abbrev S1024x1536 : Shape := ⟨2, ![1024, 1536]⟩
abbrev S128 : Shape := ⟨1, ![128]⟩
abbrev S64 : Shape := ⟨1, ![64]⟩
abbrev S128x64 : Shape := ⟨2, ![128, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S1x1024 : Shape := ⟨2, ![1, 1024]⟩
abbrev S1x128 : Shape := ⟨2, ![1, 128]⟩
abbrev S4x8x8192x128 : Shape := ⟨4, ![4, 8, 8192, 128]⟩
abbrev S4x2x8192x128 : Shape := ⟨4, ![4, 2, 8192, 128]⟩
abbrev S1x512x1024 : Shape := ⟨3, ![1, 512, 1024]⟩
abbrev S1x1x1024 : Shape := ⟨3, ![1, 1, 1024]⟩
abbrev S512x128 : Shape := ⟨2, ![512, 128]⟩
abbrev S1x8x512x128 : Shape := ⟨4, ![1, 8, 512, 128]⟩
abbrev S1x2x512x128 : Shape := ⟨4, ![1, 2, 512, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩
abbrev S1x1x256x128 : Shape := ⟨4, ![1, 1, 256, 128]⟩

abbrev nBuf : Space → Nat
  | .hbm => 50
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1536, .f32⟩
  | .hbm, ⟨5, _⟩ => ⟨S128, .f32⟩
  | .hbm, ⟨6, _⟩ => ⟨S128, .f32⟩
  | .hbm, ⟨7, _⟩ => ⟨S128, .i32⟩
  | .hbm, ⟨8, _⟩ => ⟨S64, .i32⟩
  | .hbm, ⟨9, _⟩ => ⟨S128x64, .i32⟩
  | .hbm, ⟨10, _⟩ => ⟨S128x64, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8192x1, .i32⟩
  | .hbm, ⟨26, _⟩ => ⟨S8192x1, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x1, .i32⟩
  | .hbm, ⟨32, _⟩ => ⟨S8192x1, .f32⟩
  | .hbm, ⟨33, _⟩ => ⟨S1x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S8192x128, .f32⟩
  | .hbm, ⟨41, _⟩ => ⟨S8192x64, .f32⟩
  | .hbm, ⟨42, _⟩ => ⟨S8192x128, .f32⟩
  | .hbm, ⟨43, _⟩ => ⟨S1x1024, .f32⟩
  | .hbm, ⟨44, _⟩ => ⟨S1024x1536, .bf16⟩
  | .hbm, ⟨45, _⟩ => ⟨S1x128, .f32⟩
  | .hbm, ⟨46, _⟩ => ⟨S1x128, .f32⟩
  | .hbm, ⟨47, _⟩ => ⟨S4x8x8192x128, .f32⟩
  | .hbm, ⟨48, _⟩ => ⟨S4x2x8192x128, .bf16⟩
  | .hbm, ⟨49, _⟩ => ⟨S4x2x8192x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x128, .f32⟩
  | .local _ .vmem, ⟨9, _⟩ => ⟨S1x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x8x512x128, .f32⟩
  | .local _ .vmem, ⟨15, _⟩ => ⟨S1x8x512x128, .f32⟩
  | .local _ .vmem, ⟨16, _⟩ => ⟨S1x2x512x128, .bf16⟩
  | .local _ .vmem, ⟨17, _⟩ => ⟨S1x2x512x128, .bf16⟩
  | .local _ .vmem, ⟨18, _⟩ => ⟨S1x2x512x128, .bf16⟩
  | .local _ .vmem, ⟨19, _⟩ => ⟨S1x2x512x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S4x8192x1024 : Shape := ⟨3, ![4, 8192, 1024]⟩
abbrev S4x1x1024 : Shape := ⟨3, ![4, 1, 1024]⟩
abbrev S1024 : Shape := ⟨1, ![1024]⟩
abbrev S1024x1536 : Shape := ⟨2, ![1024, 1536]⟩
abbrev S128 : Shape := ⟨1, ![128]⟩
abbrev S64 : Shape := ⟨1, ![64]⟩
abbrev S128x64 : Shape := ⟨2, ![128, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S4x8192 : Shape := ⟨2, ![4, 8192]⟩
abbrev S4x8192x1 : Shape := ⟨3, ![4, 8192, 1]⟩
abbrev S1x1x1024 : Shape := ⟨3, ![1, 1, 1024]⟩
abbrev S1024x1024 : Shape := ⟨2, ![1024, 1024]⟩
abbrev S1024x512 : Shape := ⟨2, ![1024, 512]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8x8192x128 : Shape := ⟨4, ![4, 8, 8192, 128]⟩
abbrev S4x8x8192x64 : Shape := ⟨4, ![4, 8, 8192, 64]⟩
abbrev S1x1x8192x64 : Shape := ⟨4, ![1, 1, 8192, 64]⟩
abbrev S4x8192x512 : Shape := ⟨3, ![4, 8192, 512]⟩
abbrev S4x8192x2x2x128 : Shape := ⟨5, ![4, 8192, 2, 2, 128]⟩
abbrev S4x8192x1x2x128 : Shape := ⟨5, ![4, 8192, 1, 2, 128]⟩
abbrev S4x8192x2x128 : Shape := ⟨4, ![4, 8192, 2, 128]⟩
abbrev S4x8192x2 : Shape := ⟨3, ![4, 8192, 2]⟩
abbrev S4x8192x2x1 : Shape := ⟨4, ![4, 8192, 2, 1]⟩
abbrev S4x2x8192x128 : Shape := ⟨4, ![4, 2, 8192, 128]⟩
abbrev S4x2x8192x64 : Shape := ⟨4, ![4, 2, 8192, 64]⟩

abbrev nBuf : Space → Nat
  | .hbm => 144
  | .vmem => 0
  | .smem => 0
  | _ => 0

abbrev hbmTy0_0 (i : Nat) : BufTy := match i % 128 with
  | 0 => ⟨S4x8192x1024, .f32⟩
  | 1 => ⟨S4x1x1024, .f32⟩
  | 2 => ⟨S4x1x1024, .f32⟩
  | 3 => ⟨S1024, .f32⟩
  | 4 => ⟨S1024x1536, .f32⟩
  | 5 => ⟨S128, .f32⟩
  | 6 => ⟨S128, .f32⟩
  | 7 => ⟨S128, .i32⟩
  | 8 => ⟨S64, .i32⟩
  | 9 => ⟨S128x64, .i32⟩
  | 10 => ⟨S128x64, .i32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S8192x1, .i32⟩
  | 26 => ⟨S8192x1, .f32⟩
  | 27 => ⟨S1x32, .f32⟩
  | 28 => ⟨S8192x32, .f32⟩
  | 29 => ⟨S8192x32, .f32⟩
  | 30 => ⟨S8192x32, .f32⟩
  | 31 => ⟨S8192x1, .i32⟩
  | 32 => ⟨S8192x1, .f32⟩
  | 33 => ⟨S1x32, .f32⟩
  | 34 => ⟨S8192x32, .f32⟩
  | 35 => ⟨S8192x32, .f32⟩
  | 36 => ⟨S8192x32, .f32⟩
  | 37 => ⟨S8192x64, .f32⟩
  | 38 => ⟨S8192x64, .f32⟩
  | 39 => ⟨S8192x64, .f32⟩
  | 40 => ⟨S4x8192x1024, .f32⟩
  | 41 => ⟨S_, .f32⟩
  | 42 => ⟨S4x8192, .f32⟩
  | 43 => ⟨S4x8192x1, .f32⟩
  | 44 => ⟨S_, .f32⟩
  | 45 => ⟨S4x8192x1, .f32⟩
  | 46 => ⟨S4x8192x1, .f32⟩
  | 47 => ⟨S_, .f32⟩
  | 48 => ⟨S4x8192x1, .f32⟩
  | 49 => ⟨S4x8192x1, .f32⟩
  | 50 => ⟨S4x8192x1, .f32⟩
  | 51 => ⟨S4x8192x1024, .f32⟩
  | 52 => ⟨S4x8192x1024, .f32⟩
  | 53 => ⟨S1x1x1024, .f32⟩
  | 54 => ⟨S4x8192x1024, .f32⟩
  | 55 => ⟨S4x8192x1024, .f32⟩
  | 56 => ⟨S_, .f32⟩
  | 57 => ⟨S4x1x1024, .f32⟩
  | 58 => ⟨S4x1x1024, .f32⟩
  | 59 => ⟨S4x8192x1024, .f32⟩
  | 60 => ⟨S4x8192x1024, .f32⟩
  | 61 => ⟨S4x8192x1024, .f32⟩
  | 62 => ⟨S4x8192x1024, .f32⟩
  | 63 => ⟨S1024x1024, .f32⟩
  | 64 => ⟨S1024x512, .f32⟩
  | 65 => ⟨S4x8192x1024, .f32⟩
  | 66 => ⟨S4x8192x8x128, .f32⟩
  | 67 => ⟨S4x8192x8x128, .f32⟩
  | 68 => ⟨S_, .f32⟩
  | 69 => ⟨S4x8192x8, .f32⟩
  | 70 => ⟨S4x8192x8x1, .f32⟩
  | 71 => ⟨S_, .f32⟩
  | 72 => ⟨S4x8192x8x1, .f32⟩
  | 73 => ⟨S4x8192x8x1, .f32⟩
  | 74 => ⟨S_, .f32⟩
  | 75 => ⟨S4x8192x8x1, .f32⟩
  | 76 => ⟨S4x8192x8x1, .f32⟩
  | 77 => ⟨S4x8192x8x1, .f32⟩
  | 78 => ⟨S4x8192x8x128, .f32⟩
  | 79 => ⟨S4x8192x8x128, .f32⟩
  | 80 => ⟨S1x1x1x128, .f32⟩
  | 81 => ⟨S4x8192x8x128, .f32⟩
  | 82 => ⟨S4x8192x8x128, .f32⟩
  | 83 => ⟨S4x8x8192x128, .f32⟩
  | 84 => ⟨S4x8x8192x64, .f32⟩
  | 85 => ⟨S4x8x8192x64, .f32⟩
  | 86 => ⟨S1x1x8192x64, .f32⟩
  | 87 => ⟨S4x8x8192x64, .f32⟩
  | 88 => ⟨S4x8x8192x64, .f32⟩
  | 89 => ⟨S1x1x8192x64, .f32⟩
  | 90 => ⟨S4x8x8192x64, .f32⟩
  | 91 => ⟨S4x8x8192x64, .f32⟩
  | 92 => ⟨S4x8x8192x64, .f32⟩
  | 93 => ⟨S1x1x8192x64, .f32⟩
  | 94 => ⟨S4x8x8192x64, .f32⟩
  | 95 => ⟨S4x8x8192x64, .f32⟩
  | 96 => ⟨S1x1x8192x64, .f32⟩
  | 97 => ⟨S4x8x8192x64, .f32⟩
  | 98 => ⟨S4x8x8192x64, .f32⟩
  | 99 => ⟨S4x8x8192x64, .f32⟩
  | 100 => ⟨S4x8x8192x128, .f32⟩
  | 101 => ⟨S4x8192x512, .f32⟩
  | 102 => ⟨S4x8192x2x2x128, .f32⟩
  | 103 => ⟨S4x8192x1x2x128, .f32⟩
  | 104 => ⟨S4x8192x2x128, .f32⟩
  | 105 => ⟨S4x8192x2x128, .f32⟩
  | 106 => ⟨S_, .f32⟩
  | 107 => ⟨S4x8192x2, .f32⟩
  | 108 => ⟨S4x8192x2x1, .f32⟩
  | 109 => ⟨S_, .f32⟩
  | 110 => ⟨S4x8192x2x1, .f32⟩
  | 111 => ⟨S4x8192x2x1, .f32⟩
  | 112 => ⟨S_, .f32⟩
  | 113 => ⟨S4x8192x2x1, .f32⟩
  | 114 => ⟨S4x8192x2x1, .f32⟩
  | 115 => ⟨S4x8192x2x1, .f32⟩
  | 116 => ⟨S4x8192x2x128, .f32⟩
  | 117 => ⟨S4x8192x2x128, .f32⟩
  | 118 => ⟨S1x1x1x128, .f32⟩
  | 119 => ⟨S4x8192x2x128, .f32⟩
  | 120 => ⟨S4x8192x2x128, .f32⟩
  | 121 => ⟨S4x2x8192x128, .f32⟩
  | 122 => ⟨S4x8192x1x2x128, .f32⟩
  | 123 => ⟨S4x8192x2x128, .f32⟩
  | 124 => ⟨S4x2x8192x128, .f32⟩
  | 125 => ⟨S4x2x8192x64, .f32⟩
  | 126 => ⟨S4x2x8192x64, .f32⟩
  | 127 => ⟨S1x1x8192x64, .f32⟩
  | _ => ⟨S4x8192x1024, .f32⟩

abbrev hbmTy0_1 (i : Nat) : BufTy := match i % 128 with
  | 0 => ⟨S4x2x8192x64, .f32⟩
  | 1 => ⟨S4x2x8192x64, .f32⟩
  | 2 => ⟨S1x1x8192x64, .f32⟩
  | 3 => ⟨S4x2x8192x64, .f32⟩
  | 4 => ⟨S4x2x8192x64, .f32⟩
  | 5 => ⟨S4x2x8192x64, .f32⟩
  | 6 => ⟨S1x1x8192x64, .f32⟩
  | 7 => ⟨S4x2x8192x64, .f32⟩
  | 8 => ⟨S4x2x8192x64, .f32⟩
  | 9 => ⟨S1x1x8192x64, .f32⟩
  | 10 => ⟨S4x2x8192x64, .f32⟩
  | 11 => ⟨S4x2x8192x64, .f32⟩
  | 12 => ⟨S4x2x8192x64, .f32⟩
  | 13 => ⟨S4x2x8192x128, .f32⟩
  | 14 => ⟨S4x2x8192x128, .bf16⟩
  | 15 => ⟨S4x2x8192x128, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_10 : Ref sig .tc := ⟨.hbm, 106, rfl⟩
abbrev main_v88 : Ref sig .tc := ⟨.hbm, 107, rfl⟩
abbrev main_v89 : Ref sig .tc := ⟨.hbm, 108, rfl⟩
abbrev main_cst_11 : Ref sig .tc := ⟨.hbm, 109, rfl⟩
abbrev main_v90 : Ref sig .tc := ⟨.hbm, 110, rfl⟩
abbrev main_v91 : Ref sig .tc := ⟨.hbm, 111, rfl⟩
abbrev main_cst_12 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x8192x512 : Shape := ⟨3, ![4, 8192, 512]⟩
abbrev S4x4x8192x128 : Shape := ⟨4, ![4, 4, 8192, 128]⟩
abbrev S512 : Shape := ⟨1, ![512]⟩
abbrev S1024x1024 : Shape := ⟨2, ![1024, 1024]⟩
abbrev S4x1x1024 : Shape := ⟨3, ![4, 1, 1024]⟩
abbrev S4x8192x4x128 : Shape := ⟨4, ![4, 8192, 4, 128]⟩
abbrev S1x512 : Shape := ⟨2, ![1, 512]⟩
abbrev S1x1024x1024 : Shape := ⟨3, ![1, 1024, 1024]⟩
abbrev S1x1024x512 : Shape := ⟨3, ![1, 1024, 512]⟩
abbrev S1x1x1024 : Shape := ⟨3, ![1, 1, 1024]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩
abbrev S512x1024 : Shape := ⟨2, ![512, 1024]⟩
abbrev S1x1024 : Shape := ⟨2, ![1, 1024]⟩

abbrev nBuf : Space → Nat
  | .hbm => 19
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x4x8192x128, .f32⟩
  | .hbm, ⟨3, _⟩ => ⟨S4x4x8192x128, .f32⟩
  | .hbm, ⟨4, _⟩ => ⟨S4x8192x512, .f32⟩
  | .hbm, ⟨5, _⟩ => ⟨S512, .f32⟩
  | .hbm, ⟨6, _⟩ => ⟨S1024x1024, .f32⟩
  | .hbm, ⟨7, _⟩ => ⟨S4x1x1024, .f32⟩
  | .hbm, ⟨8, _⟩ => ⟨S4x8192x512, .bf16⟩
  | .hbm, ⟨9, _⟩ => ⟨S4x8192x4x128, .f32⟩
  | .hbm, ⟨10, _⟩ => ⟨S4x8192x512, .f32⟩
  | .hbm, ⟨11, _⟩ => ⟨S4x8192x512, .bf16⟩
  | .hbm, ⟨12, _⟩ => ⟨S4x8192x4x128, .f32⟩
  | .hbm, ⟨13, _⟩ => ⟨S4x8192x512, .f32⟩
  | .hbm, ⟨14, _⟩ => ⟨S4x8192x512, .bf16⟩
  | .hbm, ⟨15, _⟩ => ⟨S4x8192x512, .bf16⟩
  | .hbm, ⟨16, _⟩ => ⟨S1x512, .f32⟩
  | .hbm, ⟨17, _⟩ => ⟨S1024x1024, .bf16⟩
  | .hbm, ⟨18, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512, .f32⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S1x1024x1024, .f32⟩
  | .local _ .vmem, ⟨15, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S4x8192x1024 : Shape := ⟨3, ![4, 8192, 1024]⟩
abbrev S4x8192x512 : Shape := ⟨3, ![4, 8192, 512]⟩
abbrev S4x4x8192x128 : Shape := ⟨4, ![4, 4, 8192, 128]⟩
abbrev S512 : Shape := ⟨1, ![512]⟩
abbrev S1024x1024 : Shape := ⟨2, ![1024, 1024]⟩
abbrev S4x1x1024 : Shape := ⟨3, ![4, 1, 1024]⟩
abbrev S_ : Shape := ⟨0, ![]⟩
abbrev S4x4x8192 : Shape := ⟨3, ![4, 4, 8192]⟩
abbrev S4x4x8192x1 : Shape := ⟨4, ![4, 4, 8192, 1]⟩
abbrev S4x8192x4x128 : Shape := ⟨4, ![4, 8192, 4, 128]⟩
abbrev S1x1x512 : Shape := ⟨3, ![1, 1, 512]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x4x8192x128, .f32⟩
  | .hbm, ⟨3, _⟩ => ⟨S4x4x8192x128, .f32⟩
  | .hbm, ⟨4, _⟩ => ⟨S4x8192x512, .f32⟩
  | .hbm, ⟨5, _⟩ => ⟨S512, .f32⟩
  | .hbm, ⟨6, _⟩ => ⟨S1024x1024, .f32⟩
  | .hbm, ⟨7, _⟩ => ⟨S4x1x1024, .f32⟩
  | .hbm, ⟨8, _⟩ => ⟨S4x4x8192x128, .f32⟩
  | .hbm, ⟨9, _⟩ => ⟨S4x4x8192x128, .f32⟩
  | .hbm, ⟨10, _⟩ => ⟨S_, .f32⟩
  | .hbm, ⟨11, _⟩ => ⟨S4x4x8192, .f32⟩
  | .hbm, ⟨12, _⟩ => ⟨S4x4x8192x1, .f32⟩
  | .hbm, ⟨13, _⟩ => ⟨S_, .f32⟩
  | .hbm, ⟨14, _⟩ => ⟨S4x4x8192x1, .f32⟩
  | .hbm, ⟨15, _⟩ => ⟨S4x4x8192x1, .f32⟩
  | .hbm, ⟨16, _⟩ => ⟨S_, .f32⟩
  | .hbm, ⟨17, _⟩ => ⟨S4x4x8192x1, .f32⟩
  | .hbm, ⟨18, _⟩ => ⟨S4x4x8192x1, .f32⟩
  | .hbm, ⟨19, _⟩ => ⟨S4x4x8192x1, .f32⟩
  | .hbm, ⟨20, _⟩ => ⟨S4x4x8192x128, .f32⟩
  | .hbm, ⟨21, _⟩ => ⟨S4x4x8192x128, .f32⟩
  | .hbm, ⟨22, _⟩ => ⟨S4x8192x4x128, .f32⟩
  | .hbm, ⟨23, _⟩ => ⟨S4x8192x512, .f32⟩
  | .hbm, ⟨24, _⟩ => ⟨S1x1x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S_, .f32⟩
  | .hbm, ⟨30, _⟩ => ⟨S4x8192x512, .f32⟩
  | .hbm, ⟨31, _⟩ => ⟨S4x8192x512, .f32⟩
  | .hbm, ⟨32, _⟩ => ⟨S_, .f32⟩
  | .hbm, ⟨33, _⟩ => ⟨S4x8192x512, .f32⟩
  | .hbm, ⟨34, _⟩ => ⟨S4x8192x512, .f32⟩
  | .hbm, ⟨35, _⟩ => ⟨S4x8192x512, .f32⟩
  | .hbm, ⟨36, _⟩ => ⟨S4x8192x512, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]
-- ==== Kernel6.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 45
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x6144, .f32⟩
  | .hbm, ⟨35, _⟩ => ⟨S1024x6144, .f32⟩
  | .hbm, ⟨36, _⟩ => ⟨S8x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S8x6144, .f32⟩
  | .hbm, ⟨41, _⟩ => ⟨S8x6144, .f32⟩
  | .hbm, ⟨42, _⟩ => ⟨S1x8x6144, .f32⟩
  | .hbm, ⟨43, _⟩ => ⟨S1x8x6144, .f32⟩
  | .hbm, ⟨44, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel7.lean ====
abbrev S4x256x1024 : Shape := ⟨3, ![4, 256, 1024]⟩
abbrev S1x1024 : Shape := ⟨2, ![1, 1024]⟩
abbrev S1024 : Shape := ⟨1, ![1024]⟩
abbrev S1024x1536 : Shape := ⟨2, ![1024, 1536]⟩
abbrev S128 : Shape := ⟨1, ![128]⟩
abbrev S1x1x1024 : Shape := ⟨3, ![1, 1, 1024]⟩
abbrev S1x128 : Shape := ⟨2, ![1, 128]⟩
abbrev S4x2x256x128 : Shape := ⟨4, ![4, 2, 256, 128]⟩
abbrev S1x256x1024 : Shape := ⟨3, ![1, 256, 1024]⟩
abbrev S1x2x256x128 : Shape := ⟨4, ![1, 2, 256, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 15
  | .vmem => 12
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x1536, .f32⟩
  | .hbm, ⟨5, _⟩ => ⟨S128, .f32⟩
  | .hbm, ⟨6, _⟩ => ⟨S128, .f32⟩
  | .hbm, ⟨7, _⟩ => ⟨S1x1x1024, .f32⟩
  | .hbm, ⟨8, _⟩ => ⟨S1x1x1024, .f32⟩
  | .hbm, ⟨9, _⟩ => ⟨S1x1024, .f32⟩
  | .hbm, ⟨10, _⟩ => ⟨S1024x1536, .bf16⟩
  | .hbm, ⟨11, _⟩ => ⟨S1x128, .f32⟩
  | .hbm, ⟨12, _⟩ => ⟨S1x128, .f32⟩
  | .hbm, ⟨13, _⟩ => ⟨S4x2x256x128, .bf16⟩
  | .hbm, ⟨14, _⟩ => ⟨S4x2x256x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S1x2x256x128, .bf16⟩
  | .local _ .vmem, ⟨9, _⟩ => ⟨S1x2x256x128, .bf16⟩
  | .local _ .vmem, ⟨10, _⟩ => ⟨S1x2x256x128, .bf16⟩
  | .local _ .vmem, ⟨11, _⟩ => ⟨S1x2x256x128, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S4x256x1024 : Shape := ⟨3, ![4, 256, 1024]⟩
abbrev S1x1024 : Shape := ⟨2, ![1, 1024]⟩
abbrev S1024 : Shape := ⟨1, ![1024]⟩
abbrev S1024x1536 : Shape := ⟨2, ![1024, 1536]⟩
abbrev S128 : Shape := ⟨1, ![128]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x512 : Shape := ⟨2, ![1024, 512]⟩
abbrev S4x256x512 : Shape := ⟨3, ![4, 256, 512]⟩
abbrev S4x256x2x2x128 : Shape := ⟨5, ![4, 256, 2, 2, 128]⟩
abbrev S4x256x1x2x128 : Shape := ⟨5, ![4, 256, 1, 2, 128]⟩
abbrev S4x256x2x128 : Shape := ⟨4, ![4, 256, 2, 128]⟩
abbrev S4x256x2 : Shape := ⟨3, ![4, 256, 2]⟩
abbrev S4x256x2x1 : Shape := ⟨4, ![4, 256, 2, 1]⟩
abbrev S1x1x1x128 : Shape := ⟨4, ![1, 1, 1, 128]⟩
abbrev S4x2x256x128 : Shape := ⟨4, ![4, 2, 256, 128]⟩

abbrev nBuf : Space → Nat
  | .hbm => 59
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x1536, .f32⟩
  | .hbm, ⟨5, _⟩ => ⟨S128, .f32⟩
  | .hbm, ⟨6, _⟩ => ⟨S128, .f32⟩
  | .hbm, ⟨7, _⟩ => ⟨S4x256x1024, .f32⟩
  | .hbm, ⟨8, _⟩ => ⟨S_, .f32⟩
  | .hbm, ⟨9, _⟩ => ⟨S4x256, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x1, .f32⟩
  | .hbm, ⟨18, _⟩ => ⟨S4x256x1024, .f32⟩
  | .hbm, ⟨19, _⟩ => ⟨S4x256x1024, .f32⟩
  | .hbm, ⟨20, _⟩ => ⟨S1x1x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1x1024, .f32⟩
  | .hbm, ⟨27, _⟩ => ⟨S4x256x1024, .f32⟩
  | .hbm, ⟨28, _⟩ => ⟨S4x256x1024, .f32⟩
  | .hbm, ⟨29, _⟩ => ⟨S1x1x1024, .f32⟩
  | .hbm, ⟨30, _⟩ => ⟨S4x256x1024, .f32⟩
  | .hbm, ⟨31, _⟩ => ⟨S4x256x1024, .f32⟩
  | .hbm, ⟨32, _⟩ => ⟨S1024x512, .f32⟩
  | .hbm, ⟨33, _⟩ => ⟨S4x256x512, .f32⟩
  | .hbm, ⟨34, _⟩ => ⟨S4x256x2x2x128, .f32⟩
  | .hbm, ⟨35, _⟩ => ⟨S4x256x1x2x128, .f32⟩
  | .hbm, ⟨36, _⟩ => ⟨S4x256x2x128, .f32⟩
  | .hbm, ⟨37, _⟩ => ⟨S4x256x2x128, .f32⟩
  | .hbm, ⟨38, _⟩ => ⟨S_, .f32⟩
  | .hbm, ⟨39, _⟩ => ⟨S4x256x2, .f32⟩
  | .hbm, ⟨40, _⟩ => ⟨S4x256x2x1, .f32⟩
  | .hbm, ⟨41, _⟩ => ⟨S_, .f32⟩
  | .hbm, ⟨42, _⟩ => ⟨S4x256x2x1, .f32⟩
  | .hbm, ⟨43, _⟩ => ⟨S4x256x2x1, .f32⟩
  | .hbm, ⟨44, _⟩ => ⟨S_, .f32⟩
  | .hbm, ⟨45, _⟩ => ⟨S4x256x2x1, .f32⟩
  | .hbm, ⟨46, _⟩ => ⟨S4x256x2x1, .f32⟩
  | .hbm, ⟨47, _⟩ => ⟨S4x256x2x1, .f32⟩
  | .hbm, ⟨48, _⟩ => ⟨S4x256x2x128, .f32⟩
  | .hbm, ⟨49, _⟩ => ⟨S4x256x2x128, .f32⟩
  | .hbm, ⟨50, _⟩ => ⟨S1x1x1x128, .f32⟩
  | .hbm, ⟨51, _⟩ => ⟨S4x256x2x128, .f32⟩
  | .hbm, ⟨52, _⟩ => ⟨S4x256x2x128, .f32⟩
  | .hbm, ⟨53, _⟩ => ⟨S4x2x256x128, .f32⟩
  | .hbm, ⟨54, _⟩ => ⟨S4x256x1x2x128, .f32⟩
  | .hbm, ⟨55, _⟩ => ⟨S4x256x2x128, .f32⟩
  | .hbm, ⟨56, _⟩ => ⟨S4x2x256x128, .f32⟩
  | .hbm, ⟨57, _⟩ => ⟨S4x2x256x128, .bf16⟩
  | .hbm, ⟨58, _⟩ => ⟨S4x2x256x128, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel8.lean ====
abbrev S4x8192x1024 : Shape := ⟨3, ![4, 8192, 1024]⟩
abbrev S4x1x1024 : Shape := ⟨3, ![4, 1, 1024]⟩
abbrev S1024 : Shape := ⟨1, ![1024]⟩
abbrev S1024x2064 : Shape := ⟨2, ![1024, 2064]⟩
abbrev S2x16x256 : Shape := ⟨3, ![2, 16, 256]⟩
abbrev S2x256 : Shape := ⟨2, ![2, 256]⟩
abbrev S128x256 : Shape := ⟨2, ![128, 256]⟩
abbrev S1024x2048 : Shape := ⟨2, ![1024, 2048]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S128x512 : Shape := ⟨2, ![128, 512]⟩
abbrev S1x16x256 : Shape := ⟨3, ![1, 16, 256]⟩
abbrev S16x256 : Shape := ⟨2, ![16, 256]⟩
abbrev S16x512 : Shape := ⟨2, ![16, 512]⟩
abbrev S1x512 : Shape := ⟨2, ![1, 512]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x8192x512 : Shape := ⟨3, ![4, 8192, 512]⟩
abbrev S4x8192x256 : Shape := ⟨3, ![4, 8192, 256]⟩
abbrev S4x16x8x256 : Shape := ⟨4, ![4, 16, 8, 256]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x256 : Shape := ⟨3, ![1, 512, 256]⟩
abbrev S1x1x8x256 : Shape := ⟨4, ![1, 1, 8, 256]⟩
abbrev S1x256x1024 : Shape := ⟨3, ![1, 256, 1024]⟩
abbrev S256x1024 : Shape := ⟨2, ![256, 1024]⟩
abbrev S256x2048 : Shape := ⟨2, ![256, 2048]⟩
abbrev S256x128 : Shape := ⟨2, ![256, 128]⟩
abbrev S1x256x128 : Shape := ⟨3, ![1, 256, 128]⟩
abbrev S1x256x256 : Shape := ⟨3, ![1, 256, 256]⟩
abbrev S256x512 : Shape := ⟨2, ![256, 512]⟩
abbrev S1x256x512 : Shape := ⟨3, ![1, 256, 512]⟩
abbrev S8x256 : Shape := ⟨2, ![8, 256]⟩

abbrev nBuf : Space → Nat
  | .hbm => 73
  | .vmem => 32
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x2064, .f32⟩
  | .hbm, ⟨5, _⟩ => ⟨S2x16x256, .f32⟩
  | .hbm, ⟨6, _⟩ => ⟨S2x256, .f32⟩
  | .hbm, ⟨7, _⟩ => ⟨S128x256, .f32⟩
  | .hbm, ⟨8, _⟩ => ⟨S1024x2048, .f32⟩
  | .hbm, ⟨9, _⟩ => ⟨S1024x2048, .bf16⟩
  | .hbm, ⟨10, _⟩ => ⟨S_, .f32⟩
  | .hbm, ⟨11, _⟩ => ⟨S1024x128, .f32⟩
  | .hbm, ⟨12, _⟩ => ⟨S1024x16, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S_, .f32⟩
  | .hbm, ⟨18, _⟩ => ⟨S128x512, .f32⟩
  | .hbm, ⟨19, _⟩ => ⟨S1x16x256, .f32⟩
  | .hbm, ⟨20, _⟩ => ⟨S16x256, .f32⟩
  | .hbm, ⟨21, _⟩ => ⟨S1x16x256, .f32⟩
  | .hbm, ⟨22, _⟩ => ⟨S16x256, .f32⟩
  | .hbm, ⟨23, _⟩ => ⟨S16x512, .f32⟩
  | .hbm, ⟨24, _⟩ => ⟨S_, .i32⟩
  | .hbm, ⟨25, _⟩ => ⟨S1, .i32⟩
  | .hbm, ⟨26, _⟩ => ⟨S128x512, .f32⟩
  | .hbm, ⟨27, _⟩ => ⟨S128x512, .bf16⟩
  | .hbm, ⟨28, _⟩ => ⟨S1x512, .f32⟩
  | .hbm, ⟨29, _⟩ => ⟨S1x1024, .f32⟩
  | .hbm, ⟨30, _⟩ => ⟨S128x256, .bf16⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S1x256, .i32⟩
  | .hbm, ⟨37, _⟩ => ⟨S256x256, .i32⟩
  | .hbm, ⟨38, _⟩ => ⟨S256x256, .i32⟩
  | .hbm, ⟨39, _⟩ => ⟨S256x256, .i1⟩
  | .hbm, ⟨40, _⟩ => ⟨S256x1, .i32⟩
  | .hbm, ⟨41, _⟩ => ⟨S1x256, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S256x256, .i1⟩
  | .hbm, ⟨46, _⟩ => ⟨S_, .f32⟩
  | .hbm, ⟨47, _⟩ => ⟨S_, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256x256, .bf16⟩
  | .hbm, ⟨52, _⟩ => ⟨S256x1, .i32⟩
  | .hbm, ⟨53, _⟩ => ⟨S1x256, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S256x256, .i1⟩
  | .hbm, ⟨58, _⟩ => ⟨S_, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S256x256, .bf16⟩
  | .hbm, ⟨64, _⟩ => ⟨S4x8192x512, .bf16⟩
  | .hbm, ⟨65, _⟩ => ⟨S4x8192x512, .bf16⟩
  | .hbm, ⟨66, _⟩ => ⟨S4x8192x256, .f32⟩
  | .hbm, ⟨67, _⟩ => ⟨S4x8192x256, .f32⟩
  | .hbm, ⟨68, _⟩ => ⟨S4x8192x512, .bf16⟩
  | .hbm, ⟨69, _⟩ => ⟨S4x8192x512, .bf16⟩
  | .hbm, ⟨70, _⟩ => ⟨S4x8192x256, .f32⟩
  | .hbm, ⟨71, _⟩ => ⟨S4x8192x256, .f32⟩
  | .hbm, ⟨72, _⟩ => ⟨S4x16x8x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1024x128, .bf16⟩
  | .local _ .vmem, ⟨9, _⟩ => ⟨S128x256, .bf16⟩
  | .local _ .vmem, ⟨10, _⟩ => ⟨S128x512, .bf16⟩
  | .local _ .vmem, ⟨11, _⟩ => ⟨S1x512, .f32⟩
  | .local _ .vmem, ⟨12, _⟩ => ⟨S256x256, .bf16⟩
  | .local _ .vmem, ⟨13, _⟩ => ⟨S256x256, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x256, .f32⟩
  | .local _ .vmem, ⟨27, _⟩ => ⟨S1x512x256, .f32⟩
  | .local _ .vmem, ⟨28, _⟩ => ⟨S1x512x256, .f32⟩
  | .local _ .vmem, ⟨29, _⟩ => ⟨S1x512x256, .f32⟩
  | .local _ .vmem, ⟨30, _⟩ => ⟨S1x1x8x256, .f32⟩
  | .local _ .vmem, ⟨31, _⟩ => ⟨S1x1x8x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_cst_4 : Ref sig .tc := ⟨.hbm, 47, rfl⟩
abbrev main_call0_v0 : Ref sig .tc := ⟨.hbm, 48, rfl⟩
abbrev main_call0_v1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_cst_6 : Ref sig .tc := ⟨.hbm, 59, rfl⟩
abbrev main_call1_v0 : Ref sig .tc := ⟨.hbm, 60, rfl⟩
abbrev main_call1_v1 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev main_v43_2 : Ref sig .tc := ⟨.hbm, 66, rfl⟩
abbrev main_v43_3 : Ref sig .tc := ⟨.hbm, 67, rfl⟩
abbrev main_v43_4 : Ref sig .tc := ⟨.hbm, 68, rfl⟩
abbrev main_v43_5 : Ref sig .tc := ⟨.hbm, 69, rfl⟩
abbrev main_v43_6 : Ref sig .tc := ⟨.hbm, 70, rfl⟩
abbrev main_v43_7 : Ref sig .tc := ⟨.hbm, 71, rfl⟩
abbrev main_v43_8 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x8x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference8Ideal.lean ====
abbrev S4x8192x1024 : Shape := ⟨3, ![4, 8192, 1024]⟩
abbrev S4x1x1024 : Shape := ⟨3, ![4, 1, 1024]⟩
abbrev S1024 : Shape := ⟨1, ![1024]⟩
abbrev S1024x2064 : Shape := ⟨2, ![1024, 2064]⟩
abbrev S2x16x256 : Shape := ⟨3, ![2, 16, 256]⟩
abbrev S2x256 : Shape := ⟨2, ![2, 256]⟩
abbrev S128x256 : Shape := ⟨2, ![128, 256]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2064 : Shape := ⟨3, ![4, 8192, 2064]⟩
abbrev S4x8192x512 : Shape := ⟨3, ![4, 8192, 512]⟩
abbrev S4x8192x256 : Shape := ⟨3, ![4, 8192, 256]⟩
abbrev S4x8192x16 : Shape := ⟨3, ![4, 8192, 16]⟩
abbrev S4x8192x4x128 : Shape := ⟨4, ![4, 8192, 4, 128]⟩
abbrev S4x8192x4x256 : Shape := ⟨4, ![4, 8192, 4, 256]⟩
abbrev S1x16x256 : Shape := ⟨3, ![1, 16, 256]⟩
abbrev S16x256 : Shape := ⟨2, ![16, 256]⟩
abbrev S1x256 : Shape := ⟨2, ![1, 256]⟩
abbrev S256 : Shape := ⟨1, ![256]⟩
abbrev S1x1x256 : Shape := ⟨3, ![1, 1, 256]⟩
abbrev S4x128x64x256 : Shape := ⟨4, ![4, 128, 64, 256]⟩
abbrev S4x128x1x256 : Shape := ⟨4, ![4, 128, 1, 256]⟩
abbrev S4x128x256 : Shape := ⟨3, ![4, 128, 256]⟩
abbrev S4x16x8x256 : Shape := ⟨4, ![4, 16, 8, 256]⟩
abbrev S4x16x256 : Shape := ⟨3, ![4, 16, 256]⟩
abbrev S4x16x1x256 : Shape := ⟨4, ![4, 16, 1, 256]⟩

abbrev nBuf : Space → Nat
  | .hbm => 127
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x2064, .f32⟩
  | .hbm, ⟨5, _⟩ => ⟨S2x16x256, .f32⟩
  | .hbm, ⟨6, _⟩ => ⟨S2x256, .f32⟩
  | .hbm, ⟨7, _⟩ => ⟨S128x256, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x2064, .f32⟩
  | .hbm, ⟨32, _⟩ => ⟨S4x8192x512, .f32⟩
  | .hbm, ⟨33, _⟩ => ⟨S4x8192x256, .f32⟩
  | .hbm, ⟨34, _⟩ => ⟨S4x8192x256, .f32⟩
  | .hbm, ⟨35, _⟩ => ⟨S4x8192x512, .f32⟩
  | .hbm, ⟨36, _⟩ => ⟨S4x8192x512, .f32⟩
  | .hbm, ⟨37, _⟩ => ⟨S4x8192x16, .f32⟩
  | .hbm, ⟨38, _⟩ => ⟨S4x8192x4x128, .f32⟩
  | .hbm, ⟨39, _⟩ => ⟨S4x8192x4x256, .f32⟩
  | .hbm, ⟨40, _⟩ => ⟨S4x8192x4x128, .f32⟩
  | .hbm, ⟨41, _⟩ => ⟨S4x8192x512, .f32⟩
  | .hbm, ⟨42, _⟩ => ⟨S4x8192x4x128, .f32⟩
  | .hbm, ⟨43, _⟩ => ⟨S4x8192x512, .f32⟩
  | .hbm, ⟨44, _⟩ => ⟨S1x16x256, .f32⟩
  | .hbm, ⟨45, _⟩ => ⟨S16x256, .f32⟩
  | .hbm, ⟨46, _⟩ => ⟨S4x8192x256, .f32⟩
  | .hbm, ⟨47, _⟩ => ⟨S1x256, .f32⟩
  | .hbm, ⟨48, _⟩ => ⟨S256, .f32⟩
  | .hbm, ⟨49, _⟩ => ⟨S1x1x256, .f32⟩
  | .hbm, ⟨50, _⟩ => ⟨S4x8192x256, .f32⟩
  | .hbm, ⟨51, _⟩ => ⟨S4x8192x256, .f32⟩
  | .hbm, ⟨52, _⟩ => ⟨S4x8192x256, .f32⟩
  | .hbm, ⟨53, _⟩ => ⟨S_, .f32⟩
  | .hbm, ⟨54, _⟩ => ⟨S4x8192x256, .f32⟩
  | .hbm, ⟨55, _⟩ => ⟨S4x8192x256, .f32⟩
  | .hbm, ⟨56, _⟩ => ⟨S4x8192x256, .f32⟩
  | .hbm, ⟨57, _⟩ => ⟨S4x8192x256, .f32⟩
  | .hbm, ⟨58, _⟩ => ⟨S4x8192x256, .i1⟩
  | .hbm, ⟨59, _⟩ => ⟨S4x8192x256, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S4x8192x256, .f32⟩
  | .hbm, ⟨65, _⟩ => ⟨S4x8192x256, .f32⟩
  | .hbm, ⟨66, _⟩ => ⟨S4x8192x256, .f32⟩
  | .hbm, ⟨67, _⟩ => ⟨S4x8192x256, .f32⟩
  | .hbm, ⟨68, _⟩ => ⟨S_, .f32⟩
  | .hbm, ⟨69, _⟩ => ⟨S4x8192x256, .f32⟩
  | .hbm, ⟨70, _⟩ => ⟨S4x8192x256, .f32⟩
  | .hbm, ⟨71, _⟩ => ⟨S1x16x256, .f32⟩
  | .hbm, ⟨72, _⟩ => ⟨S16x256, .f32⟩
  | .hbm, ⟨73, _⟩ => ⟨S4x8192x256, .f32⟩
  | .hbm, ⟨74, _⟩ => ⟨S1x256, .f32⟩
  | .hbm, ⟨75, _⟩ => ⟨S256, .f32⟩
  | .hbm, ⟨76, _⟩ => ⟨S1x1x256, .f32⟩
  | .hbm, ⟨77, _⟩ => ⟨S4x8192x256, .f32⟩
  | .hbm, ⟨78, _⟩ => ⟨S4x8192x256, .f32⟩
  | .hbm, ⟨79, _⟩ => ⟨S4x8192x256, .f32⟩
  | .hbm, ⟨80, _⟩ => ⟨S_, .f32⟩
  | .hbm, ⟨81, _⟩ => ⟨S4x8192x256, .f32⟩
  | .hbm, ⟨82, _⟩ => ⟨S4x8192x256, .f32⟩
  | .hbm, ⟨83, _⟩ => ⟨S4x8192x256, .f32⟩
  | .hbm, ⟨84, _⟩ => ⟨S4x8192x256, .f32⟩
  | .hbm, ⟨85, _⟩ => ⟨S4x8192x256, .i1⟩
  | .hbm, ⟨86, _⟩ => ⟨S4x8192x256, .f32⟩
  | .hbm, ⟨87, _⟩ => ⟨S4x8192x256, .f32⟩
  | .hbm, ⟨88, _⟩ => ⟨S4x8192x256, .f32⟩
  | .hbm, ⟨89, _⟩ => ⟨S4x8192x256, .f32⟩
  | .hbm, ⟨90, _⟩ => ⟨S4x8192x256, .f32⟩
  | .hbm, ⟨91, _⟩ => ⟨S4x8192x256, .f32⟩
  | .hbm, ⟨92, _⟩ => ⟨S4x8192x256, .f32⟩
  | .hbm, ⟨93, _⟩ => ⟨S4x8192x256, .f32⟩
  | .hbm, ⟨94, _⟩ => ⟨S4x8192x256, .f32⟩
  | .hbm, ⟨95, _⟩ => ⟨S_, .f32⟩
  | .hbm, ⟨96, _⟩ => ⟨S4x8192x256, .f32⟩
  | .hbm, ⟨97, _⟩ => ⟨S4x8192x256, .f32⟩
  | .hbm, ⟨98, _⟩ => ⟨S4x128x64x256, .f32⟩
  | .hbm, ⟨99, _⟩ => ⟨S_, .f32⟩
  | .hbm, ⟨100, _⟩ => ⟨S_, .f32⟩
  | .hbm, ⟨101, _⟩ => ⟨S4x128x64x256, .f32⟩
  | .hbm, ⟨102, _⟩ => ⟨S4x128x64x256, .f32⟩
  | .hbm, ⟨103, _⟩ => ⟨S4x128x64x256, .f32⟩
  | .hbm, ⟨104, _⟩ => ⟨S_, .f32⟩
  | .hbm, ⟨105, _⟩ => ⟨S_, .f32⟩
  | .hbm, ⟨106, _⟩ => ⟨S4x128x64x256, .f32⟩
  | .hbm, ⟨107, _⟩ => ⟨S4x128x64x256, .f32⟩
  | .hbm, ⟨108, _⟩ => ⟨S4x128x1x256, .f32⟩
  | .hbm, ⟨109, _⟩ => ⟨S4x128x256, .f32⟩
  | .hbm, ⟨110, _⟩ => ⟨S4x128x1x256, .f32⟩
  | .hbm, ⟨111, _⟩ => ⟨S4x128x256, .f32⟩
  | .hbm, ⟨112, _⟩ => ⟨S4x128x256, .f32⟩
  | .hbm, ⟨113, _⟩ => ⟨S4x16x8x256, .f32⟩
  | .hbm, ⟨114, _⟩ => ⟨S_, .f32⟩
  | .hbm, ⟨115, _⟩ => ⟨S4x16x256, .f32⟩
  | .hbm, ⟨116, _⟩ => ⟨S4x16x1x256, .f32⟩
  | .hbm, ⟨117, _⟩ => ⟨S4x16x8x256, .f32⟩
  | .hbm, ⟨118, _⟩ => ⟨S4x8192x512, .bf16⟩
  | .hbm, ⟨119, _⟩ => ⟨S4x8192x512, .bf16⟩
  | .hbm, ⟨120, _⟩ => ⟨S_, .f32⟩
  | .hbm, ⟨121, _⟩ => ⟨S4x8192x256, .f32⟩
  | .hbm, ⟨122, _⟩ => ⟨S4x8192x256, .f32⟩
  | .hbm, ⟨123, _⟩ => ⟨S4x8192x512, .bf16⟩
  | .hbm, ⟨124, _⟩ => ⟨S4x8192x512, .bf16⟩
  | .hbm, ⟨125, _⟩ => ⟨S4x8192x256, .f32⟩
  | .hbm, ⟨126, _⟩ => ⟨S4x8192x256, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_call0_cst : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_call0_v2 : Ref sig .tc := ⟨.hbm, 56, rfl⟩
abbrev main_call0_call0_v3 : Ref sig .tc := ⟨.hbm, 57, rfl⟩
abbrev main_call0_call0_v4 : Ref sig .tc := ⟨.hbm, 58, rfl⟩
abbrev main_call0_call0_v5 : Ref sig .tc := ⟨.hbm, 59, rfl⟩
abbrev main_call0_call0_v6 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_v9 : Ref sig .tc := ⟨.hbm, 63, rfl⟩
abbrev main_call0_call0_v10 : Ref sig .tc := ⟨.hbm, 64, rfl⟩
abbrev main_call0_call0_v11 : Ref sig .tc := ⟨.hbm, 65, rfl⟩
abbrev main_call0_v1 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call1_v0 : Ref sig .tc := ⟨.hbm, 79, rfl⟩
abbrev main_call1_call0_cst : Ref sig .tc := ⟨.hbm, 80, rfl⟩
abbrev main_call1_call0_v0 : Ref sig .tc := ⟨.hbm, 81, rfl⟩
abbrev main_call1_call0_v1 : Ref sig .tc := ⟨.hbm, 82, rfl⟩
abbrev main_call1_call0_v2 : Ref sig .tc := ⟨.hbm, 83, rfl⟩
abbrev main_call1_call0_v3 : Ref sig .tc := ⟨.hbm, 84, rfl⟩
abbrev main_call1_call0_v4 : Ref sig .tc := ⟨.hbm, 85, rfl⟩
abbrev main_call1_call0_v5 : Ref sig .tc := ⟨.hbm, 86, rfl⟩
abbrev main_call1_call0_v6 : Ref sig .tc := ⟨.hbm, 87, rfl⟩
abbrev main_call1_call0_v7 : Ref sig .tc := ⟨.hbm, 88, rfl⟩
abbrev main_call1_call0_v8 : Ref sig .tc := ⟨.hbm, 89, rfl⟩
abbrev main_call1_call0_v9 : Ref sig .tc := ⟨.hbm, 90, rfl⟩
abbrev main_call1_call0_v10 : Ref sig .tc := ⟨.hbm, 91, rfl⟩
abbrev main_call1_call0_v11 : Ref sig .tc := ⟨.hbm, 92, rfl⟩
abbrev main_call1_v1 : Ref sig .tc := ⟨.hbm, 93, rfl⟩
abbrev main_v51 : Ref sig .tc := ⟨.hbm, 94, rfl⟩
abbrev main_cst_4 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call2_call0_cst : Ref sig .tc := ⟨.hbm, 99, rfl⟩
abbrev main_call2_call0_v0 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_call4_call0_cst : Ref sig .tc := ⟨.hbm, 104, rfl⟩
abbrev main_call4_call0_v0 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_5 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_6 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩

abbrev nD : Nat := 1
abbrev τ : Topo := Topo.v7x

variable {F : FTy → Type} [FloatOps F]
-- ==== Proof.AttRead.lean ====
/- What one grid point of the attention kernel stores, in the kernel's own vector operations: per query head the eleven key tiles'
   weights added into the normaliser, the weighted values added into the accumulator, and their quotient. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem

/-- The block of head `g` inside the four query heads' block. -/
theorem qInb {g : ℕ} (hg : g < 4) : ∀ a, (![0, g, 0, 0] : Fin 4 → ℕ) a + S1x1x512x128.size a ≤ S1x4x512x128.size a := fun a => by
  match a with
  | 0 => show 0 + 1 ≤ 1; omega
  | 1 => show g + 1 ≤ 4; omega
  | 2 => show 0 + 512 ≤ 512; omega
  | 3 => show 0 + 128 ≤ 128; omega

/-- Key tile `j` inside the keys' block. -/
theorem kInb {j : ℕ} (hj : j < 11) : ∀ a, (![0, 0, 768 * j, 0] : Fin 4 → ℕ) a + S1x1x768x128.size a ≤ S1x1x8448x128.size a := fun a => by
  match a with
  | 0 => show 0 + 1 ≤ 1; omega
  | 1 => show 0 + 1 ≤ 1; omega
  | 2 => show 768 * j + 768 ≤ 8448; omega
  | 3 => show 0 + 128 ≤ 128; omega

/-- Query head `g` of the block. -/
def qHead (x0 : FVec Ideal S1x4x512x128 .f32) (g : ℕ) (hg : g < 4) : FVec Ideal S1x1x512x128 .f32 :=
  View.ld (Val := Elt Ideal) (e' := .f32) x0 (Rect.unit (s := S1x4x512x128) ![0, g, 0, 0] S1x1x512x128.size (qInb hg))

/-- Tile `j` of the keys (or of the values). -/
def kTile (x1 : FVec Ideal S1x1x8448x128 .bf16) (j : ℕ) (hj : j < 11) : FVec Ideal S1x1x768x128 .bf16 :=
  View.ld (Val := Elt Ideal) (e' := .bf16) x1 (Rect.unit (s := S1x1x8448x128) ![0, 0, 768 * j, 0] S1x1x768x128.size (kInb hj))

/-- The weights of one tile: two to the scaled query times the keys. -/
def pTile (q : FVec Ideal S1x1x512x128 .f32) (k : FVec Ideal S1x1x768x128 .bf16) : FVec Ideal S512x768 .f32 :=
  k0_pay10 (F := Ideal) q k

/-- The normaliser's lanes after one more tile. -/
def lStep (q : FVec Ideal S1x1x512x128 .f32) (k : FVec Ideal S1x1x768x128 .bf16) (l : FVec Ideal S512x128 .f32) : FVec Ideal S512x128 .f32 :=
  k0_pay12 (F := Ideal) q k l

/-- The accumulator after one more tile. -/
def aStep (q : FVec Ideal S1x1x512x128 .f32) (k v : FVec Ideal S1x1x768x128 .bf16) (a : FVec Ideal S512x128 .f32) : FVec Ideal S512x128 .f32 :=
  k0_pay18 (F := Ideal) (k0_pay17 (F := Ideal) (k0_pay11 (F := Ideal) q k) v a)

/-- The zeros both start from. -/
def zeros : FVec Ideal S512x128 .f32 :=
  k0_pay2 (F := Ideal)

/-- The normaliser's lanes after `n` tiles. -/
def lAt (q : FVec Ideal S1x1x512x128 .f32) (x1 : FVec Ideal S1x1x8448x128 .bf16) : (n : ℕ) → n ≤ 11 → FVec Ideal S512x128 .f32
  | 0, _ => zeros
  | n + 1, h => lStep q (kTile x1 n h) (lAt q x1 n (Nat.le_of_succ_le h))

/-- The accumulator after `n` tiles. -/
def aAt (q : FVec Ideal S1x1x512x128 .f32) (x1 x2 : FVec Ideal S1x1x8448x128 .bf16) : (n : ℕ) → n ≤ 11 → FVec Ideal S512x128 .f32
  | 0, _ => zeros
  | n + 1, h => aStep q (kTile x1 n h) (kTile x2 n h) (aAt q x1 x2 n (Nat.le_of_succ_le h))

/-- What is stored of one head: the accumulator over the normaliser's sum of lanes. -/
def headOut (x0 : FVec Ideal S1x4x512x128 .f32) (x1 x2 : FVec Ideal S1x1x8448x128 .bf16) (g : ℕ) (hg : g < 4) : FVec Ideal S1x512x128 .bf16 :=
  k0_pay238 (F := Ideal) (aAt (qHead x0 g hg) x1 x2 11 le_rfl) (lAt (qHead x0 g hg) x1 11 le_rfl)

/-- One more tile of the normaliser. -/
theorem lAt_succ (q : FVec Ideal S1x1x512x128 .f32) (x1 : FVec Ideal S1x1x8448x128 .bf16) (n : ℕ) (h : n + 1 ≤ 11) :
    lAt q x1 (n + 1) h = lStep q (kTile x1 n h) (lAt q x1 n (Nat.le_of_succ_le h)) := rfl

/-- One more tile of the accumulator. -/
theorem aAt_succ (q : FVec Ideal S1x1x512x128 .f32) (x1 x2 : FVec Ideal S1x1x8448x128 .bf16) (n : ℕ) (h : n + 1 ≤ 11) :
    aAt q x1 x2 (n + 1) h = aStep q (kTile x1 n h) (kTile x2 n h) (aAt q x1 x2 n (Nat.le_of_succ_le h)) := rfl

set_option maxHeartbeats 2000000 in
/-- THE POINT, READ BACK: the four heads' pieces, side by side in the output block. -/
theorem out_eq (c : Dev nD) (i : grid0.Coords) (arg3 : Memref sig .tc .vmem S1x4x512x128 .f32) (harg3 : arg3.IsWhole) (arg4 : Memref sig .tc .vmem S1x1x8448x128 .bf16) (harg4 : arg4.IsWhole) (arg5 : Memref sig .tc .vmem S1x1x8448x128 .bf16) (harg5 : arg5.IsWhole) (arg6 : Memref sig .tc .vmem S1x512x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x768 .bf16) (harg15 : arg15.IsWhole) (arg16 : Memref sig .tc .vmem S512x768 .bf16) (harg16 : arg16.IsWhole)     (x0 : Vec Ideal S1x4x512x128 .f32) (x1 : Vec Ideal S1x1x8448x128 .bf16) (x2 : Vec Ideal S1x1x8448x128 .bf16)  :
    out0_A_3 c i arg3 harg3 arg4 harg4 arg5 harg5 arg6 harg6 arg7 harg7 arg8 harg8 arg9 harg9 arg10 harg10 arg11 harg11 arg12 harg12 arg13 harg13 arg14 harg14 arg15 harg15 arg16 harg16 x0 x1 x2
      = View.canon (Val := Elt Ideal) (s := S1x512x512) (e := .bf16)
        [⟨Rect.unit (s := S1x512x512) ![0, 0, 384] S1x512x128.size inb_S1x512x512_S1x512x128_0_0_384, headOut x0 x1 x2 3 (by omega)⟩,
          ⟨Rect.unit (s := S1x512x512) ![0, 0, 256] S1x512x128.size inb_S1x512x512_S1x512x128_0_0_256, headOut x0 x1 x2 2 (by omega)⟩,
          ⟨Rect.unit (s := S1x512x512) ![0, 0, 128] S1x512x128.size inb_S1x512x512_S1x512x128_0_0_128, headOut x0 x1 x2 1 (by omega)⟩,
          ⟨Rect.unit (s := S1x512x512) ![0, 0, 0] S1x512x128.size inb_S1x512x512_S1x512x128_0_0_0, headOut x0 x1 x2 0 (by omega)⟩] := by
  unfold out0_A_3
  rw [View.read_writes_junk_eq_canon]
  refine congrArg View.canon ?_
  frame_open
  simp (disch := decide) only [↓ View.readCov_cons_unit_lit', ↓ View.readCov_unit_lit', ↓ View.readCov_cons_toLoadRect, View.readAt_eq_ld,
    Memref.IsWhole.read_unread]
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))
  all_goals rfl

end Cert.KernelIdeal.Value

end
-- ==== Proof.AttMath.lean ====
/- One row of softmax attention over the extended reals: the quotient of the two sums that the kernel accumulates, in base 2 and with
   nothing subtracted, is the reference's sum of normalised exponentials with the row's greatest score subtracted. -/
module

public import Idealize.ShloMosaic.PureOps.Ideal

@[expose] public section

noncomputable section

namespace Cert.Att

open Idealize.ShloMosaic

/-- A finite nonnegative factor goes into a finite sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many real scores, taken from `-∞`, is real as soon as there is one. -/
theorem fold_max_real {ι : Type} (s : Finset ι) (hs : s.Nonempty) (f : ι → ℝ) :
    ∃ M : ℝ, s.fold max (⊥ : EReal) (fun i => (f i : EReal)) = (M : EReal) := by
  classical
  have h : ∀ t : Finset ι, t.fold max (⊥ : EReal) (fun i => (f i : EReal)) = ⊥ ∧ t = ∅
      ∨ ∃ M : ℝ, t.fold max (⊥ : EReal) (fun i => (f i : EReal)) = (M : EReal) := by
    intro t
    induction t using Finset.induction_on with
    | empty => exact .inl ⟨by simp, rfl⟩
    | insert a t ha ih =>
      right
      rw [Finset.fold_insert ha]
      rcases ih with ⟨h, -⟩ | ⟨M, h⟩
      · exact ⟨f a, by rw [h]; simp⟩
      · exact ⟨max (f a) M, by rw [h]; exact (EReal.coe_strictMono.monotone.map_max).symm⟩
  rcases h s with ⟨-, h0⟩ | h
  · exact absurd h0 hs.ne_empty
  · exact h

/-- Two to the score over the natural logarithm of 2 is the exponential of the score. -/
theorem exp2_scaled (c x : ℝ) : Real.rpow 2 (c * (Real.log 2)⁻¹ * x) = Real.exp (x * c) := by
  have h2 : Real.log 2 ≠ 0 := (Real.log_pos (by norm_num)).ne'
  show (2 : ℝ) ^ (c * (Real.log 2)⁻¹ * x) = _
  rw [Real.rpow_def_of_pos (by norm_num)]
  congr 1
  field_simp

/-- THE ROW. The base-2 weights with the scale over `log 2` folded into the query, summed with the values and divided by
    their sum, are the softmax weights (any real `M` subtracted) summed with the values: the values may be infinite. -/
theorem row {K D : Type} [Fintype K] [Nonempty K] [Fintype D] (q : D → ℝ) (k : K → D → ℝ) (v : K → EReal) (c M : ℝ) :
    Ideal.div (∑ i, Ideal.exp2 (∑ d, ((q d : EReal) * ((c * (Real.log 2)⁻¹ : ℝ) : EReal)) * (k i d : EReal)) * v i)
        (∑ i, Ideal.exp2 (∑ d, ((q d : EReal) * ((c * (Real.log 2)⁻¹ : ℝ) : EReal)) * (k i d : EReal)))
      = ∑ i, Ideal.div (Ideal.exp ((∑ d, (q d : EReal) * (k i d : EReal)) * (c : EReal) - (M : EReal)))
          (∑ j, Ideal.exp ((∑ d, (q d : EReal) * (k j d : EReal)) * (c : EReal) - (M : EReal))) * v i := by
  have hs : ∀ i, (∑ d, (q d : EReal) * (k i d : EReal)) = ((∑ d, q d * k i d : ℝ) : EReal) := fun i => by
    rw [coe_sum]; exact Finset.sum_congr rfl fun d _ => (EReal.coe_mul _ _).symm
  have hk : ∀ i, (∑ d, ((q d : EReal) * ((c * (Real.log 2)⁻¹ : ℝ) : EReal)) * (k i d : EReal))
      = ((c * (Real.log 2)⁻¹ * ∑ d, q d * k i d : ℝ) : EReal) := fun i => by
    rw [Finset.mul_sum, coe_sum]
    refine Finset.sum_congr rfl fun d _ => ?_
    rw [← EReal.coe_mul, ← EReal.coe_mul]
    congr 1; ring
  have he : ∀ i, Ideal.exp2 (∑ d, ((q d : EReal) * ((c * (Real.log 2)⁻¹ : ℝ) : EReal)) * (k i d : EReal))
      = ((Real.exp ((∑ d, q d * k i d) * c) : ℝ) : EReal) := fun i => by
    rw [hk, Ideal.exp2_coe, exp2_scaled]
  have hr : ∀ i, Ideal.exp ((∑ d, (q d : EReal) * (k i d : EReal)) * (c : EReal) - (M : EReal))
      = ((Real.exp ((∑ d, q d * k i d) * c) * Real.exp (-M) : ℝ) : EReal) := fun i => by
    rw [hs, ← EReal.coe_mul, ← EReal.coe_sub, Ideal.exp_coe, ← Real.exp_add, sub_eq_add_neg]
  simp only [he, hr]
  rw [← coe_sum, ← coe_sum]
  set L : ℝ := ∑ i, Real.exp ((∑ d, q d * k i d) * c) with hL
  have hLpos : 0 < L := Finset.sum_pos (fun i _ => Real.exp_pos _) Finset.univ_nonempty
  have hL' : (∑ i, Real.exp ((∑ d, q d * k i d) * c) * Real.exp (-M)) = L * Real.exp (-M) := by rw [hL, Finset.sum_mul]
  rw [hL', Ideal.div_coe hLpos.ne', sum_mul_coe _ _ _ (by positivity)]
  refine Finset.sum_congr rfl fun i _ => ?_
  rw [Ideal.div_coe (mul_pos hLpos (Real.exp_pos _)).ne', ← EReal.coe_mul, mul_right_comm, ← EReal.coe_mul]
  congr 2
  have := (Real.exp_pos (-M)).ne'
  field_simp

/-- A sum over `A * B` numbers, tile by tile. -/
theorem sum_tile {M : Type} [AddCommMonoid M] (A B : ℕ) (g : ℕ → M) :
    ∑ i : Fin (A * B), g i = ∑ a : Fin A, ∑ b : Fin B, g (B * a + b) := by
  rw [← Fintype.sum_prod_type', ← finProdFinEquiv.sum_comp]
  refine Finset.sum_congr rfl fun p _ => ?_
  rw [finProdFinEquiv_apply_val, add_comm]

/-- A sum over 8448 keys: 11 tiles of 768 keys. -/
theorem sum_tiles {M : Type} [AddCommMonoid M] (f : ℕ → M) :
    ∑ i : Fin 8448, f i = ∑ j : Fin 11, ∑ b : Fin 768, f (768 * j + b) :=
  sum_tile 11 768 f

/-- The same sum lane by lane: 11 tiles of 6 groups of 128 lanes. -/
theorem sum_keys {M : Type} [AddCommMonoid M] (f : ℕ → M) :
    ∑ i : Fin 8448, f i = ∑ l : Fin 128, ∑ j : Fin 11, ∑ t : Fin 6, f (768 * j + (128 * t + l)) := by
  rw [sum_tiles, Finset.sum_comm]
  refine Eq.trans (Finset.sum_comm) ?_
  refine Eq.trans (Finset.sum_congr rfl fun j _ => (sum_tile 6 128 fun b => f (768 * j + b)).trans Finset.sum_comm) ?_
  exact Finset.sum_comm

end Cert.Att

end
-- ==== Proof.AttPoint.lean ====
/- The attention kernel's point at an index: the normaliser and the accumulator after eleven tiles are sums over all 8448 keys. -/
module

public import proofs.«01_k».proof.Proof.AttRead
public import proofs.«01_k».proof.Proof.AttMath
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

/-- One weight: two to the sum over the head's 128 coordinates of scaled query times key. -/
def wt (q : FVec Ideal S1x1x512x128 .f32) (k : FVec Ideal S1x1x768x128 .bf16) (r : Fin 512) (i : Fin 768) : EReal :=
  Ideal.exp2 (∑ d : Fin 128, (q (ix4 0 0 r d) * (((11863283 / 134217728) * (Real.log 2)⁻¹ : ℝ) : EReal)) * k (ix4 0 0 i d))

/-- The scale's name stands for its real number. -/
theorem q_scale_named : Named.named (F := Ideal) (φ := .f32) κ "q_scale" 0x3E0293EE#32
    = (((11863283 / 134217728) * (Real.log 2)⁻¹ : ℝ) : EReal) :=
  IdealRules.named_const.ideal_named_scalar _ _ _ _ rfl

/-- The tile's weights, at an index. -/
theorem pTile_at (q : FVec Ideal S1x1x512x128 .f32) (k : FVec Ideal S1x1x768x128 .bf16) (r : Fin 512) (i : Fin 768) :
    k0_pay10 (F := Ideal) q k (ix2 r i) = wt q k r i := by
  pointwise [k0_pay10, wt]
  rw [q_scale_named]
  rfl

/-- One more tile of the normaliser, at an index: the lane's six keys. -/
theorem lStep_at (q : FVec Ideal S1x1x512x128 .f32) (k : FVec Ideal S1x1x768x128 .bf16) (l : FVec Ideal S512x128 .f32) (r : Fin 512) (u : Fin 128) :
    lStep q k l (ix2 r u) = l (ix2 r u) + ∑ t : Fin 6, wt q k r ⟨128 * t + u, by omega⟩ := by
  show k0_pay12 (F := Ideal) q k l (ix2 r u) = _
  pointwise [k0_pay12]
  simp only [pTile_at]
  rw [Fin.sum_univ_six]
  simp [Fin.ext_iff]

/-- One more tile of the accumulator, at an index: the weighted values of the tile's 768 keys. -/
theorem aStep_at (q : FVec Ideal S1x1x512x128 .f32) (k v : FVec Ideal S1x1x768x128 .bf16) (a : FVec Ideal S512x128 .f32) (r : Fin 512) (d : Fin 128) :
    aStep q k v a (ix2 r d) = a (ix2 r d) + ∑ i : Fin 768, wt q k r i * v (ix4 0 0 i d) := by
  pointwise [aStep, k0_pay18, k0_pay17, k0_pay11]
  simp only [pTile_at]

/-- The zeros, at an index. -/
theorem zeros_at (r : Fin 512) (d : Fin 128) : zeros (ix2 r d) = 0 := by
  pointwise [zeros, k0_pay2]

/-- What is stored of one head, at an index. -/
theorem headOut_at (x0 : FVec Ideal S1x4x512x128 .f32) (x1 x2 : FVec Ideal S1x1x8448x128 .bf16) (g : ℕ) (hg : g < 4) (r : Fin 512) (d : Fin 128) :
    headOut x0 x1 x2 g hg (ix3 0 r d) = Ideal.div (aAt (qHead x0 g hg) x1 x2 11 le_rfl (ix2 r d)) (∑ u : Fin 128, lAt (qHead x0 g hg) x1 11 le_rfl (ix2 r u)) := by
  pointwise [headOut, k0_pay238]

/-- The head's queries are the block's. -/
theorem qHead_at (x0 : FVec Ideal S1x4x512x128 .f32) (g : ℕ) (hg : g < 4) (r : Fin 512) (d : Fin 128) :
    qHead x0 g hg (ix4 0 0 r d) = x0 (ix4 0 ⟨g, hg⟩ r d) := by
  pointwise [qHead]

/-- The tile's keys are the block's. -/
theorem kTile_at (x1 : FVec Ideal S1x1x8448x128 .bf16) (j : ℕ) (hj : j < 11) (i : Fin 768) (d : Fin 128) :
    kTile x1 j hj (ix4 0 0 i d) = x1 (ix4 0 0 ⟨768 * j + i, by omega⟩ d) := by
  pointwise [kTile]

/-- The weight of key number `i` of the whole block. -/
def kw (q : FVec Ideal S1x1x512x128 .f32) (x1 : FVec Ideal S1x1x8448x128 .bf16) (r : Fin 512) (i : ℕ) : EReal :=
  if h : i < 8448 then
    Ideal.exp2 (∑ d : Fin 128, (q (ix4 0 0 r d) * (((11863283 / 134217728) * (Real.log 2)⁻¹ : ℝ) : EReal)) * x1 (ix4 0 0 ⟨i, h⟩ d))
  else 0

/-- The value of key number `i` of the whole block at coordinate `d`. -/
def kv (x2 : FVec Ideal S1x1x8448x128 .bf16) (d : Fin 128) (i : ℕ) : EReal :=
  if h : i < 8448 then x2 (ix4 0 0 ⟨i, h⟩ d) else 0

/-- A tile's weight is the block's. -/
theorem wt_tile (q : FVec Ideal S1x1x512x128 .f32) (x1 : FVec Ideal S1x1x8448x128 .bf16) (r : Fin 512) (j : ℕ) (hj : j < 11) (i : Fin 768) :
    wt q (kTile x1 j hj) r i = kw q x1 r (768 * j + i) := by
  have h : 768 * j + (i : ℕ) < 8448 := by omega
  rw [kw, dif_pos h, wt]
  simp only [kTile_at]

/-- The normaliser's lane after `n` tiles: the sum over the lane's keys. -/
theorem lAt_eq (q : FVec Ideal S1x1x512x128 .f32) (x1 : FVec Ideal S1x1x8448x128 .bf16) (r : Fin 512) (u : Fin 128) :
    ∀ (n : ℕ) (h : n ≤ 11), lAt q x1 n h (ix2 r u) = ∑ j : Fin n, ∑ t : Fin 6, kw q x1 r (768 * j + (128 * t + u))
  | 0, _ => by rw [Fin.sum_univ_zero]; exact zeros_at r u
  | n + 1, h => by
    rw [lAt_succ, lStep_at, lAt_eq q x1 r u n, Fin.sum_univ_castSucc (n := n)]
    simp only [wt_tile, Fin.val_castSucc, Fin.val_last]

/-- The accumulator after `n` tiles: the weighted values of the tiles' keys. -/
theorem aAt_eq (q : FVec Ideal S1x1x512x128 .f32) (x1 x2 : FVec Ideal S1x1x8448x128 .bf16) (r : Fin 512) (d : Fin 128) :
    ∀ (n : ℕ) (h : n ≤ 11), aAt q x1 x2 n h (ix2 r d) = ∑ j : Fin n, ∑ i : Fin 768, kw q x1 r (768 * j + i) * kv x2 d (768 * j + i)
  | 0, _ => by rw [Fin.sum_univ_zero]; exact zeros_at r d
  | n + 1, h => by
    rw [aAt_succ, aStep_at, aAt_eq q x1 x2 r d n, Fin.sum_univ_castSucc (n := n)]
    simp only [wt_tile, Fin.val_castSucc, Fin.val_last]
    congr 1
    refine Finset.sum_congr rfl fun i _ => ?_
    have hi : 768 * n + (i : ℕ) < 8448 := by omega
    rw [kv, dif_pos hi, kTile_at]

/-- THE POINT AT AN INDEX: head `g`'s output is the quotient of the weighted values' sum by the weights' sum, over all 8448 keys. -/
theorem head_row (x0 : FVec Ideal S1x4x512x128 .f32) (x1 x2 : FVec Ideal S1x1x8448x128 .bf16) (g : ℕ) (hg : g < 4) (r : Fin 512) (d : Fin 128) :
    headOut x0 x1 x2 g hg (ix3 0 r d)
      = Ideal.div
          (∑ i : Fin 8448, Ideal.exp2 (∑ e : Fin 128, (x0 (ix4 0 ⟨g, hg⟩ r e) * (((11863283 / 134217728) * (Real.log 2)⁻¹ : ℝ) : EReal))
            * x1 (ix4 0 0 i e)) * x2 (ix4 0 0 i d))
          (∑ i : Fin 8448, Ideal.exp2 (∑ e : Fin 128, (x0 (ix4 0 ⟨g, hg⟩ r e) * (((11863283 / 134217728) * (Real.log 2)⁻¹ : ℝ) : EReal))
            * x1 (ix4 0 0 i e))) := by
  rw [headOut_at]
  simp only [lAt_eq, aAt_eq]
  rw [← Att.sum_keys fun i => kw (qHead x0 g hg) x1 r i, ← Att.sum_tiles fun i => kw (qHead x0 g hg) x1 r i * kv x2 d i]
  simp only [kw, kv, Fin.is_lt, dite_true, qHead_at, Fin.eta]

end Cert.KernelIdeal.Value

end
-- ==== Proof.AttArray.lean ====
/- The attention kernel's result array, entry by entry. -/
module

public import proofs.«01_k».proof.Proof.AttPoint
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The kernel's attention over its three staged arrays, at batch `b`, key head `kh`, query head `h`, query `s`, coordinate `d`. -/
def attRow (q : FVec Ideal S4x8x8192x128 .f32) (k v : FVec Ideal S4x2x8448x128 .bf16) (b : Fin 4) (kh : Fin 2) (h : Fin 8) (s : Fin 8192) (d : Fin 128) : EReal :=
  Ideal.div
    (∑ i : Fin 8448, Ideal.exp2 (∑ e : Fin 128, (q (ix4 b h s e) * (((11863283 / 134217728) * (Real.log 2)⁻¹ : ℝ) : EReal))
      * k (ix4 b kh i e)) * v (ix4 b kh i d))
    (∑ i : Fin 8448, Ideal.exp2 (∑ e : Fin 128, (q (ix4 b h s e) * (((11863283 / 134217728) * (Real.log 2)⁻¹ : ℝ) : EReal))
      * k (ix4 b kh i e)))

/-- The same as an array: column `512 kh + 128 g + d` is coordinate `d` of query head `4 kh + g`. -/
def attArr (q : FVec Ideal S4x8x8192x128 .f32) (k v : FVec Ideal S4x2x8448x128 .bf16) : FVec Ideal S4x8192x1024 .bf16 := fun j =>
  attRow q k v (j 0) ⟨(j 2 : ℕ) / 512, by have : (j 2 : ℕ) < 1024 := (j 2).isLt; omega⟩
    ⟨(j 2 : ℕ) / 128, by have : (j 2 : ℕ) < 1024 := (j 2).isLt; omega⟩ (j 1) ⟨(j 2 : ℕ) % 128, by omega⟩

/-- Every window's block index, in the grid point's number. -/
theorem idx : ∀ t : Fin cfg0.N, win0_0.index t = ![t.val / 32, t.val / 16 % 2, t.val % 16, 0] ∧ win0_1.index t = ![t.val / 32, t.val / 16 % 2, 0, 0]
    ∧ win0_2.index t = ![t.val / 32, t.val / 16 % 2, 0, 0] ∧ win0_3.index t = ![t.val / 32, t.val % 16, t.val / 16 % 2] :=
  (by decide +kernel : ∀ t : Fin grid0.N, _)

/-- One head's stored piece is the attention array at the place where the piece lies. -/
theorem core (c : Dev nD) (t : Fin cfg0.N) (g : ℕ) (hg : g < 4) (x : S1x512x128.Idx) (j : S4x8192x1024.Idx)
    (hj0 : (j 0 : ℕ) = t.val / 32) (hj1 : (j 1 : ℕ) = t.val % 16 * 512 + x 1) (hj2 : (j 2 : ℕ) = t.val / 16 % 2 * 512 + (128 * g + x 2)) :
    headOut (iblk m c 0 t) (iblk m c 1 t) (iblk m c 2 t) g hg x
      = attArr (m ((c : Thread nD τ).loc main_arg0)) (V m c main_v2) (V m c main_v5) j := by
  have x1 : (x 1 : ℕ) < 512 := (x 1).isLt
  have x2 : (x 2 : ℕ) < 128 := (x 2).isLt
  have hx : x = ix3 0 (x 1) (x 2) := by
    refine funext fun a => ?_
    match a with
    | 0 => exact Subsingleton.elim (α := Fin 1) _ _
    | 1 => rfl
    | 2 => rfl
  have hq : ∀ e : Fin 128, (iblk m c 0 t : FVec Ideal S1x4x512x128 .f32) (ix4 0 ⟨g, hg⟩ (x 1) e)
      = (m ((c : Thread nD τ).loc main_arg0) : FVec Ideal S4x8x8192x128 .f32) (ix4 (j 0) ⟨(j 2 : ℕ) / 128, by have : (j 2 : ℕ) < 1024 := (j 2).isLt; omega⟩ (j 1) e) := fun e => by
    have h4 : (j 2 : ℕ) / 128 = t.val / 16 % 2 * 4 + g := by omega
    blk_ext [iblk, V, idx t]
  have hk : ∀ (i : Fin 8448) (e : Fin 128), (iblk m c 1 t : FVec Ideal S1x1x8448x128 .bf16) (ix4 0 0 i e)
      = (V m c main_v2 : FVec Ideal S4x2x8448x128 .bf16) (ix4 (j 0) ⟨(j 2 : ℕ) / 512, by have : (j 2 : ℕ) < 1024 := (j 2).isLt; omega⟩ i e) := fun i e => by
    have h4 : (j 2 : ℕ) / 512 = t.val / 16 % 2 := by omega
    blk_ext [iblk, idx t]
  have hv : ∀ (i : Fin 8448), (iblk m c 2 t : FVec Ideal S1x1x8448x128 .bf16) (ix4 0 0 i (x 2))
      = (V m c main_v5 : FVec Ideal S4x2x8448x128 .bf16) (ix4 (j 0) ⟨(j 2 : ℕ) / 512, by have : (j 2 : ℕ) < 1024 := (j 2).isLt; omega⟩ i ⟨(j 2 : ℕ) % 128, by omega⟩) := fun i => by
    have h4 : (j 2 : ℕ) / 512 = t.val / 16 % 2 := by omega
    have h5 : (j 2 : ℕ) % 128 = x 2 := by omega
    blk_ext [iblk, idx t]
  rw [hx]
  refine (head_row _ _ _ g hg (x 1) (x 2)).trans ?_
  unfold attArr attRow
  simp only [hq, hk, hv]

/-- The result array after the run is the attention of the staged arrays. -/
theorem final (c : Dev nD) : (dats m 0 c).arrAt 3 (cfgs 0).N
    = attArr (m ((c : Thread nD τ).loc main_arg0)) (V m c main_v2) (V m c main_v5) := by
  refine (dats m 0 c).arrAt_eq_of_covers 3 _ (by decide +kernel) fun t _ y => ?_
  blk_simp
  rw [after0_3]
  unfold outsAt0
  rw [out_eq]
  canon_tiles x h
  all_goals (refine core m c t _ _ x _ ?_ ?_ ?_ <;> blk_simp [idx t] <;> omega)

end Cert.KernelIdeal.Value

end
-- ==== Proof.AttRef.lean ====
/-
The reference's attention, read at one index: the scores, their maximum along the keys, the weights and the result.
-/
module

public import proofs.«01_k».proof.Proof.Gen.ReferenceIdeal.Run
public import proofs.«01_k».proof.Proof.AttMath
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The scaled scores of the queries `q` against the keys `k`. -/
def score (q : FVec Ideal S4x8x8192x128 .f32) (k : FVec Ideal S4x2x8448x128 .f32) : FVec Ideal S4x2x4x8192x8448 .f32 :=
  mulf (Host.dotGeneral dot_S4x2x4x8192x128_S4x2x8448x128_S4x2x4x8192x8448_4_3_23_2_01_01 none (shapeCast _ q shapeCasts_S4x8x8192x128_S4x2x4x8192x128) k) (broadcastInDim S4x2x4x8192x8448 ![] bcast_S_S4x2x4x8192x8448 (constant S_ .f32 0x3DB504F3#32))

/-- The largest score of each query. -/
def top (s : FVec Ideal S4x2x4x8192x8448 .f32) : FVec Ideal S4x2x4x8192 .f32 :=
  maximumf (broadcastInDim S4x2x4x8192 ![] bcast_S_S4x2x4x8192 (constant S_ .f32 0xFF800000#32)) (Host.reduce FloatOps.maximumf s (constant S_ .f32 0xFF800000#32) reducesTo_S4x2x4x8192x8448_S4x2x4x8192_d4 h_S_)

/-- An entry per query, repeated along the keys. -/
def along (x : FVec Ideal S4x2x4x8192 .f32) : FVec Ideal S4x2x4x8192x8448 .f32 :=
  broadcastInDim S4x2x4x8192x8448 ![0, 1, 2, 3, 4] bcast_S4x2x4x8192x1_S4x2x4x8192x8448_0_1_2_3_4 (broadcastInDim S4x2x4x8192x1 ![0, 1, 2, 3] bcast_S4x2x4x8192_S4x2x4x8192x1_0_1_2_3 x)

/-- The exponentials of the scores, less each query's largest one. -/
def expo (s : FVec Ideal S4x2x4x8192x8448 .f32) : FVec Ideal S4x2x4x8192x8448 .f32 :=
  Host.exp (subf s (along (top s)))

/-- The softmax of the scores along the keys. -/
def soft (s : FVec Ideal S4x2x4x8192x8448 .f32) : FVec Ideal S4x2x4x8192x8448 .f32 :=
  Host.divf (expo s) (along (Host.reduceAdd (expo s) (constant S_ .f32 0x00000000#32) reducesTo_S4x2x4x8192x8448_S4x2x4x8192_d4 h_S_))

/-- The reference's result of queries, keys and values. -/
def attn (q : FVec Ideal S4x8x8192x128 .f32) (k v : FVec Ideal S4x2x8448x128 .f32) : FVec Ideal S4x8192x1024 .bf16 :=
  truncf .bf16 (shapeCast _ (transpose S4x8192x2x4x128 [0, 3, 1, 2, 4] (Host.dotGeneral dot_S4x2x4x8192x8448_S4x2x8448x128_S4x2x4x8192x128_4_2_23_3_01_01 none (soft (score q k)) v) transposes_S4x2x4x8192x128_S4x8192x2x4x128_0_3_1_2_4) shapeCasts_S4x8192x2x4x128_S4x8192x1024) bitsLt_bf16_f32

/-- The scale constant is `11863283 / 134217728`. -/
theorem ofBits_scale : Ideal.ofBits .f32 0x3DB504F3#32 = ((11863283 / 134217728 : ℝ) : EReal) := by
  simp [Ideal.ofBits, Ideal.ieee, -EReal.coe_mul]; norm_num

/-- The maximum's initial value is minus infinity. -/
theorem ofBits_bot : Ideal.ofBits .f32 0xFF800000#32 = ⊥ := by
  simp [Ideal.ofBits, Ideal.ieee]

/-- A score is the dot product of a query with a key of its group, scaled. -/
theorem score_at (q : FVec Ideal S4x8x8192x128 .f32) (k : FVec Ideal S4x2x8448x128 .f32) (b : Fin 4) (kh : Fin 2) (h : Fin 4) (r : Fin 8192) (i : Fin 8448) :
    score q k (ix5 b kh h r i) = (∑ d : Fin 128, q (ix4 b ⟨kh.val * 4 + h.val, by omega⟩ r d) * k (ix4 b kh i d)) * (((11863283 / 134217728 : ℝ)) : EReal) := by
  unfold score
  pointwise
  rw [ofBits_scale]

/-- The reduction's initial value. -/
theorem ofBits_init : constant (F := Ideal) S_ .f32 0xFF800000#32 (Shape.Idx.first h_S_) = (⊥ : EReal) := ofBits_bot

/-- The larger of two arrays, at an index. -/
theorem maximum_at {s : Shape} (x y : FVec Ideal s .f32) (j : s.Idx) : maximumf x y j = max (x j) (y j) := rfl

/-- Of real scores, a query's largest one is real. -/
theorem top_real (s : FVec Ideal S4x2x4x8192x8448 .f32) (f : S4x2x4x8192x8448.Idx → ℝ) (hs : s = fun i => (f i : EReal)) (j : S4x2x4x8192.Idx) :
    ∃ M : ℝ, top s j = (M : EReal) := by
  have h : S4x2x4x8192x8448.Reduces [4] S4x2x4x8192 := by decide
  obtain ⟨M, hM⟩ := Cert.Att.fold_max_real (Finset.univ : Finset (Fin (S4x2x4x8192x8448.size 4))) ⟨⟨0, by decide⟩, Finset.mem_univ _⟩ (fun i => f (h.lift j i))
  refine ⟨M, ?_⟩
  have hb : broadcastInDim S4x2x4x8192 ![] bcast_S_S4x2x4x8192 (constant (F := Ideal) S_ .f32 0xFF800000#32) j = (⊥ : EReal) := ofBits_bot
  have e := Host.reduce_eq_fold_single (FloatOps.maximumf (F := Ideal) (φ := .f32)) s (constant S_ .f32 0xFF800000#32) reducesTo_S4x2x4x8192x8448_S4x2x4x8192_d4 h h_S_ j
  unfold top
  rw [maximum_at, e, hb, max_bot_left, ← hM, ofBits_init, hs]
  rfl

/-- An entry repeated along the keys. -/
theorem along_at (x : FVec Ideal S4x2x4x8192 .f32) (b : Fin 4) (kh : Fin 2) (h : Fin 4) (r : Fin 8192) (i : Fin 8448) :
    along x (ix5 b kh h r i) = x (ix4 b kh h r) := by
  unfold along
  pointwise

/-- The softmax at one query and key. -/
theorem soft_at (s : FVec Ideal S4x2x4x8192x8448 .f32) (b : Fin 4) (kh : Fin 2) (h : Fin 4) (r : Fin 8192) (i : Fin 8448) :
    soft s (ix5 b kh h r i) = Ideal.div (Ideal.exp (s (ix5 b kh h r i) - top s (ix4 b kh h r)))
      (∑ i : Fin 8448, Ideal.exp (s (ix5 b kh h r i) - top s (ix4 b kh h r))) := by
  unfold soft
  pointwise
  rw [along_at]
  unfold expo
  pointwise
  simp only [along_at]

/-- The result at one index. -/
theorem attn_at (q : FVec Ideal S4x8x8192x128 .f32) (k v : FVec Ideal S4x2x8448x128 .f32) (j : S4x8192x1024.Idx) :
    attn q k v j = ∑ i : Fin 8448, soft (score q k) (ix5 (j 0) ⟨(j 2 : ℕ) / 512, by have : (j 2 : ℕ) < 1024 := (j 2).isLt; omega⟩ ⟨(j 2 : ℕ) / 128 % 4, by omega⟩ (j 1) i)
      * v (ix4 (j 0) ⟨(j 2 : ℕ) / 512, by have : (j 2 : ℕ) < 1024 := (j 2).isLt; omega⟩ i ⟨(j 2 : ℕ) % 128, by omega⟩) := by
  unfold attn
  pointwise

/-- The concatenation of two arrays of keys, or of values. -/
def cat (a : FVec Ideal S4x2x256x128 .f32) (b : FVec Ideal S4x2x8192x128 .f32) : FVec Ideal S4x2x8448x128 .f32 :=
  concatenate S4x2x8448x128 2 [⟨S4x2x256x128, a⟩, ⟨S4x2x8192x128, b⟩] concatenates_S4x2x256x128_S4x2x8192x128_S4x2x8448x128_d2

/-- The reference ends at its attention of the concatenated keys and values, the arguments unchanged. -/
theorem run_attn (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = attn (m ((c.tc : Thread nD τ).loc main_arg0))
        (cat (m ((c.tc : Thread nD τ).loc main_arg1)) (m ((c.tc : Thread nD τ).loc main_arg2)))
        (cat (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  unfold attn soft expo along top score
  exact run m ρ

end Cert.ReferenceIdeal.Value

end
-- ==== Proof.AttClaim.lean ====
/-
The attention kernel's result is the reference's: the precondition read back as real queries and keys, the two host concatenations, and the
two formulas of one entry.
-/
module

public import proofs.«01_k».proof.Defs
public import proofs.«01_k».proof.Proof.AttArray
public import proofs.«01_k».proof.Proof.Gen.KernelIdeal.Value
public import proofs.«01_k».proof.Proof.AttRef
public import proofs.«01_k».proof.Proof.Gen.Pre_finite_qk
public import Idealize.ShloMosaic.Lib.ReduceAll

@[expose] public section

set_option maxRecDepth 16384

noncomputable section

namespace Cert.Att

open Idealize.ShloMosaic Idealize.ShloMosaic.TcCoe Idealize.SL.Sem

/-- A value whose absolute value is below infinity is a real number. -/
theorem real_of_abs_lt (x : EReal) (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | bot => simp [Ideal.cmp] at h
  | coe r => exact ⟨r, rfl⟩
  | top => simp [Ideal.cmp] at h

/-- A finite array is an array of reals. -/
theorem real_arr {s : Shape} (x : FVec Ideal s .f32) (h : ∀ i, ∃ r : ℝ, x i = (r : EReal)) : ∃ f : s.Idx → ℝ, x = fun i => (f i : EReal) := by
  choose f hf using h
  exact ⟨f, funext hf⟩

/-- The precondition says that queries and keys are real. -/
theorem real_of_pre (a0 a1 a2 a3 a4) (h : Cert.Pre_finite_qk.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h (fun a => a.elim0)
  unfold Cert.Pre_finite_qk.fn at h0
  obtain ⟨h1, h2⟩ := IntOp.andi_eq_one.1 h0
  obtain ⟨h3, h4⟩ := IntOp.andi_eq_one.1 h1
  haveI : Subsingleton (Cert.Pre_finite_qk.S_).Idx := ⟨fun a b => funext fun i => i.elim0⟩
  refine ⟨fun i => real_of_abs_lt _ ?_, fun i => real_of_abs_lt _ ?_, fun i => real_of_abs_lt _ ?_⟩
  · exact Host.reduce_andi_all _ _ _ _ _ h3 i
  · exact Host.reduce_andi_all _ _ _ _ _ h4 i
  · exact Host.reduce_andi_all _ _ _ _ _ h2 i

section
open Cert.ReferenceIdeal Cert.ReferenceIdeal.Gen Cert.ReferenceIdeal.Value

/-- Two real arrays' concatenation is real. -/
theorem cat_real (a : FVec Ideal S4x2x256x128 .f32) (b : FVec Ideal S4x2x8192x128 .f32) (ha : ∀ i, ∃ r : ℝ, a i = (r : EReal)) (hb : ∀ i, ∃ r : ℝ, b i = (r : EReal))
    (i : S4x2x8448x128.Idx) : ∃ r : ℝ, cat a b i = (r : EReal) := by
  idx_vars i
  unfold cat
  pointwise
  split
  · exact ha _
  · exact hb _

end

/-- The scores of real queries and keys are real. -/
theorem score_real (qf : Cert.ReferenceIdeal.S4x8x8192x128.Idx → ℝ) (kf : Cert.ReferenceIdeal.S4x2x8448x128.Idx → ℝ) (i : Cert.ReferenceIdeal.S4x2x4x8192x8448.Idx) :
    ∃ r : ℝ, Cert.ReferenceIdeal.Value.score (fun i => (qf i : EReal)) (fun i => (kf i : EReal)) i = (r : EReal) := by
  idx_vars i
  refine ⟨(∑ d : Fin 128, qf (ix4 i0 ⟨i1.val * 4 + i2.val, by omega⟩ i3 d) * kf (ix4 i0 i1 i4 d)) * (11863283 / 134217728), ?_⟩
  rw [Cert.ReferenceIdeal.Value.score_at, EReal.coe_mul, coe_sum]
  simp only [EReal.coe_mul]

open Cert.KernelIdeal.Value in
/-- The two formulas agree on real queries and keys. -/
theorem attArr_eq (q : FVec Ideal Cert.ReferenceIdeal.S4x8x8192x128 .f32) (k v : FVec Ideal Cert.ReferenceIdeal.S4x2x8448x128 .f32)
    (hq : ∀ i, ∃ r : ℝ, q i = (r : EReal)) (hk : ∀ i, ∃ r : ℝ, k i = (r : EReal)) :
    attArr q k v = Cert.ReferenceIdeal.Value.attn q k v := by
  obtain ⟨qf, rfl⟩ := real_arr q hq
  obtain ⟨kf, rfl⟩ := real_arr k hk
  obtain ⟨sf, hs⟩ := real_arr _ (score_real qf kf)
  funext j
  idx_vars j
  obtain ⟨M, hM⟩ := Cert.ReferenceIdeal.Value.top_real _ _ hs (ix4 j0 ⟨(j2 : ℕ) / 512, by omega⟩ ⟨(j2 : ℕ) / 128 % 4, by omega⟩ j1)
  have hh : ∀ h, (⟨(j2 : ℕ) / 512 * 4 + (j2 : ℕ) / 128 % 4, h⟩ : Fin 8) = ⟨(j2 : ℕ) / 128, by omega⟩ := fun _ => Fin.ext (by show (j2 : ℕ) / 512 * 4 + (j2 : ℕ) / 128 % 4 = (j2 : ℕ) / 128; omega)
  have r := row (fun d => qf (ix4 j0 ⟨(j2 : ℕ) / 128, by omega⟩ j1 d)) (fun i d => kf (ix4 j0 ⟨(j2 : ℕ) / 512, by omega⟩ i d))
    (fun i => v (ix4 j0 ⟨(j2 : ℕ) / 512, by omega⟩ i ⟨(j2 : ℕ) % 128, by omega⟩)) (11863283 / 134217728) M
  refine Eq.trans ?_ (r.trans ?_)
  · rfl
  · rw [Cert.ReferenceIdeal.Value.attn_at]
    refine Finset.sum_congr rfl fun i _ => ?_
    refine congrArg₂ (· * ·) ?_ rfl
    refine Eq.trans ?_ (Cert.ReferenceIdeal.Value.soft_at _ j0 ⟨(j2 : ℕ) / 512, by omega⟩ ⟨(j2 : ℕ) / 128 % 4, by omega⟩ j1 i).symm
    simp only [hM, Cert.ReferenceIdeal.Value.score_at, hh]

section
open Cert.KernelIdeal Cert.KernelIdeal.Gen Cert.ReferenceIdeal.Value

/-- The keys and the values that the kernel reads are the concatenations of the arguments. -/
theorem staged (m : (ℓ : Loc nD τ sig) → Buf (Elt Ideal) ℓ) (c : Dev nD) :
    V m c main_v2 = cat (m ((c : Thread nD τ).loc main_arg1)) (m ((c : Thread nD τ).loc main_arg2))
    ∧ V m c main_v5 = cat (m ((c : Thread nD τ).loc main_arg3)) (m ((c : Thread nD τ).loc main_arg4)) := by
  constructor
  · entry_read
    rfl
  · entry_read
    rfl

end

end Cert.Att

namespace Cert.Proof

open Idealize.ShloMosaic Idealize.ShloMosaic.TcCoe Idealize.SL.Sem

/-- The idealized attention kernel and the idealized reference end at the same array on finite queries and keys. -/
theorem algebraic : Cert.algebraic_KernelIdeal_ReferenceIdeal_pre_finite_qk := by
  intro m g m' g' hpre hagree
  refine ⟨fun c => (Cert.KernelIdeal.Gen.dats m 0 c).arrAt 3 Cert.KernelIdeal.cfg0.N, Cert.KernelIdeal.Value.run_blocks m g, ?_⟩
  · run_from Cert.ReferenceIdeal.Value.run_attn m' g'
    obtain ⟨h0, h1, h2⟩ := Cert.Att.real_of_pre _ _ _ _ _ (hpre c)
    have e := Cert.KernelIdeal.Value.final m c
    rw [(Cert.Att.staged m c).1, (Cert.Att.staged m c).2, Cert.Att.attArr_eq _ _ _ h0 (Cert.Att.cat_real _ _ h1 h2)] at e
    exact e.symm

end Cert.Proof

end
-- ==== Proof.FfnRead.lean ====
/- What one grid point of the feed-forward kernel stores, in the kernel's own vector operations: the modulated norm of the block's rows and of its
   two neighbours' rows, eleven column chunks of the gated activation, and their products with the second weights, added chunk by chunk. -/
module

public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- A read of a whole buffer after several stores is the stores' contents. -/
theorem readCov_whole {Val : EltTy → Type} [∀ e, Nonempty (Val e)] {sig : RefSig} {κ : Kind} {sp : Space} {S : Shape} {e : EltTy} (v : View sig κ sp S e)
    (L : List (View.Piece Val S e)) {off : Fin S.rank → ℕ} (inb : ∀ a, off a + S.size a ≤ S.size a) (h : ∀ a, off a = 0) :
    v.readCov L (Rect.unit off (no_index S.size) inb).toLoadRect = View.canon L := by
  rw [View.readCov_eq_canon']
  exact View.ld_unit_lit' inb (View.canon L) h

/-- Columns `o` to `o + 255` of the first weights. -/
def wUp (x7 : FVec Ideal S1024x5632 .bf16) (o : ℕ) (ho : o + 256 ≤ 5632) : FVec Ideal S1024x256 .bf16 :=
  View.ld (Val := Elt Ideal) (e' := .bf16) x7 (Rect.unit (s := S1024x5632) ![0, o] S1024x256.size (fun a => by
    match a with
    | 0 => show 0 + 1024 ≤ 1024; omega
    | 1 => show o + 256 ≤ 5632; omega))

/-- Columns `o` to `o + 255` of the convolution's tap `k`. -/
def tap (x8 : FVec Ideal S3x5632 .f32) (k : ℕ) (hk : k < 3) (o : ℕ) (ho : o + 256 ≤ 5632) : FVec Ideal S1x256 .f32 :=
  View.ld (Val := Elt Ideal) (e' := .f32) x8 (Rect.unit (s := S3x5632) ![k, o] S1x256.size (fun a => by
    match a with
    | 0 => show k + 1 ≤ 3; omega
    | 1 => show o + 256 ≤ 5632; omega))

/-- Columns `o` to `o + 255` of the convolution's bias. -/
def bias (x9 : FVec Ideal S1x5632 .f32) (o : ℕ) (ho : o + 256 ≤ 5632) : FVec Ideal S1x256 .f32 :=
  View.ld (Val := Elt Ideal) (e' := .f32) x9 (Rect.unit (s := S1x5632) ![0, o] S1x256.size (fun a => by
    match a with
    | 0 => show 0 + 1 ≤ 1; omega
    | 1 => show o + 256 ≤ 5632; omega))

/-- Rows `o` to `o + 767` of the second weights. -/
def wDown3 (x10 : FVec Ideal S2816x1024 .bf16) (o : ℕ) (ho : o + 768 ≤ 2816) : FVec Ideal S768x1024 .bf16 :=
  View.ld (Val := Elt Ideal) (e' := .bf16) x10 (Rect.unit (s := S2816x1024) ![o, 0] S768x1024.size (fun a => by
    match a with
    | 0 => show o + 768 ≤ 2816; omega
    | 1 => show 0 + 1024 ≤ 1024; omega))

/-- Rows `o` to `o + 255` of the second weights. -/
def wDown1 (x10 : FVec Ideal S2816x1024 .bf16) (o : ℕ) (ho : o + 256 ≤ 2816) : FVec Ideal S256x1024 .bf16 :=
  View.ld (Val := Elt Ideal) (e' := .bf16) x10 (Rect.unit (s := S2816x1024) ![o, 0] S256x1024.size (fun a => by
    match a with
    | 0 => show o + 256 ≤ 2816; omega
    | 1 => show 0 + 1024 ≤ 1024; omega))

/-- The block's normed rows between the sixteen before it and the sixteen after it. -/
def fext (i : grid0.Coords) (x0 : FVec Ideal S1x512x1024 .f32) (x1 x2 : FVec Ideal S1x16x1024 .f32) (x3 x4 : FVec Ideal S1x1x1024 .f32) (x6 : FVec Ideal S1x1024 .f32) :
    FVec Ideal S544x1024 .bf16 :=
  View.canon (Val := Elt Ideal) (s := S544x1024) (e := .bf16)
    [⟨Rect.unit (s := S544x1024) ![528, 0] S16x1024.size inb_S544x1024_S16x1024_528_0,
        k0_pay12 (F := Ideal) (k0_pay9 (F := Ideal) (BitVec.ofNat 32 (i 1).val) (k0_pay2 (F := Ideal) x6) (k0_pay3 (F := Ideal) x3) (k0_pay4 (F := Ideal) x4) (k0_pay7 (F := Ideal) x2) (k0_pay8 (F := Ideal) x2))⟩,
      ⟨Rect.unit (s := S544x1024) ![16, 0] S512x1024.size inb_S544x1024_S512x1024_16_0,
        k0_pay11 (F := Ideal) (k0_pay2 (F := Ideal) x6) (k0_pay3 (F := Ideal) x3) (k0_pay4 (F := Ideal) x4) (k0_pay5 (F := Ideal) x0)⟩,
      ⟨Rect.unit (s := S544x1024) ![0, 0] S16x1024.size inb_S544x1024_S16x1024_0_0,
        k0_pay10 (F := Ideal) (k0_pay6 (F := Ideal) i x6 x3 x4 x1)⟩]

/-- Chunk `c` of the gated activation. -/
def act (f : FVec Ideal S544x1024 .bf16) (x7 : FVec Ideal S1024x5632 .bf16) (x8 : FVec Ideal S3x5632 .f32) (x9 : FVec Ideal S1x5632 .f32) (c : ℕ) (hc : c < 11) :
    FVec Ideal S512x256 .bf16 :=
  k0_pay19 (F := Ideal) (k0_pay14 (F := Ideal) f (wUp x7 (256 * c + 2816) (by omega)))
    (k0_pay17 (F := Ideal) f (wUp x7 (256 * c) (by omega)) (tap x8 0 (by omega) (256 * c) (by omega)) (tap x8 1 (by omega) (256 * c) (by omega)))
    (k0_pay18 (F := Ideal) f (wUp x7 (256 * c) (by omega)))
    (tap x8 2 (by omega) (256 * c) (by omega)) (bias x9 (256 * c) (by omega))
    (tap x8 0 (by omega) (256 * c + 2816) (by omega)) (tap x8 1 (by omega) (256 * c + 2816) (by omega)) (tap x8 2 (by omega) (256 * c + 2816) (by omega))
    (bias x9 (256 * c + 2816) (by omega))

/-- Three chunks side by side. -/
def trio (a b c : FVec Ideal S512x256 .bf16) : FVec Ideal S512x768 .bf16 := fun j =>
  if h : (j 1 : ℕ) < 256 then a (ix2 (j 0) ⟨j 1, h⟩)
  else if h' : (j 1 : ℕ) < 512 then b (ix2 (j 0) ⟨(j 1 : ℕ) - 256, by omega⟩)
  else c (ix2 (j 0) ⟨(j 1 : ℕ) - 512, by have : (j 1 : ℕ) < 768 := (j 1).isLt; omega⟩)

/-- A read of three neighbouring chunks, stored last, is the chunks side by side. -/
theorem readCov_trio {sig : RefSig} {κ : Kind} {sp : Space} (v : View sig κ sp S512x2816 .bf16) (L : List (View.Piece (Elt Ideal) S512x2816 .bf16))
    (o o1 o2 : ℕ) (h1 : o1 = o + 256) (h2 : o2 = o + 512) (inb : ∀ a, (![0, o] : Fin 2 → ℕ) a + (![512, 768] : Fin 2 → ℕ) a ≤ S512x2816.size a)
    (inb0 : ∀ a, (![0, o] : Fin 2 → ℕ) a + (![512, 256] : Fin 2 → ℕ) a ≤ S512x2816.size a)
    (inb1 : ∀ a, (![0, o1] : Fin 2 → ℕ) a + (![512, 256] : Fin 2 → ℕ) a ≤ S512x2816.size a)
    (inb2 : ∀ a, (![0, o2] : Fin 2 → ℕ) a + (![512, 256] : Fin 2 → ℕ) a ≤ S512x2816.size a) (a b c : FVec Ideal S512x256 .bf16) :
    v.readCov (Val := Elt Ideal) (⟨Rect.unit (s := S512x2816) ![0, o2] ![512, 256] inb2, c⟩ :: ⟨Rect.unit (s := S512x2816) ![0, o1] ![512, 256] inb1, b⟩
      :: ⟨Rect.unit (s := S512x2816) ![0, o] ![512, 256] inb0, a⟩ :: L) (Rect.unit (s := S512x2816) ![0, o] ![512, 768] inb).toLoadRect = trio a b c := by
  subst h1 h2
  rw [View.readCov_eq_canon']
  funext j
  have j1 : (j 1 : ℕ) < 768 := (j 1).isLt
  have e0 : (((Rect.unit (s := S512x2816) ![0, o] ![512, 768] inb).toLoadRect.idx j) 0 : ℕ) = j 0 := by
    show 0 + 1 * (j 0 : ℕ) = j 0; omega
  have e1 : (((Rect.unit (s := S512x2816) ![0, o] ![512, 768] inb).toLoadRect.idx j) 1 : ℕ) = o + j 1 := by
    show o + 1 * (j 1 : ℕ) = o + j 1; omega
  generalize (Rect.unit (s := S512x2816) ![0, o] ![512, 768] inb).toLoadRect.idx j = y at e0 e1
  have n512 : (y 1 : ℕ) < o + 512 → y ∉ (Rect.unit (s := S512x2816) ![0, o + 512] ![512, 256] inb2).set := fun hy hm => by
    have h1 : o + 512 ≤ (y 1 : ℕ) := ((Rect.mem_set_unit (inb := inb2)).mp hm 1).1
    omega
  have n256 : (y 1 : ℕ) < o + 256 → y ∉ (Rect.unit (s := S512x2816) ![0, o + 256] ![512, 256] inb1).set := fun hy hm => by
    have h1 : o + 256 ≤ (y 1 : ℕ) := ((Rect.mem_set_unit (inb := inb1)).mp hm 1).1
    omega
  have a512 : 512 ≤ (j 1 : ℕ) → trio a b c j = c (ix2 (j 0) ⟨(j 1 : ℕ) - 512, by omega⟩) := fun h => by
    unfold trio; rw [dif_neg (by omega), dif_neg (by omega)]
  have a256 : ∀ h : (j 1 : ℕ) < 512, 256 ≤ (j 1 : ℕ) → trio a b c j = b (ix2 (j 0) ⟨(j 1 : ℕ) - 256, by omega⟩) := fun h h' => by
    unfold trio; rw [dif_neg (by omega), dif_pos h]
  have a0 : ∀ h : (j 1 : ℕ) < 256, trio a b c j = a (ix2 (j 0) ⟨j 1, h⟩) := fun h => by
    unfold trio; rw [dif_pos h]
  by_cases h : (j 1 : ℕ) < 256
  · refine (View.canon_cons_of_not_mem (Val := Elt Ideal) (e := .bf16) ⟨Rect.unit (s := S512x2816) ![0, o + 512] ![512, 256] inb2, c⟩ _ (n512 (by omega))).trans ?_
    refine (View.canon_cons_of_not_mem (Val := Elt Ideal) (e := .bf16) ⟨Rect.unit (s := S512x2816) ![0, o + 256] ![512, 256] inb1, b⟩ _ (n256 (by omega))).trans ?_
    refine Eq.trans ?_ (a0 h).symm
    have ey : y = (Rect.unit (s := S512x2816) ![0, o] ![512, 256] inb0).emb (ix2 (j 0) ⟨j 1, h⟩) := funext fun d => Fin.ext (by
      match d with
      | 0 => show (y 0 : ℕ) = 0 + 1 * (j 0 : ℕ); omega
      | 1 => show (y 1 : ℕ) = o + 1 * (j 1 : ℕ); omega)
    refine (congrArg _ ey).trans ?_
    exact View.canon_cons_emb (Val := Elt Ideal) (e := .bf16) (Rect.unit (s := S512x2816) ![0, o] ![512, 256] inb0) a _ _
  · by_cases h' : (j 1 : ℕ) < 512
    · refine (View.canon_cons_of_not_mem (Val := Elt Ideal) (e := .bf16) ⟨Rect.unit (s := S512x2816) ![0, o + 512] ![512, 256] inb2, c⟩ _ (n512 (by omega))).trans ?_
      refine Eq.trans ?_ (a256 h' (by omega)).symm
      have ey : y = (Rect.unit (s := S512x2816) ![0, o + 256] ![512, 256] inb1).emb (ix2 (j 0) ⟨(j 1 : ℕ) - 256, by omega⟩) := funext fun d => Fin.ext (by
        match d with
        | 0 => show (y 0 : ℕ) = 0 + 1 * (j 0 : ℕ); omega
        | 1 => show (y 1 : ℕ) = o + 256 + 1 * ((j 1 : ℕ) - 256); omega)
      refine (congrArg _ ey).trans ?_
      exact View.canon_cons_emb (Val := Elt Ideal) (e := .bf16) (Rect.unit (s := S512x2816) ![0, o + 256] ![512, 256] inb1) b _ _
    · refine Eq.trans ?_ (a512 (by omega)).symm
      have ey : y = (Rect.unit (s := S512x2816) ![0, o + 512] ![512, 256] inb2).emb (ix2 (j 0) ⟨(j 1 : ℕ) - 512, by omega⟩) := funext fun d => Fin.ext (by
        match d with
        | 0 => show (y 0 : ℕ) = 0 + 1 * (j 0 : ℕ); omega
        | 1 => show (y 1 : ℕ) = o + 512 + 1 * ((j 1 : ℕ) - 512); omega)
      refine (congrArg _ ey).trans ?_
      exact View.canon_cons_emb (Val := Elt Ideal) (e := .bf16) (Rect.unit (s := S512x2816) ![0, o + 512] ![512, 256] inb2) c _ _

/-- What is stored: the residual plus the gated product, normed. -/
def blockOut (i : grid0.Coords) (x0 : FVec Ideal S1x512x1024 .f32) (x1 x2 : FVec Ideal S1x16x1024 .f32) (x3 x4 x5 : FVec Ideal S1x1x1024 .f32) (x6 : FVec Ideal S1x1024 .f32)
    (x7 : FVec Ideal S1024x5632 .bf16) (x8 : FVec Ideal S3x5632 .f32) (x9 : FVec Ideal S1x5632 .f32) (x10 : FVec Ideal S2816x1024 .bf16) (x11 : FVec Ideal S1x1024 .f32) :
    FVec Ideal S1x512x1024 .f32 :=
  let f := fext i x0 x1 x2 x3 x4 x6
  let a (c : ℕ) (hc : c < 11) := act f x7 x8 x9 c hc
  k0_pay1 (F := Ideal) (k0_pay5 (F := Ideal) x0)
    (k0_pay71 (F := Ideal)
      (k0_pay67 (F := Ideal)
        (k0_pay50 (F := Ideal)
          (k0_pay34 (F := Ideal) (trio (a 0 (by omega)) (a 1 (by omega)) (a 2 (by omega))) (wDown3 x10 0 (by omega)))
          (trio (a 3 (by omega)) (a 4 (by omega)) (a 5 (by omega))) (wDown3 x10 768 (by omega)))
        (trio (a 6 (by omega)) (a 7 (by omega)) (a 8 (by omega))) (wDown3 x10 1536 (by omega)))
      (a 9 (by omega)) (wDown1 x10 2304 (by omega)))
    (a 10 (by omega)) (wDown1 x10 2560 (by omega)) x5 x11

set_option maxHeartbeats 2000000 in
/-- THE POINT, READ BACK: the whole output block in one store. -/
theorem out_eq  (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x16x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024 .f32) (harg8 : arg8.IsWhole) (arg9 : Memref sig .tc .vmem S1024x5632 .bf16) (harg9 : arg9.IsWhole) (arg10 : Memref sig .tc .vmem S3x5632 .f32) (harg10 : arg10.IsWhole) (arg11 : Memref sig .tc .vmem S1x5632 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S1x512x1024 .f32) (harg14 : arg14.IsWhole) (arg15 : Memref sig .tc .vmem S544x1024 .bf16) (harg15 : arg15.IsWhole) (arg16 : Memref sig .tc .vmem S512x2816 .bf16) (harg16 : arg16.IsWhole)
    (x0 : Vec Ideal S1x512x1024 .f32) (x1 : Vec Ideal S1x16x1024 .f32) (x2 : Vec Ideal S1x16x1024 .f32) (x3 : Vec Ideal S1x1x1024 .f32) (x4 : Vec Ideal S1x1x1024 .f32) (x5 : Vec Ideal S1x1x1024 .f32) (x6 : Vec Ideal S1x1024 .f32) (x7 : Vec Ideal S1024x5632 .bf16) (x8 : Vec Ideal S3x5632 .f32) (x9 : Vec Ideal S1x5632 .f32) (x10 : Vec Ideal S2816x1024 .bf16) (x11 : Vec Ideal S1x1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11
      = View.canon (Val := Elt Ideal) (s := S1x512x1024) (e := .f32)
        [⟨Rect.unit (s := S1x512x1024) ![0, 0, 0] S1x512x1024.size inb_S1x512x1024_S1x512x1024_0_0_0, blockOut i x0 x1 x2 x3 x4 x5 x6 x7 x8 x9 x10 x11⟩] := by
  unfold out0_A_12
  rw [View.read_writes_junk_eq_canon]
  refine congrArg View.canon ?_
  frame_open
  simp (disch := decide) only [↓ readCov_trio, ↓ readCov_whole, ↓ View.readCov_cons_toLoadRect, View.ld_unit_lit', View.readAt_eq_ld,
    Memref.IsWhole.read_unread]
  refine congrArg₂ List.cons (congrArg (Sigma.mk _) ?_) rfl
  rfl

end Cert.Kernel2Ideal.Value

end
-- ==== Proof.FfnPoint.lean ====
/- The feed-forward kernel's point at an index: the normed rows, the convolved and gated columns, and the second product over all 2816 of them. -/
module

public import proofs.«01_k».proof.Proof.FfnRead
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem

/-- The product of row `s` of the normed rows with column `o` of the first weights. -/
def up (f : FVec Ideal S544x1024 .bf16) (x7 : FVec Ideal S1024x5632 .bf16) (s : Fin 544) (o : Fin 5632) : EReal :=
  ∑ e : Fin 1024, f (ix2 s e) * x7 (ix2 e o)

/-- Column `o` of the convolution along the rows, at the block's row `r`. -/
def conv (f : FVec Ideal S544x1024 .bf16) (x7 : FVec Ideal S1024x5632 .bf16) (x8 : FVec Ideal S3x5632 .f32) (x9 : FVec Ideal S1x5632 .f32) (r : Fin 512) (o : Fin 5632) : EReal :=
  up f x7 ⟨r + 15, by omega⟩ o * x8 (ix2 0 o) + up f x7 ⟨r + 16, by omega⟩ o * x8 (ix2 1 o) + up f x7 ⟨r + 17, by omega⟩ o * x8 (ix2 2 o) + x9 (ix2 0 o)

/-- The gated activation's column `k` at the block's row `r`. -/
def gate (f : FVec Ideal S544x1024 .bf16) (x7 : FVec Ideal S1024x5632 .bf16) (x8 : FVec Ideal S3x5632 .f32) (x9 : FVec Ideal S1x5632 .f32) (r : Fin 512) (k : Fin 2816) : EReal :=
  conv f x7 x8 x9 r ⟨k, by omega⟩ * Ideal.logistic (conv f x7 x8 x9 r ⟨k, by omega⟩) * conv f x7 x8 x9 r ⟨k + 2816, by omega⟩

theorem wUp_at (x7 : FVec Ideal S1024x5632 .bf16) (o : ℕ) (ho : o + 256 ≤ 5632) (e : Fin 1024) (u : Fin 256) :
    wUp x7 o ho (ix2 e u) = x7 (ix2 e ⟨o + u, by omega⟩) := by
  pointwise [wUp]

theorem tap_at (x8 : FVec Ideal S3x5632 .f32) (k : ℕ) (hk : k < 3) (o : ℕ) (ho : o + 256 ≤ 5632) (u : Fin 256) :
    tap x8 k hk o ho (ix2 0 u) = x8 (ix2 ⟨k, hk⟩ ⟨o + u, by omega⟩) := by
  pointwise [tap]

theorem bias_at (x9 : FVec Ideal S1x5632 .f32) (o : ℕ) (ho : o + 256 ≤ 5632) (u : Fin 256) :
    bias x9 o ho (ix2 0 u) = x9 (ix2 0 ⟨o + u, by omega⟩) := by
  pointwise [bias]

theorem wDown3_at (x10 : FVec Ideal S2816x1024 .bf16) (o : ℕ) (ho : o + 768 ≤ 2816) (u : Fin 768) (d : Fin 1024) :
    wDown3 x10 o ho (ix2 u d) = x10 (ix2 ⟨o + u, by omega⟩ d) := by
  pointwise [wDown3]

theorem wDown1_at (x10 : FVec Ideal S2816x1024 .bf16) (o : ℕ) (ho : o + 256 ≤ 2816) (u : Fin 256) (d : Fin 1024) :
    wDown1 x10 o ho (ix2 u d) = x10 (ix2 ⟨o + u, by omega⟩ d) := by
  pointwise [wDown1]

set_option maxHeartbeats 1000000 in
/-- One chunk of the gated activation, at an index, over any weights of that size. -/
theorem act_raw (f : FVec Ideal S544x1024 .bf16) (wa wb : FVec Ideal S1024x256 .bf16) (t0 t1 t2 b s0 s1 s2 d : FVec Ideal S1x256 .f32) (r : Fin 512) (u : Fin 256) :
    k0_pay19 (F := Ideal) (k0_pay14 (F := Ideal) f wb) (k0_pay17 (F := Ideal) f wa t0 t1) (k0_pay18 (F := Ideal) f wa) t2 b s0 s1 s2 d (ix2 r u)
      = ((∑ e : Fin 1024, f (ix2 ⟨r + 15, by omega⟩ e) * wa (ix2 e u)) * t0 (ix2 0 u) + (∑ e : Fin 1024, f (ix2 ⟨r + 16, by omega⟩ e) * wa (ix2 e u)) * t1 (ix2 0 u)
          + (∑ e : Fin 1024, f (ix2 ⟨r + 17, by omega⟩ e) * wa (ix2 e u)) * t2 (ix2 0 u) + b (ix2 0 u))
        * Ideal.logistic ((∑ e : Fin 1024, f (ix2 ⟨r + 15, by omega⟩ e) * wa (ix2 e u)) * t0 (ix2 0 u) + (∑ e : Fin 1024, f (ix2 ⟨r + 16, by omega⟩ e) * wa (ix2 e u)) * t1 (ix2 0 u)
          + (∑ e : Fin 1024, f (ix2 ⟨r + 17, by omega⟩ e) * wa (ix2 e u)) * t2 (ix2 0 u) + b (ix2 0 u))
        * ((∑ e : Fin 1024, f (ix2 ⟨r + 15, by omega⟩ e) * wb (ix2 e u)) * s0 (ix2 0 u) + (∑ e : Fin 1024, f (ix2 ⟨r + 16, by omega⟩ e) * wb (ix2 e u)) * s1 (ix2 0 u)
          + (∑ e : Fin 1024, f (ix2 ⟨r + 17, by omega⟩ e) * wb (ix2 e u)) * s2 (ix2 0 u) + d (ix2 0 u)) := by
  have e0 : ((r : ℕ) + 16 + 544 - 1) % 544 = r + 15 := by omega
  have e1 : 16 + (r : ℕ) = r + 16 := by omega
  have e2 : ((r : ℕ) + 16 + 544 - 543) % 544 = r + 17 := by omega
  pointwise [k0_pay19, k0_pay14, k0_pay17, k0_pay18, k0_pay13]
  simp only [e1, e0, e2]

/-- One chunk of the gated activation, at an index. -/
theorem act_at (f : FVec Ideal S544x1024 .bf16) (x7 : FVec Ideal S1024x5632 .bf16) (x8 : FVec Ideal S3x5632 .f32) (x9 : FVec Ideal S1x5632 .f32) (c : ℕ) (hc : c < 11)
    (r : Fin 512) (u : Fin 256) : act f x7 x8 x9 c hc (ix2 r u) = gate f x7 x8 x9 r ⟨256 * c + u, by omega⟩ := by
  have e : 256 * c + 2816 + (u : ℕ) = 256 * c + u + 2816 := by omega
  unfold act
  rw [act_raw]
  simp only [wUp_at, tap_at, bias_at, e]
  rfl

/-- Three neighbouring chunks, at an index. -/
theorem trio_at (f : FVec Ideal S544x1024 .bf16) (x7 : FVec Ideal S1024x5632 .bf16) (x8 : FVec Ideal S3x5632 .f32) (x9 : FVec Ideal S1x5632 .f32) (c c1 c2 : ℕ) (hc : c < 11)
    (hc1 : c1 < 11) (hc2 : c2 < 11) (h1 : c1 = c + 1) (h2 : c2 = c + 2) (r : Fin 512) (u : Fin 768) :
    trio (act f x7 x8 x9 c hc) (act f x7 x8 x9 c1 hc1) (act f x7 x8 x9 c2 hc2) (ix2 r u) = gate f x7 x8 x9 r ⟨256 * c + u, by omega⟩ := by
  subst h1 h2
  show (if h : (u : ℕ) < 256 then act f x7 x8 x9 c hc (ix2 r ⟨u, h⟩)
    else if h' : (u : ℕ) < 512 then act f x7 x8 x9 (c + 1) hc1 (ix2 r ⟨(u : ℕ) - 256, by omega⟩)
    else act f x7 x8 x9 (c + 2) hc2 (ix2 r ⟨(u : ℕ) - 512, by omega⟩)) = _
  split
  · rw [act_at]
  · split
    · rw [act_at]
      exact congrArg _ (Fin.ext (by simp only []; omega))
    · rw [act_at]
      exact congrArg _ (Fin.ext (by simp only []; omega))

/-- A sum over all 2816 columns, chunk by chunk. -/
theorem sum_chunks {M : Type} [AddCommMonoid M] (f : Fin 2816 → M) :
    ∑ k : Fin 2816, f k = (∑ u : Fin 768, f ⟨0 + u, by omega⟩) + (∑ u : Fin 768, f ⟨768 + u, by omega⟩) + (∑ u : Fin 768, f ⟨1536 + u, by omega⟩)
      + (∑ u : Fin 256, f ⟨2304 + u, by omega⟩) + ∑ u : Fin 256, f ⟨2560 + u, by omega⟩ := by
  simp only [Nat.zero_add]
  refine (Fin.sum_univ_add (a := 2560) (b := 256) f).trans (congrArg₂ (· + ·) ?_ rfl)
  refine (Fin.sum_univ_add (a := 2304) (b := 256) fun i => f (Fin.castAdd 256 i)).trans (congrArg₂ (· + ·) ?_ rfl)
  refine (Fin.sum_univ_add (a := 1536) (b := 768) fun i => f (Fin.castAdd 256 (Fin.castAdd 256 i))).trans (congrArg₂ (· + ·) ?_ rfl)
  exact Fin.sum_univ_add (a := 768) (b := 768) fun i => f (Fin.castAdd 256 (Fin.castAdd 256 (Fin.castAdd 768 i)))

/-- The gated product's column `d` at the block's row `r`, added to the residual. -/
def resid (f : FVec Ideal S544x1024 .bf16) (x0 : FVec Ideal S1x512x1024 .f32) (x5 : FVec Ideal S1x1x1024 .f32) (x7 : FVec Ideal S1024x5632 .bf16) (x8 : FVec Ideal S3x5632 .f32)
    (x9 : FVec Ideal S1x5632 .f32) (x10 : FVec Ideal S2816x1024 .bf16) (r : Fin 512) (d : Fin 1024) : EReal :=
  x0 (ix3 0 r d) + x5 (ix3 0 0 d) * ∑ k : Fin 2816, gate f x7 x8 x9 r k * x10 (ix2 k d)

/-- An entry of a row over the root of the row's mean square. -/
def rms (h : Fin 1024 → EReal) (e : Fin 1024) : EReal :=
  h e * Ideal.rsqrt (Ideal.div (∑ x : Fin 1024, h x * h x) (Ideal.ofBits .f32 1149239296#32) + Ideal.ofBits .f32 897988541#32)

/-- The last store, at an index. -/
theorem final_raw (v7 acc : FVec Ideal S512x1024 .f32) (a : FVec Ideal S512x256 .bf16) (w : FVec Ideal S256x1024 .bf16) (x5 : FVec Ideal S1x1x1024 .f32) (x11 : FVec Ideal S1x1024 .f32) (r : Fin 512) (d : Fin 1024) :
    k0_pay1 (F := Ideal) v7 acc a w x5 x11 (ix3 0 r d)
      = rms (fun d => v7 (ix2 r d) + x5 (ix3 0 0 d) * (acc (ix2 r d) + ∑ u : Fin 256, a (ix2 r u) * w (ix2 u d))) d * x11 (ix2 0 d) := by
  unfold rms
  pointwise [k0_pay1]

/-- The running product of the second weights after ten chunks, at an index. -/
theorem acc_raw (a b c : FVec Ideal S512x768 .bf16) (wa wb wc : FVec Ideal S768x1024 .bf16) (e : FVec Ideal S512x256 .bf16) (we : FVec Ideal S256x1024 .bf16) (r : Fin 512) (d : Fin 1024) :
    k0_pay71 (F := Ideal) (k0_pay67 (F := Ideal) (k0_pay50 (F := Ideal) (k0_pay34 (F := Ideal) a wa) b wb) c wc) e we (ix2 r d)
      = (∑ u : Fin 768, a (ix2 r u) * wa (ix2 u d)) + (∑ u : Fin 768, b (ix2 r u) * wb (ix2 u d)) + (∑ u : Fin 768, c (ix2 r u) * wc (ix2 u d))
        + ∑ u : Fin 256, e (ix2 r u) * we (ix2 u d) := by
  pointwise [k0_pay71, k0_pay67, k0_pay50, k0_pay34]

/-- The block's own rows, without their leading index. -/
theorem pay5_at (x0 : FVec Ideal S1x512x1024 .f32) (r : Fin 512) (d : Fin 1024) : k0_pay5 (F := Ideal) x0 (ix2 r d) = x0 (ix3 0 r d) := by
  pointwise [k0_pay5]

set_option maxHeartbeats 1000000 in
/-- THE POINT AT AN INDEX. -/
theorem block_at (i : grid0.Coords) (x0 : FVec Ideal S1x512x1024 .f32) (x1 x2 : FVec Ideal S1x16x1024 .f32) (x3 x4 x5 : FVec Ideal S1x1x1024 .f32) (x6 : FVec Ideal S1x1024 .f32)
    (x7 : FVec Ideal S1024x5632 .bf16) (x8 : FVec Ideal S3x5632 .f32) (x9 : FVec Ideal S1x5632 .f32) (x10 : FVec Ideal S2816x1024 .bf16) (x11 : FVec Ideal S1x1024 .f32) (r : Fin 512) (d : Fin 1024) :
    blockOut i x0 x1 x2 x3 x4 x5 x6 x7 x8 x9 x10 x11 (ix3 0 r d)
      = rms (resid (fext i x0 x1 x2 x3 x4 x6) x0 x5 x7 x8 x9 x10 r) d * x11 (ix2 0 d) := by
  unfold blockOut
  generalize fext i x0 x1 x2 x3 x4 x6 = f
  refine (final_raw _ _ _ _ _ _ r d).trans ?_
  refine congrArg (fun h => rms h d * x11 (ix2 0 d)) (funext fun d => ?_)
  rw [acc_raw, pay5_at]
  unfold resid
  rw [sum_chunks]
  simp only [trio_at f x7 x8 x9 0 1 2 _ _ _ rfl rfl, trio_at f x7 x8 x9 3 4 5 _ _ _ rfl rfl, trio_at f x7 x8 x9 6 7 8 _ _ _ rfl rfl, act_at, wDown3_at, wDown1_at, Nat.reduceMul]

/-- An entry of the modulated norm of a row. -/
def normed (h g sc sh : Fin 1024 → EReal) (e : Fin 1024) : EReal := rms h e * (g e * (1 + sc e)) + sh e

theorem mid_raw (x6 : FVec Ideal S1x1024 .f32) (x3 x4 : FVec Ideal S1x1x1024 .f32) (x0 : FVec Ideal S1x512x1024 .f32) (r : Fin 512) (e : Fin 1024) :
    k0_pay11 (F := Ideal) (k0_pay2 (F := Ideal) x6) (k0_pay3 (F := Ideal) x3) (k0_pay4 (F := Ideal) x4) (k0_pay5 (F := Ideal) x0) (ix2 r e)
      = normed (fun e => x0 (ix3 0 r e)) (fun e => x6 (ix2 0 e)) (fun e => x3 (ix3 0 0 e)) (fun e => x4 (ix3 0 0 e)) e := by
  unfold normed rms
  pointwise [k0_pay11, k0_pay2, k0_pay3, k0_pay4, k0_pay5]

theorem before_raw (i : grid0.Coords) (x6 : FVec Ideal S1x1024 .f32) (x3 x4 : FVec Ideal S1x1x1024 .f32) (x1 : FVec Ideal S1x16x1024 .f32) (r : Fin 16) (e : Fin 1024) :
    k0_pay10 (F := Ideal) (k0_pay6 (F := Ideal) i x6 x3 x4 x1) (ix2 r e)
      = normed (fun e => x1 (ix3 0 r e)) (fun e => x6 (ix2 0 e)) (fun e => x3 (ix3 0 0 e)) (fun e => x4 (ix3 0 0 e)) e
        * ((((Scalar.extui (Scalar.cmpi CmpIPredicate.sgt (BitVec.ofNat 32 (i 1).val) 0#32) : BitVec 32).toInt : ℝ)) : EReal) := by
  unfold normed rms
  pointwise [k0_pay10, k0_pay6, k0_pay2, k0_pay3, k0_pay4]

theorem after_raw (i : grid0.Coords) (x6 : FVec Ideal S1x1024 .f32) (x3 x4 : FVec Ideal S1x1x1024 .f32) (x2 : FVec Ideal S1x16x1024 .f32) (r : Fin 16) (e : Fin 1024) :
    k0_pay12 (F := Ideal) (k0_pay9 (F := Ideal) (BitVec.ofNat 32 (i 1).val) (k0_pay2 (F := Ideal) x6) (k0_pay3 (F := Ideal) x3) (k0_pay4 (F := Ideal) x4) (k0_pay7 (F := Ideal) x2) (k0_pay8 (F := Ideal) x2)) (ix2 r e)
      = normed (fun e => x2 (ix3 0 r e)) (fun e => x6 (ix2 0 e)) (fun e => x3 (ix3 0 0 e)) (fun e => x4 (ix3 0 0 e)) e
        * ((((Scalar.extui (Scalar.cmpi CmpIPredicate.slt (BitVec.ofNat 32 (i 1).val) 15#32) : BitVec 32).toInt : ℝ)) : EReal) := by
  unfold normed rms
  pointwise [k0_pay12, k0_pay9, k0_pay7, k0_pay8, k0_pay2, k0_pay3, k0_pay4]

/-- The indicator of a row block that is not the first. -/
theorem ind_before : ∀ n : Fin 16, (Scalar.extui (Scalar.cmpi CmpIPredicate.sgt (BitVec.ofNat 32 n.val) 0#32) : BitVec 32).toInt = if 0 < n.val then 1 else 0 := by
  decide

/-- The indicator of a row block that is not the last. -/
theorem ind_after : ∀ n : Fin 16, (Scalar.extui (Scalar.cmpi CmpIPredicate.slt (BitVec.ofNat 32 n.val) 15#32) : BitVec 32).toInt = if n.val < 15 then 1 else 0 := by
  decide

section rows

variable (i : grid0.Coords) (x0 : FVec Ideal S1x512x1024 .f32) (x1 x2 : FVec Ideal S1x16x1024 .f32) (x3 x4 : FVec Ideal S1x1x1024 .f32) (x6 : FVec Ideal S1x1024 .f32)

/-- The row before the block's first. -/
theorem fext_before (e : Fin 1024) : fext i x0 x1 x2 x3 x4 x6 (ix2 15 e)
    = normed (fun e => x1 (ix3 0 15 e)) (fun e => x6 (ix2 0 e)) (fun e => x3 (ix3 0 0 e)) (fun e => x4 (ix3 0 0 e)) e
      * if 0 < (i 1).val then 1 else 0 := by
  unfold fext
  refine (View.canon_cons_of_not_mem (Val := Elt Ideal) (e := .bf16) _ _ ?_).trans ?_
  · rw [Rect.mem_set_unit]
    intro h
    have := (h 0).1
    simp at this
  refine (View.canon_cons_of_not_mem (Val := Elt Ideal) (e := .bf16) _ _ ?_).trans ?_
  · rw [Rect.mem_set_unit]
    intro h
    have := (h 0).1
    simp at this
  have ey : (ix2 15 e : S544x1024.Idx) = (Rect.unit (s := S544x1024) ![0, 0] S16x1024.size inb_S544x1024_S16x1024_0_0).emb (ix2 (15 : Fin 16) e) := by
    funext a
    match a with
    | 0 => rfl
    | 1 => exact Fin.ext (by simp [Rect.emb, Rect.unit])
  refine (congrArg _ ey).trans ?_
  refine (View.canon_cons_emb (Val := Elt Ideal) (e := .bf16) (Rect.unit (s := S544x1024) ![0, 0] S16x1024.size inb_S544x1024_S16x1024_0_0) _ _ _).trans ?_
  refine (before_raw i x6 x3 x4 x1 15 e).trans ?_
  rw [ind_before (i 1)]
  split <;> simp

/-- The block's own rows. -/
theorem fext_mid (r : Fin 512) (e : Fin 1024) : fext i x0 x1 x2 x3 x4 x6 (ix2 ⟨r + 16, by omega⟩ e)
    = normed (fun e => x0 (ix3 0 r e)) (fun e => x6 (ix2 0 e)) (fun e => x3 (ix3 0 0 e)) (fun e => x4 (ix3 0 0 e)) e := by
  unfold fext
  refine (View.canon_cons_of_not_mem (Val := Elt Ideal) (e := .bf16) _ _ ?_).trans ?_
  · rw [Rect.mem_set_unit]
    intro h
    have := (h 0).1
    simp at this
    omega
  have ey : (ix2 ⟨r + 16, by omega⟩ e : S544x1024.Idx) = (Rect.unit (s := S544x1024) ![16, 0] S512x1024.size inb_S544x1024_S512x1024_16_0).emb (ix2 r e) := by
    funext a
    match a with
    | 0 => exact Fin.ext (by simp [Rect.emb, Rect.unit]; omega)
    | 1 => exact Fin.ext (by simp [Rect.emb, Rect.unit])
  refine (congrArg _ ey).trans ?_
  refine (View.canon_cons_emb (Val := Elt Ideal) (e := .bf16) (Rect.unit (s := S544x1024) ![16, 0] S512x1024.size inb_S544x1024_S512x1024_16_0) _ _ _).trans ?_
  exact mid_raw x6 x3 x4 x0 r e

/-- The row after the block's last. -/
theorem fext_after (e : Fin 1024) : fext i x0 x1 x2 x3 x4 x6 (ix2 528 e)
    = normed (fun e => x2 (ix3 0 0 e)) (fun e => x6 (ix2 0 e)) (fun e => x3 (ix3 0 0 e)) (fun e => x4 (ix3 0 0 e)) e
      * if (i 1).val < 15 then 1 else 0 := by
  unfold fext
  have ey : (ix2 528 e : S544x1024.Idx) = (Rect.unit (s := S544x1024) ![528, 0] S16x1024.size inb_S544x1024_S16x1024_528_0).emb (ix2 (0 : Fin 16) e) := by
    funext a
    match a with
    | 0 => rfl
    | 1 => exact Fin.ext (by simp [Rect.emb, Rect.unit])
  refine (congrArg _ ey).trans ?_
  refine (View.canon_cons_emb (Val := Elt Ideal) (e := .bf16) (Rect.unit (s := S544x1024) ![528, 0] S16x1024.size inb_S544x1024_S16x1024_528_0) _ _ _).trans ?_
  refine (after_raw i x6 x3 x4 x2 0 e).trans ?_
  rw [ind_after (i 1)]
  split <;> simp

end rows

end Cert.Kernel2Ideal.Value

end
-- ==== Proof.FfnArray.lean ====
/- The feed-forward kernel's result array, entry by entry. -/
module

public import proofs.«01_k».proof.Proof.FfnPoint
public import Idealize.ShloMosaic.Lib.Claim

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)

/-- The modulated norm of the row `s` of batch `b`. -/
def rowA (h : FVec Ideal S4x8192x1024 .f32) (sc sh : FVec Ideal S4x1x1024 .f32) (g : FVec Ideal S1x1024 .f32) (b : Fin 4) (s : Fin 8192) (e : Fin 1024) : EReal :=
  normed (fun e => h (ix3 b s e)) (fun e => g (ix2 0 e)) (fun e => sc (ix3 b 0 e)) (fun e => sh (ix3 b 0 e)) e

/-- The first product over the padded rows: zero at the two outer ones. -/
def upA (h : FVec Ideal S4x8192x1024 .f32) (sc sh : FVec Ideal S4x1x1024 .f32) (g : FVec Ideal S1x1024 .f32) (w : FVec Ideal S1024x5632 .bf16) (b : Fin 4) (s : Fin 8194)
    (o : Fin 5632) : EReal :=
  if hs : 1 ≤ (s : ℕ) ∧ (s : ℕ) < 8193 then ∑ e : Fin 1024, rowA h sc sh g b ⟨(s : ℕ) - 1, by omega⟩ e * w (ix2 e o) else 0

/-- The convolution of three neighbouring rows, of any padded product `u`. -/
def convA (u : Fin 8194 → Fin 5632 → EReal) (wc : FVec Ideal S3x5632 .f32) (bc : FVec Ideal S1x5632 .f32) (s : Fin 8192) (o : Fin 5632) : EReal :=
  u ⟨s, by omega⟩ o * wc (ix2 0 o) + u ⟨s + 1, by omega⟩ o * wc (ix2 1 o) + u ⟨s + 2, by omega⟩ o * wc (ix2 2 o) + bc (ix2 0 o)

/-- The gated activation of a convolved row. -/
def gateA (v : Fin 5632 → EReal) (k : Fin 2816) : EReal :=
  v ⟨k, by omega⟩ * Ideal.logistic (v ⟨k, by omega⟩) * v ⟨k + 2816, by omega⟩

/-- The residual row. -/
def residA (h : FVec Ideal S4x8192x1024 .f32) (sc sh ga : FVec Ideal S4x1x1024 .f32) (g : FVec Ideal S1x1024 .f32) (w : FVec Ideal S1024x5632 .bf16) (wc : FVec Ideal S3x5632 .f32)
    (bc : FVec Ideal S1x5632 .f32) (wd : FVec Ideal S2816x1024 .bf16) (b : Fin 4) (s : Fin 8192) (d : Fin 1024) : EReal :=
  h (ix3 b s d) + ga (ix3 b 0 d) * ∑ k : Fin 2816, gateA (convA (upA h sc sh g w b) wc bc s) k * wd (ix2 k d)

/-- The result array. -/
def ffnArr (h : FVec Ideal S4x8192x1024 .f32) (sc sh ga : FVec Ideal S4x1x1024 .f32) (g : FVec Ideal S1x1024 .f32) (w : FVec Ideal S1024x5632 .bf16) (wc : FVec Ideal S3x5632 .f32)
    (bc : FVec Ideal S1x5632 .f32) (wd : FVec Ideal S2816x1024 .bf16) (gf : FVec Ideal S1x1024 .f32) : FVec Ideal S4x8192x1024 .f32 := fun j =>
  rms (residA h sc sh ga g w wc bc wd (j 0) (j 1)) (j 2) * gf (ix2 0 (j 2))

/-- Every window's block index, in the grid point's number. -/
theorem idx : ∀ t : Fin cfg0.N, win0_0.index t = ![t.val / 16, t.val % 16, 0] ∧ win0_1.index t = ![t.val / 16, t.val % 16 * 32 - 1, 0]
    ∧ win0_2.index t = ![t.val / 16, min ((t.val % 16 + 1) * 32) 511, 0] ∧ win0_3.index t = ![t.val / 16, 0, 0] ∧ win0_4.index t = ![t.val / 16, 0, 0]
    ∧ win0_5.index t = ![t.val / 16, 0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val / 16, t.val % 16, 0] :=
  (by decide +kernel : ∀ t : Fin grid0.N, _)

/-- The grid point's row block. -/
theorem row_coord : ∀ t : Fin cfg0.N, ((grid0.coords t) 1).val = t.val % 16 := (by decide +kernel : ∀ t : Fin grid0.N, _)

section blocks

variable (m : (ℓ : Loc nD τ sig) → Buf (Elt Ideal) ℓ) (c : Dev nD) (t : Fin cfg0.N)

/-- The batch of a grid point. -/
def bat : Fin 4 := ⟨t.val / 16, by have : t.val < 64 := t.isLt; omega⟩

theorem b0 (r : Fin 512) (e : Fin 1024) : (iblk m c 0 t : FVec Ideal S1x512x1024 .f32) (ix3 0 r e)
    = (m ((c : Thread nD τ).loc main_arg0) : FVec Ideal S4x8192x1024 .f32) (ix3 (bat t) ⟨t.val % 16 * 512 + r, by omega⟩ e) := by
  blk_ext [iblk, V, idx t, bat]

theorem b1 (h : 0 < t.val % 16) (e : Fin 1024) : (iblk m c 1 t : FVec Ideal S1x16x1024 .f32) (ix3 0 15 e)
    = (m ((c : Thread nD τ).loc main_arg0) : FVec Ideal S4x8192x1024 .f32) (ix3 (bat t) ⟨t.val % 16 * 512 - 1, by omega⟩ e) := by
  blk_ext [iblk, V, idx t, bat]

theorem b2 (h : t.val % 16 < 15) (e : Fin 1024) : (iblk m c 2 t : FVec Ideal S1x16x1024 .f32) (ix3 0 0 e)
    = (m ((c : Thread nD τ).loc main_arg0) : FVec Ideal S4x8192x1024 .f32) (ix3 (bat t) ⟨t.val % 16 * 512 + 512, by omega⟩ e) := by
  blk_ext [iblk, V, idx t, bat]

theorem b3 (e : Fin 1024) : (iblk m c 3 t : FVec Ideal S1x1x1024 .f32) (ix3 0 0 e)
    = (m ((c : Thread nD τ).loc main_arg1) : FVec Ideal S4x1x1024 .f32) (ix3 (bat t) 0 e) := by
  blk_ext [iblk, V, idx t, bat]

theorem b4 (e : Fin 1024) : (iblk m c 4 t : FVec Ideal S1x1x1024 .f32) (ix3 0 0 e)
    = (m ((c : Thread nD τ).loc main_arg2) : FVec Ideal S4x1x1024 .f32) (ix3 (bat t) 0 e) := by
  blk_ext [iblk, V, idx t, bat]

theorem b5 (e : Fin 1024) : (iblk m c 5 t : FVec Ideal S1x1x1024 .f32) (ix3 0 0 e)
    = (m ((c : Thread nD τ).loc main_arg3) : FVec Ideal S4x1x1024 .f32) (ix3 (bat t) 0 e) := by
  blk_ext [iblk, V, idx t, bat]

theorem b6 (e : Fin 1024) : (iblk m c 6 t : FVec Ideal S1x1024 .f32) (ix2 0 e) = (V m c main_v0 : FVec Ideal S1x1024 .f32) (ix2 0 e) := by
  blk_ext [iblk, idx t]

theorem b7 (e : Fin 1024) (o : Fin 5632) : (iblk m c 7 t : FVec Ideal S1024x5632 .bf16) (ix2 e o) = (V m c main_v1 : FVec Ideal S1024x5632 .bf16) (ix2 e o) := by
  blk_ext [iblk, idx t]

theorem b8 (k : Fin 3) (o : Fin 5632) : (iblk m c 8 t : FVec Ideal S3x5632 .f32) (ix2 k o)
    = (m ((c : Thread nD τ).loc main_arg6) : FVec Ideal S3x5632 .f32) (ix2 k o) := by
  blk_ext [iblk, V, idx t]

theorem b9 (o : Fin 5632) : (iblk m c 9 t : FVec Ideal S1x5632 .f32) (ix2 0 o) = (V m c main_v2 : FVec Ideal S1x5632 .f32) (ix2 0 o) := by
  blk_ext [iblk, idx t]

theorem b10 (k : Fin 2816) (d : Fin 1024) : (iblk m c 10 t : FVec Ideal S2816x1024 .bf16) (ix2 k d) = (V m c main_v3 : FVec Ideal S2816x1024 .bf16) (ix2 k d) := by
  blk_ext [iblk, idx t]

theorem b11 (d : Fin 1024) : (iblk m c 11 t : FVec Ideal S1x1024 .f32) (ix2 0 d) = (V m c main_v4 : FVec Ideal S1x1024 .f32) (ix2 0 d) := by
  blk_ext [iblk, idx t]

/-- The normed rows of a grid point, with the two neighbours. -/
def fpt : FVec Ideal S544x1024 .bf16 :=
  fext (grid0.coords t) (iblk m c 0 t) (iblk m c 1 t) (iblk m c 2 t) (iblk m c 3 t) (iblk m c 4 t) (iblk m c 6 t)

/-- The point's first product is the padded one, at its 514 rows. -/
theorem up_eq (q : Fin 514) (o : Fin 5632) : up (fpt m c t) (iblk m c 7 t) ⟨q + 15, by omega⟩ o
    = upA (m ((c : Thread nD τ).loc main_arg0)) (m ((c : Thread nD τ).loc main_arg1)) (m ((c : Thread nD τ).loc main_arg2)) (V m c main_v0) (V m c main_v1) (bat t)
      ⟨t.val % 16 * 512 + q, by omega⟩ o := by
  unfold up upA rowA fpt
  by_cases hq0 : (q : ℕ) = 0
  · have eq : (⟨(q : ℕ) + 15, by omega⟩ : Fin 544) = 15 := Fin.ext (by show (q : ℕ) + 15 = 15; omega)
    rw [eq]
    simp only [fext_before, row_coord, b7]
    by_cases h : 0 < t.val % 16
    · have hs : 1 ≤ t.val % 16 * 512 + (q : ℕ) ∧ t.val % 16 * 512 + (q : ℕ) < 8193 := by omega
      have e : ∀ p, (⟨t.val % 16 * 512 + (q : ℕ) - 1, p⟩ : Fin 8192) = ⟨t.val % 16 * 512 - 1, by omega⟩ := fun p => Fin.ext (by show t.val % 16 * 512 + (q : ℕ) - 1 = t.val % 16 * 512 - 1; omega)
      rw [dif_pos hs]
      simp only [if_pos h, mul_one, b1 m c t h, b3, b4, b6, e]
    · have hs : ¬ (1 ≤ t.val % 16 * 512 + (q : ℕ) ∧ t.val % 16 * 512 + (q : ℕ) < 8193) := by omega
      rw [dif_neg hs]
      simp only [if_neg h, mul_zero, zero_mul, Finset.sum_const_zero]
  by_cases hq1 : (q : ℕ) = 513
  · have eq : (⟨(q : ℕ) + 15, by omega⟩ : Fin 544) = 528 := Fin.ext (by show (q : ℕ) + 15 = 528; omega)
    rw [eq]
    simp only [fext_after, row_coord, b7]
    by_cases h : t.val % 16 < 15
    · have hs : 1 ≤ t.val % 16 * 512 + (q : ℕ) ∧ t.val % 16 * 512 + (q : ℕ) < 8193 := by omega
      have e : ∀ p, (⟨t.val % 16 * 512 + (q : ℕ) - 1, p⟩ : Fin 8192) = ⟨t.val % 16 * 512 + 512, by omega⟩ := fun p => Fin.ext (by show t.val % 16 * 512 + (q : ℕ) - 1 = t.val % 16 * 512 + 512; omega)
      rw [dif_pos hs]
      simp only [if_pos h, mul_one, b2 m c t h, b3, b4, b6, e]
    · have hs : ¬ (1 ≤ t.val % 16 * 512 + (q : ℕ) ∧ t.val % 16 * 512 + (q : ℕ) < 8193) := by omega
      rw [dif_neg hs]
      simp only [if_neg h, mul_zero, zero_mul, Finset.sum_const_zero]
  · have eq : (⟨(q : ℕ) + 15, by omega⟩ : Fin 544) = ⟨((⟨(q : ℕ) - 1, by omega⟩ : Fin 512) : ℕ) + 16, by simp only []; omega⟩ := Fin.ext (by show (q : ℕ) + 15 = (q : ℕ) - 1 + 16; omega)
    have hs : 1 ≤ t.val % 16 * 512 + (q : ℕ) ∧ t.val % 16 * 512 + (q : ℕ) < 8193 := by omega
    have e : ∀ p, (⟨t.val % 16 * 512 + ((q : ℕ) - 1), p⟩ : Fin 8192) = ⟨t.val % 16 * 512 + (q : ℕ) - 1, by omega⟩ := fun p => Fin.ext (by show t.val % 16 * 512 + ((q : ℕ) - 1) = t.val % 16 * 512 + (q : ℕ) - 1; omega)
    rw [eq, dif_pos hs]
    refine Finset.sum_congr rfl fun x _ => congrArg₂ (· * ·) ?_ (b7 m c t x o)
    refine (fext_mid _ _ _ _ _ _ _ ⟨(q : ℕ) - 1, by omega⟩ x).trans ?_
    simp only [b0, b3, b4, b6, e]

/-- The point's convolution is the array's. -/
theorem conv_eq (r : Fin 512) (o : Fin 5632) : conv (fpt m c t) (iblk m c 7 t) (iblk m c 8 t) (iblk m c 9 t) r o
    = convA (upA (m ((c : Thread nD τ).loc main_arg0)) (m ((c : Thread nD τ).loc main_arg1)) (m ((c : Thread nD τ).loc main_arg2)) (V m c main_v0) (V m c main_v1) (bat t))
      (m ((c : Thread nD τ).loc main_arg6)) (V m c main_v2) ⟨t.val % 16 * 512 + r, by omega⟩ o := by
  unfold conv convA
  have e0 := up_eq m c t ⟨r, by omega⟩ o
  have e1 := up_eq m c t ⟨r + 1, by omega⟩ o
  have e2 := up_eq m c t ⟨r + 2, by omega⟩ o
  refine congrArg₂ (· + ·) (congrArg₂ (· + ·) (congrArg₂ (· + ·) ?_ ?_) ?_) (b9 m c t o)
  · exact congrArg₂ (· * ·) e0 (b8 m c t 0 o)
  · exact congrArg₂ (· * ·) e1 (b8 m c t 1 o)
  · exact congrArg₂ (· * ·) e2 (b8 m c t 2 o)

/-- The stored block is the closed array at the place where it lies. -/
theorem core (x : S1x512x1024.Idx) (j : S4x8192x1024.Idx) (hj0 : (j 0 : ℕ) = t.val / 16) (hj1 : (j 1 : ℕ) = t.val % 16 * 512 + x 1) (hj2 : (j 2 : ℕ) = x 2) :
    blockOut (grid0.coords t) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) x
      = ffnArr (m ((c : Thread nD τ).loc main_arg0)) (m ((c : Thread nD τ).loc main_arg1)) (m ((c : Thread nD τ).loc main_arg2)) (m ((c : Thread nD τ).loc main_arg3))
        (V m c main_v0) (V m c main_v1) (m ((c : Thread nD τ).loc main_arg6)) (V m c main_v2) (V m c main_v3) (V m c main_v4) j := by
  have x1 : (x 1 : ℕ) < 512 := (x 1).isLt
  have x2 : (x 2 : ℕ) < 1024 := (x 2).isLt
  have hx : x = ix3 0 (x 1) (x 2) := by
    refine funext fun a => ?_
    match a with
    | 0 => exact Subsingleton.elim (α := Fin 1) _ _
    | 1 => rfl
    | 2 => rfl
  have g0 : (j 0 : Fin 4) = bat t := Fin.ext hj0
  have g1 : (j 1 : Fin 8192) = ⟨t.val % 16 * 512 + x 1, by omega⟩ := Fin.ext hj1
  have g2 : (j 2 : Fin 1024) = x 2 := Fin.ext hj2
  rw [hx]
  refine (block_at _ _ _ _ _ _ _ _ _ _ _ _ _ (x 1) (x 2)).trans ?_
  unfold ffnArr
  rw [g0, g1, g2]
  refine congrArg₂ (· * ·) (congrArg (fun h => rms h (x 2)) (funext fun d => ?_)) (b11 m c t (x 2))
  unfold resid residA gate gateA
  refine congrArg₂ (· + ·) (b0 m c t (x 1) d) (congrArg₂ (· * ·) (b5 m c t d) (Finset.sum_congr rfl fun k _ => congrArg₂ (· * ·) ?_ (b10 m c t k d)))
  have ea := conv_eq m c t (x 1) ⟨k, by omega⟩
  have eb := conv_eq m c t (x 1) ⟨k + 2816, by omega⟩
  exact congrArg₂ (· * ·) (congrArg₂ (· * ·) ea (congrArg Ideal.logistic ea)) eb

/-- The result array after the run. -/
theorem final : (dats m 0 c).arrAt 12 (cfgs 0).N
    = ffnArr (m ((c : Thread nD τ).loc main_arg0)) (m ((c : Thread nD τ).loc main_arg1)) (m ((c : Thread nD τ).loc main_arg2)) (m ((c : Thread nD τ).loc main_arg3))
        (V m c main_v0) (V m c main_v1) (m ((c : Thread nD τ).loc main_arg6)) (V m c main_v2) (V m c main_v3) (V m c main_v4) := by
  refine (dats m 0 c).arrAt_eq_of_covers 12 _ (by decide +kernel) fun t _ y => ?_
  blk_simp
  rw [after0_12]
  unfold outsAt0
  rw [out_eq]
  canon_tiles x h
  all_goals (refine core m c t x _ ?_ ?_ ?_ <;> blk_simp [idx t] <;> omega)

/-- The operands that the kernel reads reshaped or cast are the arguments themselves. -/
theorem staged : V m c main_v1 = (m ((c : Thread nD τ).loc main_arg5) : FVec Ideal S1024x5632 .f32)
    ∧ V m c main_v3 = (m ((c : Thread nD τ).loc main_arg8) : FVec Ideal S2816x1024 .f32) := by
  constructor
  · entry_read
    rfl
  · entry_read
    rfl

end blocks

end Cert.Kernel2Ideal.Value

end
-- ==== Proof.FfnRef.lean ====
/- The reference's convolutional feed-forward, read at one index: the modulated norm, the padded first product, the convolution, the gate, the
   residual and the last norm. -/
module

public import proofs.«01_k».proof.Proof.Gen.Reference2Ideal.Run
public import proofs.«01_k».proof.Proof.FfnPoint
public import Idealize.ShloMosaic.Lib.Tactic.CleanTypes

@[expose] public section

set_option maxRecDepth 16384

noncomputable section

namespace Cert.Reference2Ideal.Value

open Cert.Reference2Ideal Cert.Reference2Ideal.Gen Idealize.ShloMosaic Idealize.ShloMosaic.TcCoe Idealize.SL.Sem Idealize.ShloMosaic.StableHlo
open Cert.Kernel2Ideal.Value (rms normed)

/-- A row of channels, repeated along batches and rows. -/
def chan (g : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 g)

/-- A row of channels per batch, repeated along the rows. -/
def mods (x : FVec Ideal S4x1x1024 .f32) : FVec Ideal S4x8192x1024 .f32 :=
  broadcastInDim S4x8192x1024 ![0, 1, 2] bcast_S4x1x1024_S4x8192x1024_0_1_2 x

/-- Every row over the root of its mean square. -/
def unit (x : FVec Ideal S4x8192x1024 .f32) : FVec Ideal S4x8192x1024 .f32 :=
  mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))

/-- The modulated norm of the rows. -/
def modulated (h : FVec Ideal S4x8192x1024 .f32) (sc sh : FVec Ideal S4x1x1024 .f32) (g : FVec Ideal S1024 .f32) : FVec Ideal S4x8192x1024 .f32 :=
  addf (mulf (mulf (unit h) (chan g)) (mods (addf (broadcastInDim S4x1x1024 ![] bcast_S_S4x1x1024 (constant S_ .f32 0x3F800000#32)) sc))) (mods sh)

/-- The product with the first weights, a row of zeros before it and one after it. -/
def padded (f : FVec Ideal S4x8192x1024 .f32) (w : FVec Ideal S1024x5632 .f32) : FVec Ideal S4x8194x5632 .f32 :=
  pad S4x8194x5632 ![0, 1, 0] ![0, 1, 0] ![0, 0, 0] (Host.dotGeneral dot_S4x8192x1024_S1024x5632_S4x8192x5632_2_0_01_1_n_n none f w) (sitofp .f32 (constantI S_ 32 0#32)) pads_S4x8192x5632_S4x8194x5632_000_110_000 h_S_

/-- A row of columns, repeated along batches and rows. -/
def cols (x : FVec Ideal S5632 .f32) : FVec Ideal S4x8192x5632 .f32 :=
  broadcastInDim S4x8192x5632 ![0, 1, 2] bcast_S1x1x5632_S4x8192x5632_0_1_2 (broadcastInDim S1x1x5632 ![2] bcast_S5632_S1x1x5632_2 x)

/-- The convolution along the rows. -/
def convolved (p : FVec Ideal S4x8194x5632 .f32) (wc : FVec Ideal S3x5632 .f32) (bc : FVec Ideal S5632 .f32) : FVec Ideal S4x8192x5632 .f32 :=
  addf (addf (addf (cols bc)
    (mulf (extractStridedSlice S4x8192x5632 ![0, 0, 0] p slices_S4x8194x5632_S4x8192x5632_0_0_0) (cols (shapeCast _ (extractStridedSlice S1x5632 ![0, 0] wc slices_S3x5632_S1x5632_0_0) shapeCasts_S1x5632_S5632))))
    (mulf (extractStridedSlice S4x8192x5632 ![0, 1, 0] p slices_S4x8194x5632_S4x8192x5632_0_1_0) (cols (shapeCast _ (extractStridedSlice S1x5632 ![1, 0] wc slices_S3x5632_S1x5632_1_0) shapeCasts_S1x5632_S5632))))
    (mulf (extractStridedSlice S4x8192x5632 ![0, 2, 0] p slices_S4x8194x5632_S4x8192x5632_0_2_0) (cols (shapeCast _ (extractStridedSlice S1x5632 ![2, 0] wc slices_S3x5632_S1x5632_2_0) shapeCasts_S1x5632_S5632)))

/-- The gated activation. -/
def gated (u : FVec Ideal S4x8192x5632 .f32) : FVec Ideal S4x8192x2816 .f32 :=
  mulf (mulf (extractStridedSlice S4x8192x2816 ![0, 0, 0] u slices_S4x8192x5632_S4x8192x2816_0_0_0) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (extractStridedSlice S4x8192x2816 ![0, 0, 0] u slices_S4x8192x5632_S4x8192x2816_0_0_0)))))) (extractStridedSlice S4x8192x2816 ![0, 0, 2816] u slices_S4x8192x5632_S4x8192x2816_0_0_2816)

/-- The residual plus the gate times the product with the second weights. -/
def added (h : FVec Ideal S4x8192x1024 .f32) (ga : FVec Ideal S4x1x1024 .f32) (a : FVec Ideal S4x8192x2816 .f32) (w : FVec Ideal S2816x1024 .f32) : FVec Ideal S4x8192x1024 .f32 :=
  addf h (mulf (mods ga) (Host.dotGeneral dot_S4x8192x2816_S2816x1024_S4x8192x1024_2_0_01_1_n_n none a w))

/-- The reference's result. -/
def ffn (h : FVec Ideal S4x8192x1024 .f32) (sc sh ga : FVec Ideal S4x1x1024 .f32) (g : FVec Ideal S1024 .f32) (w : FVec Ideal S1024x5632 .f32) (wc : FVec Ideal S3x5632 .f32)
    (bc : FVec Ideal S5632 .f32) (wd : FVec Ideal S2816x1024 .f32) (gf : FVec Ideal S1024 .f32) : FVec Ideal S4x8192x1024 .f32 :=
  mulf (unit (added h ga (gated (convolved (padded (modulated h sc sh g) w) wc bc)) wd)) (chan gf)

theorem chan_at (g : FVec Ideal S1024 .f32) (b : Fin 4) (s : Fin 8192) (d : Fin 1024) : chan g (ix3 b s d) = g (ix1 d) := by
  unfold chan
  pointwise

theorem mods_at (x : FVec Ideal S4x1x1024 .f32) (b : Fin 4) (s : Fin 8192) (d : Fin 1024) : mods x (ix3 b s d) = x (ix3 b 0 d) := by
  unfold mods
  pointwise

theorem unit_at (x : FVec Ideal S4x8192x1024 .f32) (b : Fin 4) (s : Fin 8192) (d : Fin 1024) : unit x (ix3 b s d) = rms (fun d => x (ix3 b s d)) d := by
  unfold unit rms
  pointwise

theorem cols_at (x : FVec Ideal S5632 .f32) (b : Fin 4) (s : Fin 8192) (o : Fin 5632) : cols x (ix3 b s o) = x (ix1 o) := by
  unfold cols
  pointwise

/-- The modulated norm is the kernel's, the channel's factors associated the other way. -/
theorem modulated_at (h : FVec Ideal S4x8192x1024 .f32) (sc sh : FVec Ideal S4x1x1024 .f32) (g : FVec Ideal S1024 .f32) (b : Fin 4) (s : Fin 8192) (d : Fin 1024) :
    modulated h sc sh g (ix3 b s d) = normed (fun d => h (ix3 b s d)) (fun d => g (ix1 d)) (fun d => sc (ix3 b 0 d)) (fun d => sh (ix3 b 0 d)) d := by
  unfold modulated
  pointwise
  simp only [mods_at, unit_at, chan_at]
  unfold normed
  pointwise
  rw [mul_assoc]

/-- The first product, at an index. -/
def first (f : FVec Ideal S4x8192x1024 .f32) (w : FVec Ideal S1024x5632 .f32) (b : Fin 4) (s : Fin 8192) (o : Fin 5632) : EReal :=
  ∑ e : Fin 1024, f (ix3 b s e) * w (ix2 e o)

/-- The padded product at an index: zero at the two outer rows. -/
theorem padded_at (f : FVec Ideal S4x8192x1024 .f32) (w : FVec Ideal S1024x5632 .f32) (b : Fin 4) (s : Fin 8194) (o : Fin 5632) :
    padded f w (ix3 b s o) = if h : 1 ≤ (s : ℕ) ∧ (s : ℕ) < 8193 then first f w b ⟨(s : ℕ) - 1, by omega⟩ o else 0 := by
  unfold padded first
  pointwise
  have e : FloatOps.sitofp (F := Ideal) FTy.f32 0#32 = (0 : EReal) := by
    show (((0#32 : BitVec 32).toInt : ℝ) : EReal) = 0
    simp
  rw [e]
  have hi : (1 ≤ (s : ℕ) ∧ (s : ℕ) - 1 < 8192) = (1 ≤ (s : ℕ) ∧ (s : ℕ) < 8193) := propext (by omega)
  simp only [hi]

theorem convolved_at (p : FVec Ideal S4x8194x5632 .f32) (wc : FVec Ideal S3x5632 .f32) (bc : FVec Ideal S5632 .f32) (b : Fin 4) (s : Fin 8192) (o : Fin 5632) :
    convolved p wc bc (ix3 b s o) = p (ix3 b ⟨s, by omega⟩ o) * wc (ix2 0 o) + p (ix3 b ⟨s + 1, by omega⟩ o) * wc (ix2 1 o) + p (ix3 b ⟨s + 2, by omega⟩ o) * wc (ix2 2 o)
      + bc (ix1 o) := by
  unfold convolved
  pointwise
  simp only [cols_at]
  pointwise
  have e1 : 1 + (s : ℕ) = s + 1 := by omega
  have e2 : 2 + (s : ℕ) = s + 2 := by omega
  simp only [e1, e2]
  rw [add_assoc, add_assoc, add_comm, add_assoc, add_assoc, ← add_assoc, ← add_assoc]

theorem gated_at (u : FVec Ideal S4x8192x5632 .f32) (b : Fin 4) (s : Fin 8192) (k : Fin 2816) :
    gated u (ix3 b s k) = u (ix3 b s ⟨k, by omega⟩) * Ideal.logistic (u (ix3 b s ⟨k, by omega⟩)) * u (ix3 b s ⟨k + 2816, by omega⟩) := by
  unfold gated Ideal.logistic
  pointwise
  have e : 2816 + (k : ℕ) = k + 2816 := by omega
  simp only [e]

theorem added_at (h : FVec Ideal S4x8192x1024 .f32) (ga : FVec Ideal S4x1x1024 .f32) (a : FVec Ideal S4x8192x2816 .f32) (w : FVec Ideal S2816x1024 .f32) (b : Fin 4) (s : Fin 8192) (d : Fin 1024) :
    added h ga a w (ix3 b s d) = h (ix3 b s d) + ga (ix3 b 0 d) * ∑ k : Fin 2816, a (ix3 b s k) * w (ix2 k d) := by
  unfold added
  pointwise
  simp only [mods_at]

/-- The reference ends at its result, the arguments unchanged. -/
theorem run_ffn (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = ffn (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  have h := run (F := Ideal) m ρ
  unfold res_main_v64 at h
  unfold ffn unit added gated convolved padded modulated unit cols mods chan
  exact h

end Cert.Reference2Ideal.Value

end
-- ==== Proof.FfnClaim.lean ====
/- The feed-forward kernel's array and the reference's are one, so the two programs end at the same array. -/
module

public import proofs.«01_k».proof.Defs
public import proofs.«01_k».proof.Proof.Gen.Kernel2Ideal.Value
public import proofs.«01_k».proof.Proof.FfnArray
public import proofs.«01_k».proof.Proof.FfnRef

@[expose] public section

set_option maxRecDepth 16384

noncomputable section

namespace Cert.Ffn

open Idealize.ShloMosaic Idealize.ShloMosaic.TcCoe Idealize.SL.Sem
open Cert.Kernel2Ideal.Value (ffnArr upA convA gateA residA rowA rms)

section

open Cert.Reference2Ideal Cert.Reference2Ideal.Value

variable (h : FVec Ideal S4x8192x1024 .f32) (sc sh ga : FVec Ideal S4x1x1024 .f32) (g : FVec Ideal S1024 .f32) (w : FVec Ideal S1024x5632 .f32) (wc : FVec Ideal S3x5632 .f32)
  (bc : FVec Ideal S5632 .f32) (wd : FVec Ideal S2816x1024 .f32) (gf : FVec Ideal S1024 .f32)
  (g' gf' : FVec Ideal Cert.Kernel2Ideal.S1x1024 .f32) (bc' : FVec Ideal Cert.Kernel2Ideal.S1x5632 .f32)

/-- The padded products agree. -/
theorem up_eq (hg : ∀ e : Fin 1024, g' (ix2 0 e) = g (ix1 e)) (b : Fin 4) (s : Fin 8194) (o : Fin 5632) :
    padded (modulated h sc sh g) w (ix3 b s o) = upA h sc sh g' w b s o := by
  rw [padded_at]
  unfold upA first rowA
  simp only [modulated_at, hg]

/-- The convolutions agree. -/
theorem conv_eq (hg : ∀ e : Fin 1024, g' (ix2 0 e) = g (ix1 e)) (hbc : ∀ o : Fin 5632, bc' (ix2 0 o) = bc (ix1 o)) (b : Fin 4) (s : Fin 8192) (o : Fin 5632) :
    convolved (padded (modulated h sc sh g) w) wc bc (ix3 b s o) = convA (upA h sc sh g' w b) wc bc' s o := by
  rw [convolved_at]
  unfold convA
  simp only [up_eq h sc sh g w g' hg, hbc]

/-- The residual rows agree. -/
theorem resid_eq (hg : ∀ e : Fin 1024, g' (ix2 0 e) = g (ix1 e)) (hbc : ∀ o : Fin 5632, bc' (ix2 0 o) = bc (ix1 o)) (b : Fin 4) (s : Fin 8192) (d : Fin 1024) :
    added h ga (gated (convolved (padded (modulated h sc sh g) w) wc bc)) wd (ix3 b s d) = residA h sc sh ga g' w wc bc' wd b s d := by
  rw [added_at]
  unfold residA gateA
  simp only [gated_at, conv_eq h sc sh g w wc bc g' bc' hg hbc]

/-- The result arrays agree. -/
theorem ffnArr_eq (hg : ∀ e : Fin 1024, g' (ix2 0 e) = g (ix1 e)) (hbc : ∀ o : Fin 5632, bc' (ix2 0 o) = bc (ix1 o)) (hgf : ∀ d : Fin 1024, gf' (ix2 0 d) = gf (ix1 d)) :
    ffnArr h sc sh ga g' w wc bc' wd gf' = ffn h sc sh ga g w wc bc wd gf := by
  funext j
  idx_vars j
  unfold ffn
  refine Eq.trans ?_ (congrArg₂ (· * ·) (unit_at _ j0 j1 j2) (chan_at gf j0 j1 j2)).symm
  refine congrArg₂ (· * ·) (congrArg (fun r => rms r j2) (funext fun d => ?_)) (hgf j2)
  exact (resid_eq h sc sh ga g w wc bc wd g' bc' hg hbc j0 j1 d).symm

end

section

open Cert.Kernel2Ideal Cert.Kernel2Ideal.Gen

variable (m : (ℓ : Loc nD τ sig) → Buf (Elt Ideal) ℓ) (c : Dev nD)

/-- The first norm's channels, as the kernel reads them. -/
theorem staged_g (e : Fin 1024) : (V m c main_v0 : FVec Ideal S1x1024 .f32) (ix2 0 e) = (m ((c : Thread nD τ).loc main_arg4) : FVec Ideal S1024 .f32) (ix1 e) := by
  entry_read
  pointwise

/-- The convolution's bias, as the kernel reads it. -/
theorem staged_bc (o : Fin 5632) : (V m c main_v2 : FVec Ideal S1x5632 .f32) (ix2 0 o) = (m ((c : Thread nD τ).loc main_arg7) : FVec Ideal S5632 .f32) (ix1 o) := by
  entry_read
  pointwise

/-- The last norm's channels, as the kernel reads them. -/
theorem staged_gf (d : Fin 1024) : (V m c main_v4 : FVec Ideal S1x1024 .f32) (ix2 0 d) = (m ((c : Thread nD τ).loc main_arg9) : FVec Ideal S1024 .f32) (ix1 d) := by
  entry_read
  pointwise

end

end Cert.Ffn

namespace Cert.Proof

open Idealize.ShloMosaic Idealize.ShloMosaic.TcCoe Idealize.SL.Sem

/-- The idealized feed-forward and its reference end at the same array. -/
theorem algebraic2 : Cert.algebraic_Kernel2Ideal_Reference2Ideal := by
  intro m g m' g' _ hagree
  refine ⟨fun c => (Cert.Kernel2Ideal.Gen.dats m 0 c).arrAt 12 Cert.Kernel2Ideal.cfg0.N, Cert.Kernel2Ideal.Value.run_blocks m g, ?_⟩
  run_from Cert.Reference2Ideal.Value.run_ffn m' g'
  have e := Cert.Kernel2Ideal.Value.final m c
  rw [(Cert.Kernel2Ideal.Value.staged m c).1, (Cert.Kernel2Ideal.Value.staged m c).2] at e
  exact (e.trans (Cert.Ffn.ffnArr_eq _ _ _ _ _ _ _ _ _ _ _ _ _ (Cert.Ffn.staged_g m c) (Cert.Ffn.staged_bc m c) (Cert.Ffn.staged_gf m c))).symm

end Cert.Proof

end
-- ==== Proof.OutClaim.lean ====
/-
The attention's output projection and its residual: the kernel's result array entry by entry, the reference's, and their equality.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Tactic.CleanTypes

@[expose] public section

set_option maxRecDepth 16384

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The residual plus the gate times the row's product with the weights. -/
def outArr (h : FVec Ideal S4x8192x1024 .f32) (a : FVec Ideal S4x8192x1024 .bf16) (w : FVec Ideal S1024x1024 .bf16) (ga : FVec Ideal S4x1x1024 .f32) :
    FVec Ideal S4x8192x1024 .f32 := fun j =>
  h (ix3 (j 0) (j 1) (j 2)) + ga (ix3 (j 0) 0 (j 2)) * ∑ e : Fin 1024, a (ix3 (j 0) (j 1) e) * w (ix2 e (j 2))

/-- What a grid point stores, at an index. -/
theorem pay_at (x0 : FVec Ideal S1x1024x1024 .f32) (x1 : FVec Ideal S1x1024x1024 .bf16) (x2 : FVec Ideal S1024x1024 .bf16) (x3 : FVec Ideal S1x1x1024 .f32) (r d : Fin 1024) :
    k0_pay1 (F := Ideal) x0 x3 x1 x2 (ix3 0 r d) = x0 (ix3 0 r d) + x3 (ix3 0 0 d) * ∑ e : Fin 1024, x1 (ix3 0 r e) * x2 (ix2 e d) := by
  pointwise [k0_pay1]

/-- Every window's block index, in the grid point's number. -/
theorem idx : ∀ t : Fin cfg0.N, win0_0.index t = ![t.val / 8, t.val % 8, 0] ∧ win0_1.index t = ![t.val / 8, t.val % 8, 0]
    ∧ win0_2.index t = ![0, 0] ∧ win0_3.index t = ![t.val / 8, 0, 0] ∧ win0_4.index t = ![t.val / 8, t.val % 8, 0] :=
  (by decide +kernel : ∀ t : Fin grid0.N, _)

/-- The stored block is the closed array at the place where it lies. -/
theorem core (c : Dev nD) (t : Fin cfg0.N) (x : S1x1024x1024.Idx) (j : S4x8192x1024.Idx)
    (hj0 : (j 0 : ℕ) = t.val / 8) (hj1 : (j 1 : ℕ) = t.val % 8 * 1024 + x 1) (hj2 : (j 2 : ℕ) = x 2) :
    k0_pay1 (F := Ideal) (iblk m c 0 t) (iblk m c 3 t) (iblk m c 1 t) (iblk m c 2 t) x
      = outArr (m ((c : Thread nD τ).loc main_arg0)) (V m c main_v0) (V m c main_v1) (m ((c : Thread nD τ).loc main_arg3)) j := by
  have x1 : (x 1 : ℕ) < 1024 := (x 1).isLt
  have x2 : (x 2 : ℕ) < 1024 := (x 2).isLt
  have hx : x = ix3 0 (x 1) (x 2) := by
    refine funext fun a => ?_
    match a with
    | 0 => exact Subsingleton.elim (α := Fin 1) _ _
    | 1 => rfl
    | 2 => rfl
  have h0 : (iblk m c 0 t : FVec Ideal S1x1024x1024 .f32) (ix3 0 (x 1) (x 2))
      = (m ((c : Thread nD τ).loc main_arg0) : FVec Ideal S4x8192x1024 .f32) (ix3 (j 0) (j 1) (j 2)) := by
    blk_ext [iblk, V, idx t]
  have h3 : (iblk m c 3 t : FVec Ideal S1x1x1024 .f32) (ix3 0 0 (x 2))
      = (m ((c : Thread nD τ).loc main_arg3) : FVec Ideal S4x1x1024 .f32) (ix3 (j 0) 0 (j 2)) := by
    blk_ext [iblk, V, idx t]
  have h1 : ∀ e : Fin 1024, (iblk m c 1 t : FVec Ideal S1x1024x1024 .bf16) (ix3 0 (x 1) e)
      = (V m c main_v0 : FVec Ideal S4x8192x1024 .bf16) (ix3 (j 0) (j 1) e) := fun e => by
    blk_ext [iblk, idx t]
  have h2 : ∀ e : Fin 1024, (iblk m c 2 t : FVec Ideal S1024x1024 .bf16) (ix2 e (x 2))
      = (V m c main_v1 : FVec Ideal S1024x1024 .bf16) (ix2 e (j 2)) := fun e => by
    blk_ext [iblk, idx t]
  rw [hx]
  refine (pay_at _ _ _ _ (x 1) (x 2)).trans ?_
  unfold outArr
  simp only [h0, h1, h2, h3]

/-- The result array after the run. -/
theorem final (c : Dev nD) : (dats m 0 c).arrAt 4 (cfgs 0).N
    = outArr (m ((c : Thread nD τ).loc main_arg0)) (V m c main_v0) (V m c main_v1) (m ((c : Thread nD τ).loc main_arg3)) := by
  refine (dats m 0 c).arrAt_eq_of_covers 4 _ (by decide +kernel) fun t _ y => ?_
  blk_simp
  rw [after0_4]
  unfold out0_4
  simp (disch := decide) only [View.ld_unit_lit']
  canon_tiles x h
  all_goals (refine core m c t x _ ?_ ?_ ?_ <;> blk_simp [idx t] <;> omega)

/-- The two operands that the kernel reads cast are the arguments themselves. -/
theorem staged (c : Dev nD) : V m c main_v0 = (m ((c : Thread nD τ).loc main_arg1) : FVec Ideal S4x8192x1024 .f32)
    ∧ V m c main_v1 = (m ((c : Thread nD τ).loc main_arg2) : FVec Ideal S1024x1024 .f32) := by
  constructor
  · entry_read
    rfl
  · entry_read
    rfl

end Cert.Kernel3Ideal.Value

namespace Cert.Reference3Ideal.Value

open Cert.Reference3Ideal Cert.Reference3Ideal.Gen Idealize.ShloMosaic Idealize.ShloMosaic.TcCoe Idealize.SL.Sem Idealize.ShloMosaic.StableHlo

/-- The reference's result of residual, rows, weights and gate. -/
def res (h a : FVec Ideal S4x8192x1024 .f32) (w : FVec Ideal S1024x1024 .f32) (ga : FVec Ideal S4x1x1024 .f32) : FVec Ideal S4x8192x1024 .f32 :=
  addf h (mulf (broadcastInDim S4x8192x1024 ![0, 1, 2] bcast_S4x1x1024_S4x8192x1024_0_1_2 ga) (Host.dotGeneral dot_S4x8192x1024_S1024x1024_S4x8192x1024_2_0_01_1_n_n none a w))

/-- The reference's result at one index. -/
theorem res_at (h a : FVec Ideal S4x8192x1024 .f32) (w : FVec Ideal S1024x1024 .f32) (ga : FVec Ideal S4x1x1024 .f32) (b : Fin 4) (s : Fin 8192) (d : Fin 1024) :
    res h a w ga (ix3 b s d) = h (ix3 b s d) + ga (ix3 b 0 d) * ∑ e : Fin 1024, a (ix3 b s e) * w (ix2 e d) := by
  unfold res
  pointwise

/-- The reference ends at its result, the arguments unchanged. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = res (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold res
  exact run m ρ

end Cert.Reference3Ideal.Value

namespace Cert.Out

open Idealize.ShloMosaic Idealize.ShloMosaic.TcCoe Idealize.SL.Sem

/-- The kernel's array and the reference's are one. -/
theorem outArr_eq (h a : FVec Ideal Cert.Reference3Ideal.S4x8192x1024 .f32) (w : FVec Ideal Cert.Reference3Ideal.S1024x1024 .f32) (ga : FVec Ideal Cert.Reference3Ideal.S4x1x1024 .f32) :
    Cert.Kernel3Ideal.Value.outArr h a w ga = Cert.Reference3Ideal.Value.res h a w ga := by
  funext j
  idx_vars j
  exact (Cert.Reference3Ideal.Value.res_at h a w ga j0 j1 j2).symm

end Cert.Out

namespace Cert.Proof

open Idealize.ShloMosaic Idealize.ShloMosaic.TcCoe Idealize.SL.Sem

/-- The idealized output projection and its reference end at the same array. -/
theorem algebraic3 : Cert.algebraic_Kernel3Ideal_Reference3Ideal := by
  intro m g m' g' _ hagree
  refine ⟨fun c => (Cert.Kernel3Ideal.Gen.dats m 0 c).arrAt 4 Cert.Kernel3Ideal.cfg0.N, Cert.Kernel3Ideal.Value.run_blocks m g, ?_⟩
  run_from Cert.Reference3Ideal.Value.run_res m' g'
  have e := Cert.Kernel3Ideal.Value.final m c
  rw [(Cert.Kernel3Ideal.Value.staged m c).1, (Cert.Kernel3Ideal.Value.staged m c).2, Cert.Out.outArr_eq] at e
  exact e.symm

end Cert.Proof

end
-- ==== Proof.MixPoint.lean ====
/- The even layers' output projection, entry by entry: the kernel's result array. -/
module

public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Kernel5Ideal.Value

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- An entry of a head over the root of the head's mean square. -/
def rms128 (o : Fin 128 → EReal) (d : Fin 128) : EReal :=
  o d * Ideal.rsqrt (Ideal.div (∑ x : Fin 128, o x * o x) (Ideal.ofBits .f32 1124073472#32) + Ideal.ofBits .f32 897988541#32)

/-- The head of column `k`, its own columns read off a row of four heads. -/
def headOf (o : Fin 512 → EReal) (k : Fin 512) (d : Fin 128) : EReal := o ⟨(k : ℕ) / 128 * 128 + d, by omega⟩

/-- Column `k` of a row of four heads, every head over the root of its mean square. -/
def perHead (o : Fin 512 → EReal) (k : Fin 512) : EReal := rms128 (headOf o k) ⟨(k : ℕ) % 128, by omega⟩

theorem pay3_at (x2 x3 : FVec Ideal S1x1024x512 .bf16) (r : Fin 1024) (d : Fin 128) :
    k0_pay3 (F := Ideal) x2 x3 (ix2 r d) = rms128 (fun d => x2 (ix3 0 r ⟨d, by omega⟩) + x3 (ix3 0 r ⟨d, by omega⟩)) d := by
  unfold rms128
  pointwise [k0_pay3, k0_pay2]

theorem pay4_at (x2 x3 : FVec Ideal S1x1024x512 .bf16) (r : Fin 1024) (d : Fin 128) :
    k0_pay4 (F := Ideal) x2 x3 (ix2 r d) = rms128 (fun d => x2 (ix3 0 r ⟨128 + d, by omega⟩) + x3 (ix3 0 r ⟨128 + d, by omega⟩)) d := by
  unfold rms128
  pointwise [k0_pay4, k0_pay2]

theorem pay5_at (x2 x3 : FVec Ideal S1x1024x512 .bf16) (r : Fin 1024) (d : Fin 128) :
    k0_pay5 (F := Ideal) x2 x3 (ix2 r d) = rms128 (fun d => x2 (ix3 0 r ⟨256 + d, by omega⟩) + x3 (ix3 0 r ⟨256 + d, by omega⟩)) d := by
  unfold rms128
  pointwise [k0_pay5, k0_pay2]

theorem pay6_at (x2 x3 : FVec Ideal S1x1024x512 .bf16) (r : Fin 1024) (d : Fin 128) :
    k0_pay6 (F := Ideal) x2 x3 (ix2 r d) = x2 (ix3 0 r ⟨384 + d, by omega⟩) + x3 (ix3 0 r ⟨384 + d, by omega⟩) := by
  pointwise [k0_pay6, k0_pay2]

/-- The four heads in a row, the last one still over the root of its mean square. -/
def heads4 (a b c e : Fin 128 → EReal) (k : Fin 512) : EReal :=
  if h : (k : ℕ) < 128 then a ⟨k, h⟩ else if h1 : (k : ℕ) - 128 < 128 then b ⟨(k : ℕ) - 128, h1⟩
  else if h2 : (k : ℕ) - 128 - 128 < 128 then c ⟨(k : ℕ) - 128 - 128, h2⟩ else e ⟨(k : ℕ) - 128 - 128 - 128, by omega⟩

/-- The result's row `r` at column `d`, of the heads' rows. -/
theorem pay8_at (v17 v28 v39 v40 v41 : FVec Ideal S1024x128 .f32) (x5 : FVec Ideal S1x512 .f32) (x4 x1 : FVec Ideal S1x1024x512 .bf16) (wa wb : FVec Ideal S512x1024 .bf16)
    (x0 : FVec Ideal S1x1024x1024 .f32) (x7 : FVec Ideal S1x1x1024 .f32) (r d : Fin 1024) :
    k0_pay1 (F := Ideal) (k0_pay8 (F := Ideal) v17 v28 v39 v40 v41 x5 x4 x1 wa wb x0 x7) (ix3 0 r d)
      = x0 (ix3 0 r d) + x7 (ix3 0 0 d) * ((∑ e : Fin 512, x1 (ix3 0 r e) * wa (ix2 e d))
        + ∑ e : Fin 512, heads4 (fun d => v17 (ix2 r d)) (fun d => v28 (ix2 r d)) (fun d => v39 (ix2 r d))
            (fun d => v40 (ix2 r d) * Ideal.rsqrt (Ideal.div (∑ x : Fin 128, v41 (ix2 r x)) (Ideal.ofBits .f32 1124073472#32) + Ideal.ofBits .f32 897988541#32)) e
          * x5 (ix2 0 e) * (x4 (ix3 0 r e) * Ideal.logistic (x4 (ix3 0 r e))) * wb (ix2 e d)) := by
  pointwise [k0_pay1, k0_pay8]
  rfl

/-- A head's columns in a row of four heads, over the root of its mean square. -/
theorem rms_head (o : Fin 512 → EReal) (k : Fin 512) (q : ℕ) (hq : q ≤ 384) (f : Fin 128 → EReal) (d : Fin 128) (hf : ∀ d, f d = o ⟨q + d, by omega⟩)
    (h1 : (k : ℕ) / 128 * 128 = q) (h2 : (k : ℕ) % 128 = d) : rms128 f d = perHead o k := by
  unfold perHead
  have e : f = headOf o k := funext fun x => (hf x).trans (congrArg o (Fin.ext (by simp only []; omega)))
  rw [e]
  exact congrArg _ (Fin.ext h2.symm)

/-- The kernel's row of heads is every head over the root of its mean square. -/
theorem heads4_at (x2 x3 : FVec Ideal S1x1024x512 .bf16) (r : Fin 1024) (k : Fin 512) :
    heads4 (fun d => k0_pay3 (F := Ideal) x2 x3 (ix2 r d)) (fun d => k0_pay4 (F := Ideal) x2 x3 (ix2 r d)) (fun d => k0_pay5 (F := Ideal) x2 x3 (ix2 r d))
      (fun d => k0_pay6 (F := Ideal) x2 x3 (ix2 r d) * Ideal.rsqrt (Ideal.div (∑ x : Fin 128, k0_pay7 (F := Ideal) x2 x3 (ix2 r x)) (Ideal.ofBits .f32 1124073472#32) + Ideal.ofBits .f32 897988541#32)) k
      = perHead (fun k => x2 (ix3 0 r k) + x3 (ix3 0 r k)) k := by
  have e7 : ∀ x : Fin 128, k0_pay7 (F := Ideal) x2 x3 (ix2 r x) = k0_pay6 (F := Ideal) x2 x3 (ix2 r x) * k0_pay6 (F := Ideal) x2 x3 (ix2 r x) := fun x => rfl
  unfold heads4
  split
  · rename_i h
    refine (pay3_at x2 x3 r _).trans (rms_head _ k 0 (by omega) _ _ (fun d => ?_) (by omega) (by simp only []; omega))
    simp only [Nat.zero_add]
  · split
    · refine (pay4_at x2 x3 r _).trans (rms_head _ k 128 (by omega) _ _ (fun d => rfl) (by omega) (by simp only []; omega))
    · split
      · refine (pay5_at x2 x3 r _).trans (rms_head _ k 256 (by omega) _ _ (fun d => rfl) (by omega) (by simp only []; omega))
      · simp only [e7, pay6_at]
        refine (rms_head _ k 384 (by omega) (fun d => x2 (ix3 0 r ⟨384 + d, by omega⟩) + x3 (ix3 0 r ⟨384 + d, by omega⟩)) ⟨(k : ℕ) - 128 - 128 - 128, by omega⟩ (fun d => rfl)
          (by omega) (by simp only []; omega))

/-- The residual plus the gate times the product of the mixed row, its first half given and its second half the scaled heads, with the weights. -/
def mixArr (h : FVec Ideal S4x8192x1024 .f32) (f oa ob r : FVec Ideal S4x8192x512 .bf16) (g : FVec Ideal S1x512 .f32) (w : FVec Ideal S1024x1024 .bf16) (ga : FVec Ideal S4x1x1024 .f32) :
    FVec Ideal S4x8192x1024 .f32 := fun j =>
  h (ix3 (j 0) (j 1) (j 2)) + ga (ix3 (j 0) 0 (j 2)) * ((∑ e : Fin 512, f (ix3 (j 0) (j 1) e) * w (ix2 ⟨e, by omega⟩ (j 2)))
    + ∑ e : Fin 512, perHead (fun k => oa (ix3 (j 0) (j 1) k) + ob (ix3 (j 0) (j 1) k)) e * g (ix2 0 e)
        * (r (ix3 (j 0) (j 1) e) * Ideal.logistic (r (ix3 (j 0) (j 1) e))) * w (ix2 ⟨512 + e, by omega⟩ (j 2)))

/-- What a grid point stores. -/
def stored (x0 : FVec Ideal S1x1024x1024 .f32) (x1 x2 x3 x4 : FVec Ideal S1x1024x512 .bf16) (x5 : FVec Ideal S1x512 .f32) (x6 : FVec Ideal S1024x1024 .bf16) (x7 : FVec Ideal S1x1x1024 .f32) :
    FVec Ideal S1x1024x1024 .f32 :=
  k0_pay1 (F := Ideal) (k0_pay8 (F := Ideal) (k0_pay3 x2 x3) (k0_pay4 x2 x3) (k0_pay5 x2 x3) (k0_pay6 x2 x3) (k0_pay7 x2 x3) x5 x4 x1
    (View.ld (Val := Elt Ideal) (e' := .bf16) x6 r0_2) (View.ld (Val := Elt Ideal) (e' := .bf16) x6 r0_3) x0 x7)

theorem top_at (x6 : FVec Ideal S1024x1024 .bf16) (e : Fin 512) (d : Fin 1024) : View.ld (Val := Elt Ideal) (e' := .bf16) x6 r0_2 (ix2 e d) = x6 (ix2 ⟨e, by omega⟩ d) := by
  pointwise

theorem bottom_at (x6 : FVec Ideal S1024x1024 .bf16) (e : Fin 512) (d : Fin 1024) : View.ld (Val := Elt Ideal) (e' := .bf16) x6 r0_3 (ix2 e d) = x6 (ix2 ⟨512 + e, by omega⟩ d) := by
  pointwise

/-- What a grid point stores, at an index. -/
theorem stored_at (x0 : FVec Ideal S1x1024x1024 .f32) (x1 x2 x3 x4 : FVec Ideal S1x1024x512 .bf16) (x5 : FVec Ideal S1x512 .f32) (x6 : FVec Ideal S1024x1024 .bf16) (x7 : FVec Ideal S1x1x1024 .f32)
    (r d : Fin 1024) : stored x0 x1 x2 x3 x4 x5 x6 x7 (ix3 0 r d)
      = x0 (ix3 0 r d) + x7 (ix3 0 0 d) * ((∑ e : Fin 512, x1 (ix3 0 r e) * x6 (ix2 ⟨e, by omega⟩ d))
        + ∑ e : Fin 512, perHead (fun k => x2 (ix3 0 r k) + x3 (ix3 0 r k)) e * x5 (ix2 0 e) * (x4 (ix3 0 r e) * Ideal.logistic (x4 (ix3 0 r e))) * x6 (ix2 ⟨512 + e, by omega⟩ d)) := by
  unfold stored
  refine (pay8_at _ _ _ _ _ _ _ _ _ _ _ _ r d).trans ?_
  simp only [heads4_at]
  exact congrArg₂ (· + ·) rfl (congrArg₂ (· * ·) rfl (congrArg₂ (· + ·) (Finset.sum_congr rfl fun e _ => congrArg₂ (· * ·) rfl (top_at x6 e d))
    (Finset.sum_congr rfl fun e _ => congrArg₂ (· * ·) rfl (bottom_at x6 e d))))

/-- Every window's block index, in the grid point's number. -/
theorem idx : ∀ t : Fin cfg0.N, win0_0.index t = ![t.val / 8, t.val % 8, 0] ∧ win0_1.index t = ![t.val / 8, t.val % 8, 0] ∧ win0_2.index t = ![t.val / 8, t.val % 8, 0]
    ∧ win0_3.index t = ![t.val / 8, t.val % 8, 0] ∧ win0_4.index t = ![t.val / 8, t.val % 8, 0] ∧ win0_5.index t = ![0, 0]
    ∧ win0_6.index t = ![0, 0] ∧ win0_7.index t = ![t.val / 8, 0, 0] ∧ win0_8.index t = ![t.val / 8, t.val % 8, 0] :=
  (by decide +kernel : ∀ t : Fin grid0.N, _)

/-- The stored block is the closed array at the place where it lies. -/
theorem core (c : Dev nD) (t : Fin cfg0.N) (x : S1x1024x1024.Idx) (j : S4x8192x1024.Idx)
    (hj0 : (j 0 : ℕ) = t.val / 8) (hj1 : (j 1 : ℕ) = t.val % 8 * 1024 + x 1) (hj2 : (j 2 : ℕ) = x 2) :
    stored (iblk m c 0 t) (iblk m c 1 t) (iblk m c 2 t) (iblk m c 3 t) (iblk m c 4 t) (iblk m c 5 t) (iblk m c 6 t) (iblk m c 7 t) x
      = mixArr (m ((c : Thread nD τ).loc main_arg0)) (V m c main_v0) (V m c main_v3) (V m c main_v6) (V m c main_v7) (V m c main_v8) (V m c main_v9)
          (m ((c : Thread nD τ).loc main_arg7)) j := by
  have x1 : (x 1 : ℕ) < 1024 := (x 1).isLt
  have x2 : (x 2 : ℕ) < 1024 := (x 2).isLt
  have hx : x = ix3 0 (x 1) (x 2) := by
    refine funext fun a => ?_
    match a with
    | 0 => exact Subsingleton.elim (α := Fin 1) _ _
    | 1 => rfl
    | 2 => rfl
  have h0 : (iblk m c 0 t : FVec Ideal S1x1024x1024 .f32) (ix3 0 (x 1) (x 2))
      = (m ((c : Thread nD τ).loc main_arg0) : FVec Ideal S4x8192x1024 .f32) (ix3 (j 0) (j 1) (j 2)) := by
    blk_ext [iblk, V, idx t]
  have h7 : (iblk m c 7 t : FVec Ideal S1x1x1024 .f32) (ix3 0 0 (x 2))
      = (m ((c : Thread nD τ).loc main_arg7) : FVec Ideal S4x1x1024 .f32) (ix3 (j 0) 0 (j 2)) := by
    blk_ext [iblk, V, idx t]
  have h1 : ∀ e : Fin 512, (iblk m c 1 t : FVec Ideal S1x1024x512 .bf16) (ix3 0 (x 1) e)
      = (V m c main_v0 : FVec Ideal S4x8192x512 .bf16) (ix3 (j 0) (j 1) e) := fun e => by
    blk_ext [iblk, idx t]
  have h2 : ∀ e : Fin 512, (iblk m c 2 t : FVec Ideal S1x1024x512 .bf16) (ix3 0 (x 1) e)
      = (V m c main_v3 : FVec Ideal S4x8192x512 .bf16) (ix3 (j 0) (j 1) e) := fun e => by
    blk_ext [iblk, idx t]
  have h3 : ∀ e : Fin 512, (iblk m c 3 t : FVec Ideal S1x1024x512 .bf16) (ix3 0 (x 1) e)
      = (V m c main_v6 : FVec Ideal S4x8192x512 .bf16) (ix3 (j 0) (j 1) e) := fun e => by
    blk_ext [iblk, idx t]
  have h4 : ∀ e : Fin 512, (iblk m c 4 t : FVec Ideal S1x1024x512 .bf16) (ix3 0 (x 1) e)
      = (V m c main_v7 : FVec Ideal S4x8192x512 .bf16) (ix3 (j 0) (j 1) e) := fun e => by
    blk_ext [iblk, idx t]
  have h5 : ∀ e : Fin 512, (iblk m c 5 t : FVec Ideal S1x512 .f32) (ix2 0 e) = (V m c main_v8 : FVec Ideal S1x512 .f32) (ix2 0 e) := fun e => by
    blk_ext [iblk, idx t]
  have h6 : ∀ e : Fin 1024, (iblk m c 6 t : FVec Ideal S1024x1024 .bf16) (ix2 e (x 2))
      = (V m c main_v9 : FVec Ideal S1024x1024 .bf16) (ix2 e (j 2)) := fun e => by
    blk_ext [iblk, idx t]
  rw [hx]
  refine (stored_at _ _ _ _ _ _ _ _ (x 1) (x 2)).trans ?_
  unfold mixArr
  simp only [h0, h1, h2, h3, h4, h5, h6, h7]

/-- The result array after the run. -/
theorem final (c : Dev nD) : (dats m 0 c).arrAt 8 (cfgs 0).N
    = mixArr (m ((c : Thread nD τ).loc main_arg0)) (V m c main_v0) (V m c main_v3) (V m c main_v6) (V m c main_v7) (V m c main_v8) (V m c main_v9)
        (m ((c : Thread nD τ).loc main_arg7)) := by
  refine (dats m 0 c).arrAt_eq_of_covers 8 _ (by decide +kernel) fun t _ y => ?_
  blk_simp
  rw [after0_8]
  unfold out0_8
  simp (disch := decide) only [View.ld_unit_lit']
  canon_tiles x h
  all_goals (refine core m c t x _ ?_ ?_ ?_ <;> blk_simp [idx t] <;> omega)

end Cert.Kernel5Ideal.Value

end
-- ==== Proof.QkvPoint.lean ====
/- The projection into heads and its rotation, at a grid point: what every store of the kernel holds, entry by entry. -/
module

public import proofs.«01_k».proof.Proof.Gen.Kernel4Ideal.Value
public import proofs.«01_k».proof.Proof.FfnPoint
public import proofs.«01_k».proof.Proof.MixPoint
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Cert.Kernel2Ideal.Value (rms normed)
open Cert.Kernel5Ideal.Value (rms128)

/-- The place half a head away. -/
def across (d : Fin 128) : Fin 128 := ⟨((d : ℕ) + 64) % 128, by omega⟩

/-- A head's normed and scaled row, every entry turned with the one half a head away. -/
def turned (x g c s : Fin 128 → EReal) (d : Fin 128) : EReal :=
  rms128 x d * g d * c d + rms128 x (across d) * g (across d) * s d

/-- The kernel's normed, scaled and turned rows of one head. -/
def turnV (x c s : FVec Ideal S256x128 .f32) (g : FVec Ideal S1x128 .f32) : FVec Ideal S1x1x256x128 .f32 :=
  k0_pay12 (F := Ideal) c s x g (rsqrt (addf (divf (shapeCast S256x1 (multiReduction .add [1] S256 (mulf x x) 0x00000000#32 reduces_S256x128_S256 (.inl rfl) rfl) shapeCasts_S256_S256x1)
    (broadcast S256x1 (Scalar.ofBits (F := Ideal) .f32 0x43000000#32))) (broadcast S256x1 (Scalar.ofBits (F := Ideal) .f32 0x358637BD#32))))

theorem turnV_at (x c s : FVec Ideal S256x128 .f32) (g : FVec Ideal S1x128 .f32) (r : Fin 256) (d : Fin 128) :
    turnV x c s g (ix4 0 0 r d) = turned (fun d => x (ix2 r d)) (fun d => g (ix2 0 d)) (fun d => c (ix2 r d)) (fun d => s (ix2 r d)) d := by
  have e : ((d : ℕ) + 128 - 64) % 128 = (d + 64) % 128 := by omega
  unfold turnV turned rms128 across
  pointwise [k0_pay12]
  simp only [e]

theorem ext0_at (v : FVec Ideal S256x1536 .f32) (r : Fin 256) (d : Fin 128) :
    extractStridedSlice S256x128 ![0, 0] v slices_S256x1536_o0_0_S256x128 (ix2 r d) = v (ix2 r ⟨0 + d, by omega⟩) := by
  pointwise

theorem ext128_at (v : FVec Ideal S256x1536 .f32) (r : Fin 256) (d : Fin 128) :
    extractStridedSlice S256x128 ![0, 128] v slices_S256x1536_o0_128_S256x128 (ix2 r d) = v (ix2 r ⟨128 + d, by omega⟩) := by
  pointwise

theorem ext256_at (v : FVec Ideal S256x1536 .f32) (r : Fin 256) (d : Fin 128) :
    extractStridedSlice S256x128 ![0, 256] v slices_S256x1536_o0_256_S256x128 (ix2 r d) = v (ix2 r ⟨256 + d, by omega⟩) := by
  pointwise

theorem ext384_at (v : FVec Ideal S256x1536 .f32) (r : Fin 256) (d : Fin 128) :
    extractStridedSlice S256x128 ![0, 384] v slices_S256x1536_o0_384_S256x128 (ix2 r d) = v (ix2 r ⟨384 + d, by omega⟩) := by
  pointwise

theorem ext512_at (v : FVec Ideal S256x1536 .f32) (r : Fin 256) (d : Fin 128) :
    extractStridedSlice S256x128 ![0, 512] v slices_S256x1536_o0_512_S256x128 (ix2 r d) = v (ix2 r ⟨512 + d, by omega⟩) := by
  pointwise

theorem ext640_at (v : FVec Ideal S256x1536 .f32) (r : Fin 256) (d : Fin 128) :
    extractStridedSlice S256x128 ![0, 640] v slices_S256x1536_o0_640_S256x128 (ix2 r d) = v (ix2 r ⟨640 + d, by omega⟩) := by
  pointwise

theorem ext768_at (v : FVec Ideal S256x1536 .f32) (r : Fin 256) (d : Fin 128) :
    extractStridedSlice S256x128 ![0, 768] v slices_S256x1536_o0_768_S256x128 (ix2 r d) = v (ix2 r ⟨768 + d, by omega⟩) := by
  pointwise

theorem ext896_at (v : FVec Ideal S256x1536 .f32) (r : Fin 256) (d : Fin 128) :
    extractStridedSlice S256x128 ![0, 896] v slices_S256x1536_o0_896_S256x128 (ix2 r d) = v (ix2 r ⟨896 + d, by omega⟩) := by
  pointwise

theorem ext1024_at (v : FVec Ideal S256x1536 .f32) (r : Fin 256) (d : Fin 128) :
    extractStridedSlice S256x128 ![0, 1024] v slices_S256x1536_o0_1024_S256x128 (ix2 r d) = v (ix2 r ⟨1024 + d, by omega⟩) := by
  pointwise

theorem ext1152_at (v : FVec Ideal S256x1536 .f32) (r : Fin 256) (d : Fin 128) :
    extractStridedSlice S256x128 ![0, 1152] v slices_S256x1536_o0_1152_S256x128 (ix2 r d) = v (ix2 r ⟨1152 + d, by omega⟩) := by
  pointwise

theorem ext1280_at (v : FVec Ideal S256x1536 .f32) (r : Fin 256) (d : Fin 128) :
    extractStridedSlice S256x128 ![0, 1280] v slices_S256x1536_o0_1280_S256x128 (ix2 r d) = v (ix2 r ⟨1280 + d, by omega⟩) := by
  pointwise

theorem ext1408_at (v : FVec Ideal S256x1536 .f32) (r : Fin 256) (d : Fin 128) :
    extractStridedSlice S256x128 ![0, 1408] v slices_S256x1536_o0_1408_S256x128 (ix2 r d) = v (ix2 r ⟨1408 + d, by omega⟩) := by
  pointwise

/-- The head whose columns begin at `o`, of the projected rows. -/
def headV (v : FVec Ideal S256x1536 .f32) (c s : FVec Ideal S256x128 .f32) (g : FVec Ideal S1x128 .f32) (o : ℕ) (ho : o + 128 ≤ 1536) (r : Fin 256) (d : Fin 128) : EReal :=
  turned (fun d => v (ix2 r ⟨o + d, by omega⟩)) (fun d => g (ix2 0 d)) (fun d => c (ix2 r d)) (fun d => s (ix2 r d)) d

section

variable (v : FVec Ideal S256x1536 .f32) (c s : FVec Ideal S256x128 .f32) (g : FVec Ideal S1x128 .f32) (r : Fin 256) (d : Fin 128)

theorem gain_at (g : FVec Ideal S1x128 .f32) (d : Fin 128) : k0_pay10 (F := Ideal) g (ix2 0 d) = g (ix2 0 d) := by
  pointwise [k0_pay10]

theorem head0 : turnV (extractStridedSlice S256x128 ![0, 0] v slices_S256x1536_o0_0_S256x128) c s (k0_pay10 (F := Ideal) g) (ix4 0 0 r d) = headV v c s g 0 (by omega) r d := by
  rw [turnV_at]
  unfold headV
  simp only [ext0_at, gain_at]

theorem head128 : turnV (extractStridedSlice S256x128 ![0, 128] v slices_S256x1536_o0_128_S256x128) c s (k0_pay10 (F := Ideal) g) (ix4 0 0 r d) = headV v c s g 128 (by omega) r d := by
  rw [turnV_at]
  unfold headV
  simp only [ext128_at, gain_at]

theorem head256 : turnV (extractStridedSlice S256x128 ![0, 256] v slices_S256x1536_o0_256_S256x128) c s (k0_pay10 (F := Ideal) g) (ix4 0 0 r d) = headV v c s g 256 (by omega) r d := by
  rw [turnV_at]
  unfold headV
  simp only [ext256_at, gain_at]

theorem head384 : turnV (extractStridedSlice S256x128 ![0, 384] v slices_S256x1536_o0_384_S256x128) c s (k0_pay10 (F := Ideal) g) (ix4 0 0 r d) = headV v c s g 384 (by omega) r d := by
  rw [turnV_at]
  unfold headV
  simp only [ext384_at, gain_at]

theorem head512 : turnV (extractStridedSlice S256x128 ![0, 512] v slices_S256x1536_o0_512_S256x128) c s (k0_pay10 (F := Ideal) g) (ix4 0 0 r d) = headV v c s g 512 (by omega) r d := by
  rw [turnV_at]
  unfold headV
  simp only [ext512_at, gain_at]

theorem head640 : turnV (extractStridedSlice S256x128 ![0, 640] v slices_S256x1536_o0_640_S256x128) c s (k0_pay10 (F := Ideal) g) (ix4 0 0 r d) = headV v c s g 640 (by omega) r d := by
  rw [turnV_at]
  unfold headV
  simp only [ext640_at, gain_at]

theorem head768 : turnV (extractStridedSlice S256x128 ![0, 768] v slices_S256x1536_o0_768_S256x128) c s (k0_pay10 (F := Ideal) g) (ix4 0 0 r d) = headV v c s g 768 (by omega) r d := by
  rw [turnV_at]
  unfold headV
  simp only [ext768_at, gain_at]

theorem head896 : turnV (extractStridedSlice S256x128 ![0, 896] v slices_S256x1536_o0_896_S256x128) c s (k0_pay10 (F := Ideal) g) (ix4 0 0 r d) = headV v c s g 896 (by omega) r d := by
  rw [turnV_at]
  unfold headV
  simp only [ext896_at, gain_at]

theorem head1024 : turnV (extractStridedSlice S256x128 ![0, 1024] v slices_S256x1536_o0_1024_S256x128) c s (k0_pay10 (F := Ideal) g) (ix4 0 0 r d) = headV v c s g 1024 (by omega) r d := by
  rw [turnV_at]
  unfold headV
  simp only [ext1024_at, gain_at]

theorem head1152 : turnV (extractStridedSlice S256x128 ![0, 1152] v slices_S256x1536_o0_1152_S256x128) c s (k0_pay10 (F := Ideal) g) (ix4 0 0 r d) = headV v c s g 1152 (by omega) r d := by
  rw [turnV_at]
  unfold headV
  simp only [ext1152_at, gain_at]

theorem q0a_at : k0_pay12 (F := Ideal) c s (k0_pay9 v) (k0_pay10 g) (k0_pay11 v) (ix4 0 0 r d) = headV v c s g 0 (by omega) r d :=
  (show k0_pay12 (F := Ideal) c s (k0_pay9 v) (k0_pay10 g) (k0_pay11 v) (ix4 0 0 r d) = turnV (extractStridedSlice S256x128 ![0, 0] v slices_S256x1536_o0_0_S256x128) c s (k0_pay10 (F := Ideal) g) (ix4 0 0 r d) from rfl).trans
    (head0 v c s g r d)

theorem q1a_at : k0_pay13 (F := Ideal) v c s g (ix4 0 0 r d) = headV v c s g 128 (by omega) r d :=
  (show k0_pay13 (F := Ideal) v c s g (ix4 0 0 r d) = turnV (extractStridedSlice S256x128 ![0, 128] v slices_S256x1536_o0_128_S256x128) c s (k0_pay10 (F := Ideal) g) (ix4 0 0 r d) from rfl).trans
    (head128 v c s g r d)

theorem q2a_at : k0_pay17 (F := Ideal) c s (k0_pay14 v) (k0_pay15 g) (k0_pay16 v) (Scalar.ofBits (F := Ideal) .f32 0x43000000#32) (ix4 0 0 r d) = headV v c s g 256 (by omega) r d :=
  (show k0_pay17 (F := Ideal) c s (k0_pay14 v) (k0_pay15 g) (k0_pay16 v) (Scalar.ofBits (F := Ideal) .f32 0x43000000#32) (ix4 0 0 r d) = turnV (extractStridedSlice S256x128 ![0, 256] v slices_S256x1536_o0_256_S256x128) c s (k0_pay10 (F := Ideal) g) (ix4 0 0 r d) from rfl).trans
    (head256 v c s g r d)

theorem q3a_at : k0_pay18 (F := Ideal) v c s g (ix4 0 0 r d) = headV v c s g 384 (by omega) r d :=
  (show k0_pay18 (F := Ideal) v c s g (ix4 0 0 r d) = turnV (extractStridedSlice S256x128 ![0, 384] v slices_S256x1536_o0_384_S256x128) c s (k0_pay10 (F := Ideal) g) (ix4 0 0 r d) from rfl).trans
    (head384 v c s g r d)

theorem q4a_at : k0_pay20 (F := Ideal) c s (k0_pay19 v) g (ix4 0 0 r d) = headV v c s g 512 (by omega) r d :=
  (show k0_pay20 (F := Ideal) c s (k0_pay19 v) g (ix4 0 0 r d) = turnV (extractStridedSlice S256x128 ![0, 512] v slices_S256x1536_o0_512_S256x128) c s (k0_pay10 (F := Ideal) g) (ix4 0 0 r d) from rfl).trans
    (head512 v c s g r d)

theorem q5a_at : k0_pay22 (F := Ideal) (k0_pay21 v c s g) (ix4 0 0 r d) = headV v c s g 640 (by omega) r d :=
  (show k0_pay22 (F := Ideal) (k0_pay21 v c s g) (ix4 0 0 r d) = turnV (extractStridedSlice S256x128 ![0, 640] v slices_S256x1536_o0_640_S256x128) c s (k0_pay10 (F := Ideal) g) (ix4 0 0 r d) from rfl).trans
    (head640 v c s g r d)

theorem q6a_at : k0_pay23 (F := Ideal) v c s g (ix4 0 0 r d) = headV v c s g 768 (by omega) r d :=
  (show k0_pay23 (F := Ideal) v c s g (ix4 0 0 r d) = turnV (extractStridedSlice S256x128 ![0, 768] v slices_S256x1536_o0_768_S256x128) c s (k0_pay10 (F := Ideal) g) (ix4 0 0 r d) from rfl).trans
    (head768 v c s g r d)

theorem q7a_at : k0_pay25 (F := Ideal) (k0_pay24 v c s g) (ix4 0 0 r d) = headV v c s g 896 (by omega) r d :=
  (show k0_pay25 (F := Ideal) (k0_pay24 v c s g) (ix4 0 0 r d) = turnV (extractStridedSlice S256x128 ![0, 896] v slices_S256x1536_o0_896_S256x128) c s (k0_pay10 (F := Ideal) g) (ix4 0 0 r d) from rfl).trans
    (head896 v c s g r d)

theorem k0a_at : k0_pay26 (F := Ideal) v c s g (ix4 0 0 r d) = headV v c s g 1024 (by omega) r d :=
  (show k0_pay26 (F := Ideal) v c s g (ix4 0 0 r d) = turnV (extractStridedSlice S256x128 ![0, 1024] v slices_S256x1536_o0_1024_S256x128) c s (k0_pay10 (F := Ideal) g) (ix4 0 0 r d) from rfl).trans
    (head1024 v c s g r d)

theorem k1a_at : k0_pay31 (F := Ideal) c s (k0_pay28 v) (k0_pay29 g) (k0_pay30 v) (ix4 0 0 r d) = headV v c s g 1152 (by omega) r d :=
  (show k0_pay31 (F := Ideal) c s (k0_pay28 v) (k0_pay29 g) (k0_pay30 v) (ix4 0 0 r d) = turnV (extractStridedSlice S256x128 ![0, 1152] v slices_S256x1536_o0_1152_S256x128) c s (k0_pay10 (F := Ideal) g) (ix4 0 0 r d) from rfl).trans
    (head1152 v c s g r d)

theorem v0a_at : k0_pay27 (F := Ideal) v (ix4 0 0 r d) = v (ix2 r ⟨1280 + d, by omega⟩) := by
  pointwise [k0_pay27]

theorem v1a_at : k0_pay32 (F := Ideal) v (ix4 0 0 r d) = v (ix2 r ⟨1408 + d, by omega⟩) := by
  pointwise [k0_pay32]

theorem q0b_at : k0_pay38 (F := Ideal) c s (k0_pay35 v) (k0_pay36 g) (k0_pay37 v) (ix4 0 0 r d) = headV v c s g 0 (by omega) r d :=
  (show k0_pay38 (F := Ideal) c s (k0_pay35 v) (k0_pay36 g) (k0_pay37 v) (ix4 0 0 r d) = turnV (extractStridedSlice S256x128 ![0, 0] v slices_S256x1536_o0_0_S256x128) c s (k0_pay10 (F := Ideal) g) (ix4 0 0 r d) from rfl).trans
    (head0 v c s g r d)

theorem q1b_at : k0_pay39 (F := Ideal) v c s g (ix4 0 0 r d) = headV v c s g 128 (by omega) r d :=
  (show k0_pay39 (F := Ideal) v c s g (ix4 0 0 r d) = turnV (extractStridedSlice S256x128 ![0, 128] v slices_S256x1536_o0_128_S256x128) c s (k0_pay10 (F := Ideal) g) (ix4 0 0 r d) from rfl).trans
    (head128 v c s g r d)

theorem q2b_at : k0_pay43 (F := Ideal) c s (k0_pay40 v) (k0_pay41 g) (k0_pay42 v) (Scalar.ofBits (F := Ideal) .f32 0x43000000#32) (ix4 0 0 r d) = headV v c s g 256 (by omega) r d :=
  (show k0_pay43 (F := Ideal) c s (k0_pay40 v) (k0_pay41 g) (k0_pay42 v) (Scalar.ofBits (F := Ideal) .f32 0x43000000#32) (ix4 0 0 r d) = turnV (extractStridedSlice S256x128 ![0, 256] v slices_S256x1536_o0_256_S256x128) c s (k0_pay10 (F := Ideal) g) (ix4 0 0 r d) from rfl).trans
    (head256 v c s g r d)

theorem q3b_at : k0_pay44 (F := Ideal) v c s g (ix4 0 0 r d) = headV v c s g 384 (by omega) r d :=
  (show k0_pay44 (F := Ideal) v c s g (ix4 0 0 r d) = turnV (extractStridedSlice S256x128 ![0, 384] v slices_S256x1536_o0_384_S256x128) c s (k0_pay10 (F := Ideal) g) (ix4 0 0 r d) from rfl).trans
    (head384 v c s g r d)

theorem q4b_at : k0_pay46 (F := Ideal) c s (k0_pay45 v) g (ix4 0 0 r d) = headV v c s g 512 (by omega) r d :=
  (show k0_pay46 (F := Ideal) c s (k0_pay45 v) g (ix4 0 0 r d) = turnV (extractStridedSlice S256x128 ![0, 512] v slices_S256x1536_o0_512_S256x128) c s (k0_pay10 (F := Ideal) g) (ix4 0 0 r d) from rfl).trans
    (head512 v c s g r d)

theorem q5b_at : k0_pay48 (F := Ideal) (k0_pay47 v c s g) (ix4 0 0 r d) = headV v c s g 640 (by omega) r d :=
  (show k0_pay48 (F := Ideal) (k0_pay47 v c s g) (ix4 0 0 r d) = turnV (extractStridedSlice S256x128 ![0, 640] v slices_S256x1536_o0_640_S256x128) c s (k0_pay10 (F := Ideal) g) (ix4 0 0 r d) from rfl).trans
    (head640 v c s g r d)

theorem q6b_at : k0_pay49 (F := Ideal) v c s g (ix4 0 0 r d) = headV v c s g 768 (by omega) r d :=
  (show k0_pay49 (F := Ideal) v c s g (ix4 0 0 r d) = turnV (extractStridedSlice S256x128 ![0, 768] v slices_S256x1536_o0_768_S256x128) c s (k0_pay10 (F := Ideal) g) (ix4 0 0 r d) from rfl).trans
    (head768 v c s g r d)

theorem q7b_at : k0_pay51 (F := Ideal) (k0_pay50 v c s g) (ix4 0 0 r d) = headV v c s g 896 (by omega) r d :=
  (show k0_pay51 (F := Ideal) (k0_pay50 v c s g) (ix4 0 0 r d) = turnV (extractStridedSlice S256x128 ![0, 896] v slices_S256x1536_o0_896_S256x128) c s (k0_pay10 (F := Ideal) g) (ix4 0 0 r d) from rfl).trans
    (head896 v c s g r d)

theorem k0b_at : k0_pay52 (F := Ideal) v c s g (ix4 0 0 r d) = headV v c s g 1024 (by omega) r d :=
  (show k0_pay52 (F := Ideal) v c s g (ix4 0 0 r d) = turnV (extractStridedSlice S256x128 ![0, 1024] v slices_S256x1536_o0_1024_S256x128) c s (k0_pay10 (F := Ideal) g) (ix4 0 0 r d) from rfl).trans
    (head1024 v c s g r d)

theorem k1b_at : k0_pay1 (F := Ideal) c s (k0_pay54 v) (k0_pay55 g) (k0_pay56 v) (ix4 0 0 r d) = headV v c s g 1152 (by omega) r d :=
  (show k0_pay1 (F := Ideal) c s (k0_pay54 v) (k0_pay55 g) (k0_pay56 v) (ix4 0 0 r d) = turnV (extractStridedSlice S256x128 ![0, 1152] v slices_S256x1536_o0_1152_S256x128) c s (k0_pay10 (F := Ideal) g) (ix4 0 0 r d) from rfl).trans
    (head1152 v c s g r d)

theorem v0b_at : k0_pay53 (F := Ideal) v (ix4 0 0 r d) = v (ix2 r ⟨1280 + d, by omega⟩) := by
  pointwise [k0_pay53]

theorem v1b_at : k0_pay2 (F := Ideal) v (ix4 0 0 r d) = v (ix2 r ⟨1408 + d, by omega⟩) := by
  pointwise [k0_pay2]

end

/-- Column `o` of row `s` of the projected block. -/
def projB (x0 : FVec Ideal S1x512x1024 .f32) (x1 x2 : FVec Ideal S1x1x1024 .f32) (x3 : FVec Ideal S1x1024 .f32) (x4 : FVec Ideal S1024x1536 .bf16) (s : Fin 512) (o : Fin 1536) : EReal :=
  ∑ e : Fin 1024, normed (fun d => x0 (ix3 0 s d)) (fun d => x3 (ix2 0 d)) (fun d => x1 (ix3 0 0 d)) (fun d => x2 (ix3 0 0 d)) e * x4 (ix2 e o)

section

variable (x0 : FVec Ideal S1x512x1024 .f32) (x1 x2 : FVec Ideal S1x1x1024 .f32) (x3 : FVec Ideal S1x1024 .f32) (x4 : FVec Ideal S1024x1536 .bf16) (x5 x6 : FVec Ideal S1x128 .f32)
  (x7 x8 : FVec Ideal S512x128 .f32) (r : Fin 256)

theorem pay3_at (y : FVec Ideal S1x256x1024 .f32) (o : Fin 1536) : k0_pay3 (F := Ideal) y x3 x1 x2 x4 (ix2 r o)
    = ∑ e : Fin 1024, normed (fun d => y (ix3 0 r d)) (fun d => x3 (ix2 0 d)) (fun d => x1 (ix3 0 0 d)) (fun d => x2 (ix3 0 0 d)) e * x4 (ix2 e o) := by
  unfold normed rms
  pointwise [k0_pay3]

theorem pay57_at (o : Fin 1536) : k0_pay57 (F := Ideal) x0 x1 x2 x3 x4 x5 x6 x7 x8 (ix2 r o) = projB x0 x1 x2 x3 x4 ⟨r, by omega⟩ o := by
  have h : ∀ d : Fin 1024, View.ld (Val := Elt Ideal) (e' := .f32) x0 r0_0 (ix3 0 r d) = x0 (ix3 0 ⟨r, by omega⟩ d) := fun d => by pointwise
  unfold k0_pay57
  simp (disch := decide) only [View.ld_unit_lit']
  refine (pay3_at x1 x2 x3 x4 r _ o).trans ?_
  unfold projB
  exact Finset.sum_congr rfl fun e _ => congrArg (fun f => normed f _ _ _ e * _) (funext h)

theorem pay58_at (o : Fin 1536) : k0_pay58 (F := Ideal) x0 x1 x2 x3 x4 x5 x6 x7 x8 (ix2 r o) = projB x0 x1 x2 x3 x4 ⟨256 + r, by omega⟩ o := by
  have h : ∀ d : Fin 1024, View.ld (Val := Elt Ideal) (e' := .f32) x0 r0_4 (ix3 0 r d) = x0 (ix3 0 ⟨256 + r, by omega⟩ d) := fun d => by pointwise
  unfold k0_pay58
  simp (disch := decide) only [View.ld_unit_lit']
  refine (show k0_pay6 (F := Ideal) _ _ x1 x2 x4 (ix2 r o) = k0_pay3 (F := Ideal) (View.ld (Val := Elt Ideal) (e' := .f32) x0 r0_4) x3 x1 x2 x4 (ix2 r o) from rfl).trans ?_
  refine (pay3_at x1 x2 x3 x4 r _ o).trans ?_
  unfold projB
  exact Finset.sum_congr rfl fun e _ => congrArg (fun f => normed f _ _ _ e * _) (funext h)

theorem pay59_at (d : Fin 128) : k0_pay59 (F := Ideal) x0 x1 x2 x3 x4 x5 x6 x7 x8 (ix2 r d) = x7 (ix2 ⟨r, by omega⟩ d) := by
  pointwise [k0_pay59, k0_pay7]

theorem pay60_at (d : Fin 128) : k0_pay60 (F := Ideal) x0 x1 x2 x3 x4 x5 x6 x7 x8 (ix2 r d) = x8 (ix2 ⟨r, by omega⟩ d) := by
  pointwise [k0_pay60, k0_pay8]

theorem pay61_at (d : Fin 128) : k0_pay61 (F := Ideal) x0 x1 x2 x3 x4 x5 x6 x7 x8 (ix2 r d) = x7 (ix2 ⟨256 + r, by omega⟩ d) := by
  pointwise [k0_pay61, k0_pay33]

theorem pay62_at (d : Fin 128) : k0_pay62 (F := Ideal) x0 x1 x2 x3 x4 x5 x6 x7 x8 (ix2 r d) = x8 (ix2 ⟨256 + r, by omega⟩ d) := by
  pointwise [k0_pay62, k0_pay34]

end

end Cert.Kernel4Ideal.Value

end
-- ==== Proof.QkvArray.lean ====
/- The projection's three result arrays, entry by entry. -/
module

public import proofs.«01_k».proof.Proof.QkvPoint
public import Idealize.ShloMosaic.Lib.Claim

@[expose] public section

set_option maxRecDepth 16384

noncomputable section

namespace Cert.Kernel4Ideal.Value

open Cert.Kernel4Ideal Cert.Kernel4Ideal.Gen Idealize.ShloMosaic Idealize.ShloMosaic.TcCoe Idealize.SL.Sem
open Idealize.ShloMosaic.Pipeline (Dat)
open Cert.Kernel2Ideal.Value (rms normed)
open Cert.Kernel5Ideal.Value (rms128)

/-- Column `o` of the projected row `s` of batch `b`. -/
def projA (h : FVec Ideal S4x8192x1024 .f32) (sc sh : FVec Ideal S4x1x1024 .f32) (g : FVec Ideal S1x1024 .f32) (w : FVec Ideal S1024x1536 .bf16) (b : Fin 4) (s : Fin 8192)
    (o : Fin 1536) : EReal :=
  ∑ e : Fin 1024, normed (fun d => h (ix3 b s d)) (fun d => g (ix2 0 d)) (fun d => sc (ix3 b 0 d)) (fun d => sh (ix3 b 0 d)) e * w (ix2 e o)

/-- The turned head whose columns begin at `o`, of any projection `p`. -/
def headA (p : Fin 4 → Fin 8192 → Fin 1536 → EReal) (g : FVec Ideal S1x128 .f32) (cs sn : FVec Ideal S8192x128 .f32) (o : ℕ) (ho : o + 128 ≤ 1536) (b : Fin 4) (s : Fin 8192)
    (d : Fin 128) : EReal :=
  turned (fun d => p b s ⟨o + d, by omega⟩) (fun d => g (ix2 0 d)) (fun d => cs (ix2 s d)) (fun d => sn (ix2 s d)) d

/-- The queries. -/
def qArr (p : Fin 4 → Fin 8192 → Fin 1536 → EReal) (g : FVec Ideal S1x128 .f32) (cs sn : FVec Ideal S8192x128 .f32) : FVec Ideal S4x8x8192x128 .f32 := fun j =>
  headA p g cs sn (128 * (j 1 : Fin 8)) (by have : (j 1 : ℕ) < 8 := (j 1).isLt; omega) (j 0) (j 2) (j 3)

/-- The keys. -/
def kArr (p : Fin 4 → Fin 8192 → Fin 1536 → EReal) (g : FVec Ideal S1x128 .f32) (cs sn : FVec Ideal S8192x128 .f32) : FVec Ideal S4x2x8192x128 .bf16 := fun j =>
  headA p g cs sn (1024 + 128 * (j 1 : Fin 2)) (by have : (j 1 : ℕ) < 2 := (j 1).isLt; omega) (j 0) (j 2) (j 3)

/-- The values. -/
def vArr (p : Fin 4 → Fin 8192 → Fin 1536 → EReal) : FVec Ideal S4x2x8192x128 .bf16 := fun j =>
  p (j 0) (j 2) ⟨1280 + 128 * (j 1 : Fin 2) + (j 3 : Fin 128), by have : (j 1 : ℕ) < 2 := (j 1).isLt; have : (j 3 : ℕ) < 128 := (j 3).isLt; omega⟩

/-- Every window's block index, in the grid point's number. -/
theorem idx : ∀ t : Fin cfg0.N, win0_0.index t = ![t.val / 16, t.val % 16, 0] ∧ win0_1.index t = ![t.val / 16, 0, 0] ∧ win0_2.index t = ![t.val / 16, 0, 0]
    ∧ win0_3.index t = ![0, 0] ∧ win0_4.index t = ![0, 0] ∧ win0_5.index t = ![0, 0] ∧ win0_6.index t = ![0, 0] ∧ win0_7.index t = ![t.val % 16, 0]
    ∧ win0_8.index t = ![t.val % 16, 0] ∧ win0_9.index t = ![t.val / 16, 0, t.val % 16, 0] ∧ win0_10.index t = ![t.val / 16, 0, t.val % 16, 0]
    ∧ win0_11.index t = ![t.val / 16, 0, t.val % 16, 0] :=
  (by decide +kernel : ∀ t : Fin grid0.N, _)

/-- A stored piece is read at its two last places. -/
theorem at_piece {α : Type} (P : S1x1x256x128.Idx → α) (x : S1x1x256x128.Idx) : P x = P (ix4 0 0 (x 2) (x 3)) := by
  refine congrArg P (funext fun a => ?_)
  match a with
  | 0 => exact Subsingleton.elim (α := Fin 1) _ _
  | 1 => exact Subsingleton.elim (α := Fin 1) _ _
  | 2 => rfl
  | 3 => rfl

section blocks

variable (m : (ℓ : Loc nD τ sig) → Buf (Elt Ideal) ℓ) (c : Dev nD) (t : Fin cfg0.N)

/-- The batch of a grid point. -/
def bat : Fin 4 := ⟨t.val / 16, by have : t.val < 64 := t.isLt; omega⟩

theorem b0 (r : Fin 512) (e : Fin 1024) : (iblk m c 0 t : FVec Ideal S1x512x1024 .f32) (ix3 0 r e)
    = (m ((c : Thread nD τ).loc main_arg0) : FVec Ideal S4x8192x1024 .f32) (ix3 (bat t) ⟨t.val % 16 * 512 + r, by omega⟩ e) := by
  blk_ext [iblk, V, idx t, bat]

theorem b1 (e : Fin 1024) : (iblk m c 1 t : FVec Ideal S1x1x1024 .f32) (ix3 0 0 e)
    = (m ((c : Thread nD τ).loc main_arg1) : FVec Ideal S4x1x1024 .f32) (ix3 (bat t) 0 e) := by
  blk_ext [iblk, V, idx t, bat]

theorem b2 (e : Fin 1024) : (iblk m c 2 t : FVec Ideal S1x1x1024 .f32) (ix3 0 0 e)
    = (m ((c : Thread nD τ).loc main_arg2) : FVec Ideal S4x1x1024 .f32) (ix3 (bat t) 0 e) := by
  blk_ext [iblk, V, idx t, bat]

theorem b3 (e : Fin 1024) : (iblk m c 3 t : FVec Ideal S1x1024 .f32) (ix2 0 e) = (V m c main_v32 : FVec Ideal S1x1024 .f32) (ix2 0 e) := by
  blk_ext [iblk, idx t]

theorem b4 (e : Fin 1024) (o : Fin 1536) : (iblk m c 4 t : FVec Ideal S1024x1536 .bf16) (ix2 e o) = (V m c main_v33 : FVec Ideal S1024x1536 .bf16) (ix2 e o) := by
  blk_ext [iblk, idx t]

theorem b5 (d : Fin 128) : (iblk m c 5 t : FVec Ideal S1x128 .f32) (ix2 0 d) = (V m c main_v34 : FVec Ideal S1x128 .f32) (ix2 0 d) := by
  blk_ext [iblk, idx t]

theorem b6 (d : Fin 128) : (iblk m c 6 t : FVec Ideal S1x128 .f32) (ix2 0 d) = (V m c main_v35 : FVec Ideal S1x128 .f32) (ix2 0 d) := by
  blk_ext [iblk, idx t]

theorem b7 (r : Fin 512) (d : Fin 128) : (iblk m c 7 t : FVec Ideal S512x128 .f32) (ix2 r d)
    = (V m c main_v29 : FVec Ideal S8192x128 .f32) (ix2 ⟨t.val % 16 * 512 + r, by omega⟩ d) := by
  blk_ext [iblk, idx t]

theorem b8 (r : Fin 512) (d : Fin 128) : (iblk m c 8 t : FVec Ideal S512x128 .f32) (ix2 r d)
    = (V m c main_v31 : FVec Ideal S8192x128 .f32) (ix2 ⟨t.val % 16 * 512 + r, by omega⟩ d) := by
  blk_ext [iblk, idx t]

/-- The projection of the run's arrays. -/
def projM : Fin 4 → Fin 8192 → Fin 1536 → EReal :=
  projA (m ((c : Thread nD τ).loc main_arg0)) (m ((c : Thread nD τ).loc main_arg1)) (m ((c : Thread nD τ).loc main_arg2)) (V m c main_v32) (V m c main_v33)

theorem proj_eq (r : Fin 512) (o : Fin 1536) : projB (iblk m c 0 t) (iblk m c 1 t) (iblk m c 2 t) (iblk m c 3 t) (iblk m c 4 t) r o
    = projM m c (bat t) ⟨t.val % 16 * 512 + r, by omega⟩ o := by
  unfold projB projM projA
  simp only [b0, b1, b2, b3, b4]

/-- The rows of the projected upper half. -/
theorem cola_eq (r : Fin 256) (o : Fin 1536) : k0_pay57 (F := Ideal) (iblk m c 0 t) (iblk m c 1 t) (iblk m c 2 t) (iblk m c 3 t) (iblk m c 4 t) (iblk m c 5 t) (iblk m c 6 t) (iblk m c 7 t) (iblk m c 8 t) (ix2 r o)
    = projM m c (bat t) ⟨t.val % 16 * 512 + ((r : ℕ)), by omega⟩ o :=
  (pay57_at _ _ _ _ _ _ _ _ _ r o).trans (proj_eq m c t ⟨r, by omega⟩ o)

theorem halfa_eq (gb gm : FVec Ideal S1x128 .f32) (hg : ∀ d, gb (ix2 0 d) = gm (ix2 0 d)) (o : ℕ) (ho : o + 128 ≤ 1536) (r : Fin 256) (d : Fin 128) :
    headV (k0_pay57 (F := Ideal) (iblk m c 0 t) (iblk m c 1 t) (iblk m c 2 t) (iblk m c 3 t) (iblk m c 4 t) (iblk m c 5 t) (iblk m c 6 t) (iblk m c 7 t) (iblk m c 8 t))
        (k0_pay59 (F := Ideal) (iblk m c 0 t) (iblk m c 1 t) (iblk m c 2 t) (iblk m c 3 t) (iblk m c 4 t) (iblk m c 5 t) (iblk m c 6 t) (iblk m c 7 t) (iblk m c 8 t))
        (k0_pay60 (F := Ideal) (iblk m c 0 t) (iblk m c 1 t) (iblk m c 2 t) (iblk m c 3 t) (iblk m c 4 t) (iblk m c 5 t) (iblk m c 6 t) (iblk m c 7 t) (iblk m c 8 t)) gb o ho r d
      = headA (projM m c) gm (V m c main_v29) (V m c main_v31) o ho (bat t) ⟨t.val % 16 * 512 + ((r : ℕ)), by omega⟩ d := by
  have e7 : ∀ d, k0_pay59 (F := Ideal) (iblk m c 0 t) (iblk m c 1 t) (iblk m c 2 t) (iblk m c 3 t) (iblk m c 4 t) (iblk m c 5 t) (iblk m c 6 t) (iblk m c 7 t) (iblk m c 8 t) (ix2 r d)
      = (V m c main_v29 : FVec Ideal S8192x128 .f32) (ix2 ⟨t.val % 16 * 512 + ((r : ℕ)), by omega⟩ d) := fun d =>
    (pay59_at _ _ _ _ _ _ _ _ _ r d).trans (b7 m c t ⟨r, by omega⟩ d)
  have e8 : ∀ d, k0_pay60 (F := Ideal) (iblk m c 0 t) (iblk m c 1 t) (iblk m c 2 t) (iblk m c 3 t) (iblk m c 4 t) (iblk m c 5 t) (iblk m c 6 t) (iblk m c 7 t) (iblk m c 8 t) (ix2 r d)
      = (V m c main_v31 : FVec Ideal S8192x128 .f32) (ix2 ⟨t.val % 16 * 512 + ((r : ℕ)), by omega⟩ d) := fun d =>
    (pay60_at _ _ _ _ _ _ _ _ _ r d).trans (b8 m c t ⟨r, by omega⟩ d)
  unfold headV headA
  simp only [cola_eq, e7, e8, hg]

theorem qa_core (o : ℕ) (ho : o + 128 ≤ 1536) (x : S1x1x256x128.Idx) (j : S4x8x8192x128.Idx) (h0 : (j 0 : ℕ) = t.val / 16) (h1 : o = 128 * (j 1 : ℕ))
    (h2 : (j 2 : ℕ) = t.val % 16 * 512 + ((x 2 : ℕ))) (h3 : (j 3 : ℕ) = x 3) :
    headV (k0_pay57 (F := Ideal) (iblk m c 0 t) (iblk m c 1 t) (iblk m c 2 t) (iblk m c 3 t) (iblk m c 4 t) (iblk m c 5 t) (iblk m c 6 t) (iblk m c 7 t) (iblk m c 8 t))
        (k0_pay59 (F := Ideal) (iblk m c 0 t) (iblk m c 1 t) (iblk m c 2 t) (iblk m c 3 t) (iblk m c 4 t) (iblk m c 5 t) (iblk m c 6 t) (iblk m c 7 t) (iblk m c 8 t))
        (k0_pay60 (F := Ideal) (iblk m c 0 t) (iblk m c 1 t) (iblk m c 2 t) (iblk m c 3 t) (iblk m c 4 t) (iblk m c 5 t) (iblk m c 6 t) (iblk m c 7 t) (iblk m c 8 t)) (iblk m c 5 t) o ho (x 2) (x 3)
      = qArr (projM m c) (V m c main_v34) (V m c main_v29) (V m c main_v31) j := by
  have x2 : (x 2 : ℕ) < 256 := (x 2).isLt
  have g0 : (j 0 : Fin 4) = bat t := Fin.ext h0
  have g2 : (j 2 : Fin 8192) = ⟨t.val % 16 * 512 + ((x 2 : ℕ)), by omega⟩ := Fin.ext h2
  have g3 : (j 3 : Fin 128) = x 3 := Fin.ext h3
  subst h1
  refine (halfa_eq m c t _ _ (b5 m c t) _ _ (x 2) (x 3)).trans ?_
  exact congr (congr (congrArg (headA _ _ _ _ _ _) g0.symm) g2.symm) g3.symm

theorem ka_core (o : ℕ) (ho : o + 128 ≤ 1536) (x : S1x1x256x128.Idx) (j : S4x2x8192x128.Idx) (h0 : (j 0 : ℕ) = t.val / 16) (h1 : o = 1024 + 128 * (j 1 : ℕ))
    (h2 : (j 2 : ℕ) = t.val % 16 * 512 + ((x 2 : ℕ))) (h3 : (j 3 : ℕ) = x 3) :
    headV (k0_pay57 (F := Ideal) (iblk m c 0 t) (iblk m c 1 t) (iblk m c 2 t) (iblk m c 3 t) (iblk m c 4 t) (iblk m c 5 t) (iblk m c 6 t) (iblk m c 7 t) (iblk m c 8 t))
        (k0_pay59 (F := Ideal) (iblk m c 0 t) (iblk m c 1 t) (iblk m c 2 t) (iblk m c 3 t) (iblk m c 4 t) (iblk m c 5 t) (iblk m c 6 t) (iblk m c 7 t) (iblk m c 8 t))
        (k0_pay60 (F := Ideal) (iblk m c 0 t) (iblk m c 1 t) (iblk m c 2 t) (iblk m c 3 t) (iblk m c 4 t) (iblk m c 5 t) (iblk m c 6 t) (iblk m c 7 t) (iblk m c 8 t)) (iblk m c 6 t) o ho (x 2) (x 3)
      = kArr (projM m c) (V m c main_v35) (V m c main_v29) (V m c main_v31) j := by
  have x2 : (x 2 : ℕ) < 256 := (x 2).isLt
  have g0 : (j 0 : Fin 4) = bat t := Fin.ext h0
  have g2 : (j 2 : Fin 8192) = ⟨t.val % 16 * 512 + ((x 2 : ℕ)), by omega⟩ := Fin.ext h2
  have g3 : (j 3 : Fin 128) = x 3 := Fin.ext h3
  subst h1
  refine (halfa_eq m c t _ _ (b6 m c t) _ _ (x 2) (x 3)).trans ?_
  exact congr (congr (congrArg (headA _ _ _ _ _ _) g0.symm) g2.symm) g3.symm

theorem va_core (o : ℕ) (ho : o + 128 ≤ 1536) (x : S1x1x256x128.Idx) (j : S4x2x8192x128.Idx) (h0 : (j 0 : ℕ) = t.val / 16) (h1 : o = 1280 + 128 * (j 1 : ℕ))
    (h2 : (j 2 : ℕ) = t.val % 16 * 512 + ((x 2 : ℕ))) (h3 : (j 3 : ℕ) = x 3) :
    k0_pay57 (F := Ideal) (iblk m c 0 t) (iblk m c 1 t) (iblk m c 2 t) (iblk m c 3 t) (iblk m c 4 t) (iblk m c 5 t) (iblk m c 6 t) (iblk m c 7 t) (iblk m c 8 t)
        (ix2 (x 2) ⟨o + (x 3 : Fin 128), by have : (x 3 : ℕ) < 128 := (x 3).isLt; omega⟩)
      = vArr (projM m c) j := by
  have x2 : (x 2 : ℕ) < 256 := (x 2).isLt
  have g0 : (j 0 : Fin 4) = bat t := Fin.ext h0
  have g2 : (j 2 : Fin 8192) = ⟨t.val % 16 * 512 + ((x 2 : ℕ)), by omega⟩ := Fin.ext h2
  have g3 : (j 3 : Fin 128) = x 3 := Fin.ext h3
  subst h1
  refine (cola_eq m c t (x 2) _).trans ?_
  refine congr (congr (congrArg (projM m c) g0.symm) g2.symm) (Fin.ext ?_)
  show 1280 + 128 * (j 1 : ℕ) + (x 3 : ℕ) = 1280 + 128 * (j 1 : ℕ) + (j 3 : ℕ)
  rw [h3]

/-- The rows of the projected lower half. -/
theorem colb_eq (r : Fin 256) (o : Fin 1536) : k0_pay58 (F := Ideal) (iblk m c 0 t) (iblk m c 1 t) (iblk m c 2 t) (iblk m c 3 t) (iblk m c 4 t) (iblk m c 5 t) (iblk m c 6 t) (iblk m c 7 t) (iblk m c 8 t) (ix2 r o)
    = projM m c (bat t) ⟨t.val % 16 * 512 + (256 + (r : ℕ)), by omega⟩ o :=
  (pay58_at _ _ _ _ _ _ _ _ _ r o).trans (proj_eq m c t ⟨256 + r, by omega⟩ o)

theorem halfb_eq (gb gm : FVec Ideal S1x128 .f32) (hg : ∀ d, gb (ix2 0 d) = gm (ix2 0 d)) (o : ℕ) (ho : o + 128 ≤ 1536) (r : Fin 256) (d : Fin 128) :
    headV (k0_pay58 (F := Ideal) (iblk m c 0 t) (iblk m c 1 t) (iblk m c 2 t) (iblk m c 3 t) (iblk m c 4 t) (iblk m c 5 t) (iblk m c 6 t) (iblk m c 7 t) (iblk m c 8 t))
        (k0_pay61 (F := Ideal) (iblk m c 0 t) (iblk m c 1 t) (iblk m c 2 t) (iblk m c 3 t) (iblk m c 4 t) (iblk m c 5 t) (iblk m c 6 t) (iblk m c 7 t) (iblk m c 8 t))
        (k0_pay62 (F := Ideal) (iblk m c 0 t) (iblk m c 1 t) (iblk m c 2 t) (iblk m c 3 t) (iblk m c 4 t) (iblk m c 5 t) (iblk m c 6 t) (iblk m c 7 t) (iblk m c 8 t)) gb o ho r d
      = headA (projM m c) gm (V m c main_v29) (V m c main_v31) o ho (bat t) ⟨t.val % 16 * 512 + (256 + (r : ℕ)), by omega⟩ d := by
  have e7 : ∀ d, k0_pay61 (F := Ideal) (iblk m c 0 t) (iblk m c 1 t) (iblk m c 2 t) (iblk m c 3 t) (iblk m c 4 t) (iblk m c 5 t) (iblk m c 6 t) (iblk m c 7 t) (iblk m c 8 t) (ix2 r d)
      = (V m c main_v29 : FVec Ideal S8192x128 .f32) (ix2 ⟨t.val % 16 * 512 + (256 + (r : ℕ)), by omega⟩ d) := fun d =>
    (pay61_at _ _ _ _ _ _ _ _ _ r d).trans (b7 m c t ⟨256 + r, by omega⟩ d)
  have e8 : ∀ d, k0_pay62 (F := Ideal) (iblk m c 0 t) (iblk m c 1 t) (iblk m c 2 t) (iblk m c 3 t) (iblk m c 4 t) (iblk m c 5 t) (iblk m c 6 t) (iblk m c 7 t) (iblk m c 8 t) (ix2 r d)
      = (V m c main_v31 : FVec Ideal S8192x128 .f32) (ix2 ⟨t.val % 16 * 512 + (256 + (r : ℕ)), by omega⟩ d) := fun d =>
    (pay62_at _ _ _ _ _ _ _ _ _ r d).trans (b8 m c t ⟨256 + r, by omega⟩ d)
  unfold headV headA
  simp only [colb_eq, e7, e8, hg]

theorem qb_core (o : ℕ) (ho : o + 128 ≤ 1536) (x : S1x1x256x128.Idx) (j : S4x8x8192x128.Idx) (h0 : (j 0 : ℕ) = t.val / 16) (h1 : o = 128 * (j 1 : ℕ))
    (h2 : (j 2 : ℕ) = t.val % 16 * 512 + (256 + (x 2 : ℕ))) (h3 : (j 3 : ℕ) = x 3) :
    headV (k0_pay58 (F := Ideal) (iblk m c 0 t) (iblk m c 1 t) (iblk m c 2 t) (iblk m c 3 t) (iblk m c 4 t) (iblk m c 5 t) (iblk m c 6 t) (iblk m c 7 t) (iblk m c 8 t))
        (k0_pay61 (F := Ideal) (iblk m c 0 t) (iblk m c 1 t) (iblk m c 2 t) (iblk m c 3 t) (iblk m c 4 t) (iblk m c 5 t) (iblk m c 6 t) (iblk m c 7 t) (iblk m c 8 t))
        (k0_pay62 (F := Ideal) (iblk m c 0 t) (iblk m c 1 t) (iblk m c 2 t) (iblk m c 3 t) (iblk m c 4 t) (iblk m c 5 t) (iblk m c 6 t) (iblk m c 7 t) (iblk m c 8 t)) (iblk m c 5 t) o ho (x 2) (x 3)
      = qArr (projM m c) (V m c main_v34) (V m c main_v29) (V m c main_v31) j := by
  have x2 : (x 2 : ℕ) < 256 := (x 2).isLt
  have g0 : (j 0 : Fin 4) = bat t := Fin.ext h0
  have g2 : (j 2 : Fin 8192) = ⟨t.val % 16 * 512 + (256 + (x 2 : ℕ)), by omega⟩ := Fin.ext h2
  have g3 : (j 3 : Fin 128) = x 3 := Fin.ext h3
  subst h1
  refine (halfb_eq m c t _ _ (b5 m c t) _ _ (x 2) (x 3)).trans ?_
  exact congr (congr (congrArg (headA _ _ _ _ _ _) g0.symm) g2.symm) g3.symm

theorem kb_core (o : ℕ) (ho : o + 128 ≤ 1536) (x : S1x1x256x128.Idx) (j : S4x2x8192x128.Idx) (h0 : (j 0 : ℕ) = t.val / 16) (h1 : o = 1024 + 128 * (j 1 : ℕ))
    (h2 : (j 2 : ℕ) = t.val % 16 * 512 + (256 + (x 2 : ℕ))) (h3 : (j 3 : ℕ) = x 3) :
    headV (k0_pay58 (F := Ideal) (iblk m c 0 t) (iblk m c 1 t) (iblk m c 2 t) (iblk m c 3 t) (iblk m c 4 t) (iblk m c 5 t) (iblk m c 6 t) (iblk m c 7 t) (iblk m c 8 t))
        (k0_pay61 (F := Ideal) (iblk m c 0 t) (iblk m c 1 t) (iblk m c 2 t) (iblk m c 3 t) (iblk m c 4 t) (iblk m c 5 t) (iblk m c 6 t) (iblk m c 7 t) (iblk m c 8 t))
        (k0_pay62 (F := Ideal) (iblk m c 0 t) (iblk m c 1 t) (iblk m c 2 t) (iblk m c 3 t) (iblk m c 4 t) (iblk m c 5 t) (iblk m c 6 t) (iblk m c 7 t) (iblk m c 8 t)) (iblk m c 6 t) o ho (x 2) (x 3)
      = kArr (projM m c) (V m c main_v35) (V m c main_v29) (V m c main_v31) j := by
  have x2 : (x 2 : ℕ) < 256 := (x 2).isLt
  have g0 : (j 0 : Fin 4) = bat t := Fin.ext h0
  have g2 : (j 2 : Fin 8192) = ⟨t.val % 16 * 512 + (256 + (x 2 : ℕ)), by omega⟩ := Fin.ext h2
  have g3 : (j 3 : Fin 128) = x 3 := Fin.ext h3
  subst h1
  refine (halfb_eq m c t _ _ (b6 m c t) _ _ (x 2) (x 3)).trans ?_
  exact congr (congr (congrArg (headA _ _ _ _ _ _) g0.symm) g2.symm) g3.symm

theorem vb_core (o : ℕ) (ho : o + 128 ≤ 1536) (x : S1x1x256x128.Idx) (j : S4x2x8192x128.Idx) (h0 : (j 0 : ℕ) = t.val / 16) (h1 : o = 1280 + 128 * (j 1 : ℕ))
    (h2 : (j 2 : ℕ) = t.val % 16 * 512 + (256 + (x 2 : ℕ))) (h3 : (j 3 : ℕ) = x 3) :
    k0_pay58 (F := Ideal) (iblk m c 0 t) (iblk m c 1 t) (iblk m c 2 t) (iblk m c 3 t) (iblk m c 4 t) (iblk m c 5 t) (iblk m c 6 t) (iblk m c 7 t) (iblk m c 8 t)
        (ix2 (x 2) ⟨o + (x 3 : Fin 128), by have : (x 3 : ℕ) < 128 := (x 3).isLt; omega⟩)
      = vArr (projM m c) j := by
  have x2 : (x 2 : ℕ) < 256 := (x 2).isLt
  have g0 : (j 0 : Fin 4) = bat t := Fin.ext h0
  have g2 : (j 2 : Fin 8192) = ⟨t.val % 16 * 512 + (256 + (x 2 : ℕ)), by omega⟩ := Fin.ext h2
  have g3 : (j 3 : Fin 128) = x 3 := Fin.ext h3
  subst h1
  refine (colb_eq m c t (x 2) _).trans ?_
  refine congr (congr (congrArg (projM m c) g0.symm) g2.symm) (Fin.ext ?_)
  show 1280 + 128 * (j 1 : ℕ) + (x 3 : ℕ) = 1280 + 128 * (j 1 : ℕ) + (j 3 : ℕ)
  rw [h3]

set_option maxHeartbeats 8000000 in
/-- The queries after the run. -/
theorem final_q : (dats m 0 c).arrAt 9 (cfgs 0).N = qArr (projM m c) (V m c main_v34) (V m c main_v29) (V m c main_v31) := by
  refine (dats m 0 c).arrAt_eq_of_covers 9 _ (by decide +kernel) fun t _ y => ?_
  blk_simp
  rw [after0_9]
  unfold out0_9
  simp (disch := decide) only [View.ld_unit_lit']
  canon_tiles x h
  · refine (at_piece _ x).trans ((q7b_at _ _ _ _ (x 2) (x 3)).trans (qb_core m c t 896 (by omega) x _ ?_ ?_ ?_ ?_)) <;> blk_simp [idx t] <;> omega
  · refine (at_piece _ x).trans ((q6b_at _ _ _ _ (x 2) (x 3)).trans (qb_core m c t 768 (by omega) x _ ?_ ?_ ?_ ?_)) <;> blk_simp [idx t] <;> omega
  · refine (at_piece _ x).trans ((q5b_at _ _ _ _ (x 2) (x 3)).trans (qb_core m c t 640 (by omega) x _ ?_ ?_ ?_ ?_)) <;> blk_simp [idx t] <;> omega
  · refine (at_piece _ x).trans ((q4b_at _ _ _ _ (x 2) (x 3)).trans (qb_core m c t 512 (by omega) x _ ?_ ?_ ?_ ?_)) <;> blk_simp [idx t] <;> omega
  · refine (at_piece _ x).trans ((q3b_at _ _ _ _ (x 2) (x 3)).trans (qb_core m c t 384 (by omega) x _ ?_ ?_ ?_ ?_)) <;> blk_simp [idx t] <;> omega
  · refine (at_piece _ x).trans ((q2b_at _ _ _ _ (x 2) (x 3)).trans (qb_core m c t 256 (by omega) x _ ?_ ?_ ?_ ?_)) <;> blk_simp [idx t] <;> omega
  · refine (at_piece _ x).trans ((q1b_at _ _ _ _ (x 2) (x 3)).trans (qb_core m c t 128 (by omega) x _ ?_ ?_ ?_ ?_)) <;> blk_simp [idx t] <;> omega
  · refine (at_piece _ x).trans ((q0b_at _ _ _ _ (x 2) (x 3)).trans (qb_core m c t 0 (by omega) x _ ?_ ?_ ?_ ?_)) <;> blk_simp [idx t] <;> omega
  · refine (at_piece _ x).trans ((q7a_at _ _ _ _ (x 2) (x 3)).trans (qa_core m c t 896 (by omega) x _ ?_ ?_ ?_ ?_)) <;> blk_simp [idx t] <;> omega
  · refine (at_piece _ x).trans ((q6a_at _ _ _ _ (x 2) (x 3)).trans (qa_core m c t 768 (by omega) x _ ?_ ?_ ?_ ?_)) <;> blk_simp [idx t] <;> omega
  · refine (at_piece _ x).trans ((q5a_at _ _ _ _ (x 2) (x 3)).trans (qa_core m c t 640 (by omega) x _ ?_ ?_ ?_ ?_)) <;> blk_simp [idx t] <;> omega
  · refine (at_piece _ x).trans ((q4a_at _ _ _ _ (x 2) (x 3)).trans (qa_core m c t 512 (by omega) x _ ?_ ?_ ?_ ?_)) <;> blk_simp [idx t] <;> omega
  · refine (at_piece _ x).trans ((q3a_at _ _ _ _ (x 2) (x 3)).trans (qa_core m c t 384 (by omega) x _ ?_ ?_ ?_ ?_)) <;> blk_simp [idx t] <;> omega
  · refine (at_piece _ x).trans ((q2a_at _ _ _ _ (x 2) (x 3)).trans (qa_core m c t 256 (by omega) x _ ?_ ?_ ?_ ?_)) <;> blk_simp [idx t] <;> omega
  · refine (at_piece _ x).trans ((q1a_at _ _ _ _ (x 2) (x 3)).trans (qa_core m c t 128 (by omega) x _ ?_ ?_ ?_ ?_)) <;> blk_simp [idx t] <;> omega
  · refine (at_piece _ x).trans ((q0a_at _ _ _ _ (x 2) (x 3)).trans (qa_core m c t 0 (by omega) x _ ?_ ?_ ?_ ?_)) <;> blk_simp [idx t] <;> omega

set_option maxHeartbeats 8000000 in
/-- The keys after the run. -/
theorem final_k : (dats m 0 c).arrAt 10 (cfgs 0).N = kArr (projM m c) (V m c main_v35) (V m c main_v29) (V m c main_v31) := by
  refine (dats m 0 c).arrAt_eq_of_covers 10 _ (by decide +kernel) fun t _ y => ?_
  blk_simp
  rw [after0_10]
  unfold out0_10
  simp (disch := decide) only [View.ld_unit_lit']
  canon_tiles x h
  · refine (at_piece _ x).trans ((k1b_at _ _ _ _ (x 2) (x 3)).trans (kb_core m c t 1152 (by omega) x _ ?_ ?_ ?_ ?_)) <;> blk_simp [idx t] <;> omega
  · refine (at_piece _ x).trans ((k0b_at _ _ _ _ (x 2) (x 3)).trans (kb_core m c t 1024 (by omega) x _ ?_ ?_ ?_ ?_)) <;> blk_simp [idx t] <;> omega
  · refine (at_piece _ x).trans ((k1a_at _ _ _ _ (x 2) (x 3)).trans (ka_core m c t 1152 (by omega) x _ ?_ ?_ ?_ ?_)) <;> blk_simp [idx t] <;> omega
  · refine (at_piece _ x).trans ((k0a_at _ _ _ _ (x 2) (x 3)).trans (ka_core m c t 1024 (by omega) x _ ?_ ?_ ?_ ?_)) <;> blk_simp [idx t] <;> omega

set_option maxHeartbeats 8000000 in
/-- The values after the run. -/
theorem final_v : (dats m 0 c).arrAt 11 (cfgs 0).N = vArr (projM m c) := by
  refine (dats m 0 c).arrAt_eq_of_covers 11 _ (by decide +kernel) fun t _ y => ?_
  blk_simp
  rw [after0_11]
  unfold out0_11
  simp (disch := decide) only [View.ld_unit_lit']
  canon_tiles x h
  · refine (at_piece _ x).trans ((v1b_at _ (x 2) (x 3)).trans (vb_core m c t 1408 (by omega) x _ ?_ ?_ ?_ ?_)) <;> blk_simp [idx t] <;> omega
  · refine (at_piece _ x).trans ((v0b_at _ (x 2) (x 3)).trans (vb_core m c t 1280 (by omega) x _ ?_ ?_ ?_ ?_)) <;> blk_simp [idx t] <;> omega
  · refine (at_piece _ x).trans ((v1a_at _ (x 2) (x 3)).trans (va_core m c t 1408 (by omega) x _ ?_ ?_ ?_ ?_)) <;> blk_simp [idx t] <;> omega
  · refine (at_piece _ x).trans ((v0a_at _ (x 2) (x 3)).trans (va_core m c t 1280 (by omega) x _ ?_ ?_ ?_ ?_)) <;> blk_simp [idx t] <;> omega

end blocks

end Cert.Kernel4Ideal.Value

end
-- ==== Proof.QkvRef.lean ====
/- The reference's projection into heads, read at one index: the modulated norm, the two products, the heads' norms and the rotation. -/
module

public import proofs.«01_k».proof.Proof.Gen.Reference4Ideal.Run
public import proofs.«01_k».proof.Proof.FfnPoint
public import proofs.«01_k».proof.Proof.MixPoint
public import Idealize.ShloMosaic.Lib.Tactic.CleanTypes

@[expose] public section

set_option maxRecDepth 16384

noncomputable section

namespace Cert.Reference4Ideal.Value

open Cert.Reference4Ideal Cert.Reference4Ideal.Gen Idealize.ShloMosaic Idealize.ShloMosaic.TcCoe Idealize.SL.Sem Idealize.ShloMosaic.StableHlo
open Cert.Kernel2Ideal.Value (rms normed)
open Cert.Kernel5Ideal.Value (rms128)

/-- A row of channels, repeated along batches and rows. -/
def chan (g : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 g)

/-- A row of channels per batch, repeated along the rows. -/
def mods (x : FVec Ideal S4x1x1024 .f32) : FVec Ideal S4x8192x1024 .f32 :=
  broadcastInDim S4x8192x1024 ![0, 1, 2] bcast_S4x1x1024_S4x8192x1024_0_1_2 x

/-- Every row over the root of its mean square. -/
def unit (x : FVec Ideal S4x8192x1024 .f32) : FVec Ideal S4x8192x1024 .f32 :=
  mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))

/-- The modulated norm of the rows. -/
def modulated (h : FVec Ideal S4x8192x1024 .f32) (sc sh : FVec Ideal S4x1x1024 .f32) (g : FVec Ideal S1024 .f32) : FVec Ideal S4x8192x1024 .f32 :=
  addf (mulf (mulf (unit h) (chan g)) (mods (addf (broadcastInDim S4x1x1024 ![] bcast_S_S4x1x1024 (constant S_ .f32 0x3F800000#32)) sc))) (mods sh)

/-- The positions' angles: the row's frequencies, then the column's. -/
def angle : FVec Ideal S8192x64 .f32 :=
  concatenate S8192x64 1 [⟨S8192x32, (mulf (broadcastInDim S8192x32 ![0, 1] bcast_S8192x1_S8192x32_0_1 (sitofp .f32 (shapeCast _ (broadcastInDim S128x64 ![0] bcast_S128_S128x64_0 (iotaInDim S128 32 0)) shapeCasts_S128x64_S8192x1))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))))))⟩,
    ⟨S8192x32, (mulf (broadcastInDim S8192x32 ![0, 1] bcast_S8192x1_S8192x32_0_1 (sitofp .f32 (shapeCast _ (broadcastInDim S128x64 ![1] bcast_S64_S128x64_1 (iotaInDim S64 32 0)) shapeCasts_S128x64_S8192x1))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))))))⟩] concatenates_S8192x32_S8192x32_S8192x64_d1

/-- The angles' cosines. -/
def cosT : FVec Ideal S8192x64 .f32 := Host.cos angle

/-- The angles' sines. -/
def sinT : FVec Ideal S8192x64 .f32 := Host.sin angle

/-- The queries' product, by heads. -/
def projQ (f : FVec Ideal S4x8192x1024 .f32) (w : FVec Ideal S1024x1536 .f32) : FVec Ideal S4x8192x8x128 .f32 :=
  shapeCast _ (Host.dotGeneral dot_S4x8192x1024_S1024x1024_S4x8192x1024_2_0_01_1_n_n none f (extractStridedSlice S1024x1024 ![0, 0] w slices_S1024x1536_S1024x1024_0_0)) shapeCasts_S4x8192x1024_S4x8192x8x128

/-- The keys' and values' product, by heads. -/
def projKV (f : FVec Ideal S4x8192x1024 .f32) (w : FVec Ideal S1024x1536 .f32) : FVec Ideal S4x8192x2x2x128 .f32 :=
  shapeCast _ (Host.dotGeneral dot_S4x8192x1024_S1024x512_S4x8192x512_2_0_01_1_n_n none f (extractStridedSlice S1024x512 ![0, 1024] w slices_S1024x1536_S1024x512_0_1024)) shapeCasts_S4x8192x512_S4x8192x2x2x128

/-- The keys' heads. -/
def projK (f : FVec Ideal S4x8192x1024 .f32) (w : FVec Ideal S1024x1536 .f32) : FVec Ideal S4x8192x2x128 .f32 :=
  shapeCast _ (extractStridedSlice S4x8192x1x2x128 ![0, 0, 0, 0, 0] (projKV f w) slices_S4x8192x2x2x128_S4x8192x1x2x128_0_0_0_0_0) shapeCasts_S4x8192x1x2x128_S4x8192x2x128

/-- The values' heads. -/
def projV (f : FVec Ideal S4x8192x1024 .f32) (w : FVec Ideal S1024x1536 .f32) : FVec Ideal S4x8192x2x128 .f32 :=
  shapeCast _ (extractStridedSlice S4x8192x1x2x128 ![0, 0, 1, 0, 0] (projKV f w) slices_S4x8192x2x2x128_S4x8192x1x2x128_0_0_1_0_0) shapeCasts_S4x8192x1x2x128_S4x8192x2x128

/-- Every query head over the root of its mean square, times the head's gains. -/
def norm8 (x : FVec Ideal S4x8192x8x128 .f32) (g : FVec Ideal S128 .f32) : FVec Ideal S4x8192x8x128 .f32 :=
  mulf (mulf x (broadcastInDim S4x8192x8x128 ![0, 1, 2, 3] bcast_S4x8192x8x1_S4x8192x8x128_0_1_2_3 (Host.rsqrt (addf (Host.divf (broadcastInDim S4x8192x8x1 ![0, 1, 2] bcast_S4x8192x8_S4x8192x8x1_0_1_2 (Host.reduceAdd (mulf x x) (constant S_ .f32 0x00000000#32) reducesTo_S4x8192x8x128_S4x8192x8_d3 h_S_)) (broadcastInDim S4x8192x8x1 ![] bcast_S_S4x8192x8x1 (constant S_ .f32 0x43000000#32))) (broadcastInDim S4x8192x8x1 ![] bcast_S_S4x8192x8x1 (constant S_ .f32 0x358637BD#32)))))) (broadcastInDim S4x8192x8x128 ![0, 1, 2, 3] bcast_S1x1x1x128_S4x8192x8x128_0_1_2_3 (broadcastInDim S1x1x1x128 ![3] bcast_S128_S1x1x1x128_3 g))

/-- The query heads before the rows. -/
def heads8 (x : FVec Ideal S4x8192x8x128 .f32) : FVec Ideal S4x8x8192x128 .f32 :=
  transpose S4x8x8192x128 [0, 2, 1, 3] x transposes_S4x8192x8x128_S4x8x8192x128_0_2_1_3

/-- A table of the positions, repeated along the query heads. -/
def table8 (x : FVec Ideal S8192x64 .f32) : FVec Ideal S4x8x8192x64 .f32 :=
  broadcastInDim S4x8x8192x64 ![0, 1, 2, 3] bcast_S1x1x8192x64_S4x8x8192x64_0_1_2_3 (broadcastInDim S1x1x8192x64 ![2, 3] bcast_S8192x64_S1x1x8192x64_2_3 x)

/-- The query heads turned by the tables. -/
def turn8 (x : FVec Ideal S4x8x8192x128 .f32) (c s : FVec Ideal S8192x64 .f32) : FVec Ideal S4x8x8192x128 .f32 :=
  concatenate S4x8x8192x128 3 [⟨S4x8x8192x64, (subf (mulf (extractStridedSlice S4x8x8192x64 ![0, 0, 0, 0] x slices_S4x8x8192x128_S4x8x8192x64_0_0_0_0) (table8 c)) (mulf (extractStridedSlice S4x8x8192x64 ![0, 0, 0, 64] x slices_S4x8x8192x128_S4x8x8192x64_0_0_0_64) (table8 s)))⟩,
    ⟨S4x8x8192x64, (addf (mulf (extractStridedSlice S4x8x8192x64 ![0, 0, 0, 0] x slices_S4x8x8192x128_S4x8x8192x64_0_0_0_0) (table8 s)) (mulf (extractStridedSlice S4x8x8192x64 ![0, 0, 0, 64] x slices_S4x8x8192x128_S4x8x8192x64_0_0_0_64) (table8 c)))⟩] concatenates_S4x8x8192x64_S4x8x8192x64_S4x8x8192x128_d3

/-- Every key head over the root of its mean square, times the head's gains. -/
def norm2 (x : FVec Ideal S4x8192x2x128 .f32) (g : FVec Ideal S128 .f32) : FVec Ideal S4x8192x2x128 .f32 :=
  mulf (mulf x (broadcastInDim S4x8192x2x128 ![0, 1, 2, 3] bcast_S4x8192x2x1_S4x8192x2x128_0_1_2_3 (Host.rsqrt (addf (Host.divf (broadcastInDim S4x8192x2x1 ![0, 1, 2] bcast_S4x8192x2_S4x8192x2x1_0_1_2 (Host.reduceAdd (mulf x x) (constant S_ .f32 0x00000000#32) reducesTo_S4x8192x2x128_S4x8192x2_d3 h_S_)) (broadcastInDim S4x8192x2x1 ![] bcast_S_S4x8192x2x1 (constant S_ .f32 0x43000000#32))) (broadcastInDim S4x8192x2x1 ![] bcast_S_S4x8192x2x1 (constant S_ .f32 0x358637BD#32)))))) (broadcastInDim S4x8192x2x128 ![0, 1, 2, 3] bcast_S1x1x1x128_S4x8192x2x128_0_1_2_3 (broadcastInDim S1x1x1x128 ![3] bcast_S128_S1x1x1x128_3 g))

/-- The key heads before the rows. -/
def heads2 (x : FVec Ideal S4x8192x2x128 .f32) : FVec Ideal S4x2x8192x128 .f32 :=
  transpose S4x2x8192x128 [0, 2, 1, 3] x transposes_S4x8192x2x128_S4x2x8192x128_0_2_1_3

/-- A table of the positions, repeated along the key heads. -/
def table2 (x : FVec Ideal S8192x64 .f32) : FVec Ideal S4x2x8192x64 .f32 :=
  broadcastInDim S4x2x8192x64 ![0, 1, 2, 3] bcast_S1x1x8192x64_S4x2x8192x64_0_1_2_3 (broadcastInDim S1x1x8192x64 ![2, 3] bcast_S8192x64_S1x1x8192x64_2_3 x)

/-- The key heads turned by the tables. -/
def turn2 (x : FVec Ideal S4x2x8192x128 .f32) (c s : FVec Ideal S8192x64 .f32) : FVec Ideal S4x2x8192x128 .f32 :=
  concatenate S4x2x8192x128 3 [⟨S4x2x8192x64, (subf (mulf (extractStridedSlice S4x2x8192x64 ![0, 0, 0, 0] x slices_S4x2x8192x128_S4x2x8192x64_0_0_0_0) (table2 c)) (mulf (extractStridedSlice S4x2x8192x64 ![0, 0, 0, 64] x slices_S4x2x8192x128_S4x2x8192x64_0_0_0_64) (table2 s)))⟩,
    ⟨S4x2x8192x64, (addf (mulf (extractStridedSlice S4x2x8192x64 ![0, 0, 0, 0] x slices_S4x2x8192x128_S4x2x8192x64_0_0_0_0) (table2 s)) (mulf (extractStridedSlice S4x2x8192x64 ![0, 0, 0, 64] x slices_S4x2x8192x128_S4x2x8192x64_0_0_0_64) (table2 c)))⟩] concatenates_S4x2x8192x64_S4x2x8192x64_S4x2x8192x128_d3

/-- The reference's queries. -/
def queries (f : FVec Ideal S4x8192x1024 .f32) (w : FVec Ideal S1024x1536 .f32) (g : FVec Ideal S128 .f32) : FVec Ideal S4x8x8192x128 .f32 :=
  turn8 (heads8 (norm8 (projQ f w) g)) cosT sinT

/-- The reference's keys. -/
def keys (f : FVec Ideal S4x8192x1024 .f32) (w : FVec Ideal S1024x1536 .f32) (g : FVec Ideal S128 .f32) : FVec Ideal S4x2x8192x128 .bf16 :=
  truncf .bf16 (turn2 (heads2 (norm2 (projK f w) g)) cosT sinT) bitsLt_bf16_f32

/-- The reference's values. -/
def values (f : FVec Ideal S4x8192x1024 .f32) (w : FVec Ideal S1024x1536 .f32) : FVec Ideal S4x2x8192x128 .bf16 :=
  truncf .bf16 (heads2 (projV f w)) bitsLt_bf16_f32

theorem chan_at (g : FVec Ideal S1024 .f32) (b : Fin 4) (s : Fin 8192) (d : Fin 1024) : chan g (ix3 b s d) = g (ix1 d) := by
  unfold chan
  pointwise

theorem mods_at (x : FVec Ideal S4x1x1024 .f32) (b : Fin 4) (s : Fin 8192) (d : Fin 1024) : mods x (ix3 b s d) = x (ix3 b 0 d) := by
  unfold mods
  pointwise

theorem unit_at (x : FVec Ideal S4x8192x1024 .f32) (b : Fin 4) (s : Fin 8192) (d : Fin 1024) : unit x (ix3 b s d) = rms (fun d => x (ix3 b s d)) d := by
  unfold unit rms
  pointwise

/-- The modulated norm is the kernel's, the channel's factors associated the other way. -/
theorem modulated_at (h : FVec Ideal S4x8192x1024 .f32) (sc sh : FVec Ideal S4x1x1024 .f32) (g : FVec Ideal S1024 .f32) (b : Fin 4) (s : Fin 8192) (d : Fin 1024) :
    modulated h sc sh g (ix3 b s d) = normed (fun d => h (ix3 b s d)) (fun d => g (ix1 d)) (fun d => sc (ix3 b 0 d)) (fun d => sh (ix3 b 0 d)) d := by
  unfold modulated
  pointwise
  simp only [mods_at, unit_at, chan_at]
  unfold normed
  pointwise
  rw [mul_assoc]

/-- A row turned by half a head: the first half minus, the second plus. -/
def turn64 (t : Fin 128 → EReal) (c s : Fin 64 → EReal) (d : Fin 128) : EReal :=
  if h : (d : ℕ) < 64 then t d * c ⟨d, h⟩ - t ⟨64 + d, by omega⟩ * s ⟨d, h⟩
  else t ⟨(d : ℕ) - 64, by omega⟩ * s ⟨(d : ℕ) - 64, by omega⟩ + t ⟨64 + ((d : ℕ) - 64), by omega⟩ * c ⟨(d : ℕ) - 64, by omega⟩

theorem projQ_at (f : FVec Ideal S4x8192x1024 .f32) (w : FVec Ideal S1024x1536 .f32) (b : Fin 4) (s : Fin 8192) (h : Fin 8) (d : Fin 128) :
    projQ f w (ix4 b s h d) = ∑ e : Fin 1024, f (ix3 b s e) * w (ix2 e ⟨128 * h + d, by omega⟩) := by
  have e : ∀ p, (⟨(h : ℕ) * 128 + (d : ℕ), p⟩ : Fin 1536) = ⟨128 * h + d, by omega⟩ := fun p => Fin.ext (by show (h : ℕ) * 128 + (d : ℕ) = 128 * (h : ℕ) + (d : ℕ); omega)
  unfold projQ
  pointwise
  simp only [e]

theorem projKV_at (f : FVec Ideal S4x8192x1024 .f32) (w : FVec Ideal S1024x1536 .f32) (b : Fin 4) (s : Fin 8192) (k h : Fin 2) (d : Fin 128) :
    projKV f w (ix5 b s k h d) = ∑ e : Fin 1024, f (ix3 b s e) * w (ix2 e ⟨1024 + (k * 256 + h * 128 + d), by omega⟩) := by
  unfold projKV
  pointwise

theorem projK_at (f : FVec Ideal S4x8192x1024 .f32) (w : FVec Ideal S1024x1536 .f32) (b : Fin 4) (s : Fin 8192) (h : Fin 2) (d : Fin 128) :
    projK f w (ix4 b s h d) = ∑ e : Fin 1024, f (ix3 b s e) * w (ix2 e ⟨1024 + 128 * h + d, by omega⟩) := by
  refine (show projK f w (ix4 b s h d) = projKV f w (ix5 b s 0 h d) by unfold projK; pointwise).trans ((projKV_at f w b s 0 h d).trans ?_)
  refine Finset.sum_congr rfl fun e _ => congrArg (fun i => f (ix3 b s e) * w (ix2 e i)) (Fin.ext ?_)
  show 1024 + (0 * 256 + (h : ℕ) * 128 + (d : ℕ)) = 1024 + 128 * (h : ℕ) + (d : ℕ)
  omega

theorem projV_at (f : FVec Ideal S4x8192x1024 .f32) (w : FVec Ideal S1024x1536 .f32) (b : Fin 4) (s : Fin 8192) (h : Fin 2) (d : Fin 128) :
    projV f w (ix4 b s h d) = ∑ e : Fin 1024, f (ix3 b s e) * w (ix2 e ⟨1280 + 128 * h + d, by omega⟩) := by
  refine (show projV f w (ix4 b s h d) = projKV f w (ix5 b s 1 h d) by unfold projV; pointwise).trans ((projKV_at f w b s 1 h d).trans ?_)
  refine Finset.sum_congr rfl fun e _ => congrArg (fun i => f (ix3 b s e) * w (ix2 e i)) (Fin.ext ?_)
  show 1024 + (1 * 256 + (h : ℕ) * 128 + (d : ℕ)) = 1280 + 128 * (h : ℕ) + (d : ℕ)
  omega

theorem norm8_at (x : FVec Ideal S4x8192x8x128 .f32) (g : FVec Ideal S128 .f32) (b : Fin 4) (s : Fin 8192) (h : Fin 8) (d : Fin 128) :
    norm8 x g (ix4 b s h d) = rms128 (fun d => x (ix4 b s h d)) d * g (ix1 d) := by
  unfold norm8 rms128
  pointwise

theorem heads8_at (x : FVec Ideal S4x8192x8x128 .f32) (b : Fin 4) (h : Fin 8) (s : Fin 8192) (d : Fin 128) : heads8 x (ix4 b h s d) = x (ix4 b s h d) := by
  unfold heads8
  pointwise

theorem table8_at (x : FVec Ideal S8192x64 .f32) (b : Fin 4) (h : Fin 8) (s : Fin 8192) (d : Fin 64) : table8 x (ix4 b h s d) = x (ix2 s d) := by
  unfold table8
  pointwise

theorem turn8_at (x : FVec Ideal S4x8x8192x128 .f32) (c s : FVec Ideal S8192x64 .f32) (b : Fin 4) (h : Fin 8) (i : Fin 8192) (d : Fin 128) :
    turn8 x c s (ix4 b h i d) = turn64 (fun d => x (ix4 b h i d)) (fun d => c (ix2 i d)) (fun d => s (ix2 i d)) d := by
  unfold turn8 table8
  pointwise
  rfl

theorem norm2_at (x : FVec Ideal S4x8192x2x128 .f32) (g : FVec Ideal S128 .f32) (b : Fin 4) (s : Fin 8192) (h : Fin 2) (d : Fin 128) :
    norm2 x g (ix4 b s h d) = rms128 (fun d => x (ix4 b s h d)) d * g (ix1 d) := by
  unfold norm2 rms128
  pointwise

theorem heads2_at (x : FVec Ideal S4x8192x2x128 .f32) (b : Fin 4) (h : Fin 2) (s : Fin 8192) (d : Fin 128) : heads2 x (ix4 b h s d) = x (ix4 b s h d) := by
  unfold heads2
  pointwise

theorem table2_at (x : FVec Ideal S8192x64 .f32) (b : Fin 4) (h : Fin 2) (s : Fin 8192) (d : Fin 64) : table2 x (ix4 b h s d) = x (ix2 s d) := by
  unfold table2
  pointwise

theorem turn2_at (x : FVec Ideal S4x2x8192x128 .f32) (c s : FVec Ideal S8192x64 .f32) (b : Fin 4) (h : Fin 2) (i : Fin 8192) (d : Fin 128) :
    turn2 x c s (ix4 b h i d) = turn64 (fun d => x (ix4 b h i d)) (fun d => c (ix2 i d)) (fun d => s (ix2 i d)) d := by
  unfold turn2 table2
  pointwise
  rfl

/-- The run ends at the three staged results. -/
theorem run_qkv (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = queries (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5))
      ∧ r.2.mem ((c.tc : Thread nD τ).loc main_v121) = keys (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg6))
      ∧ r.2.mem ((c.tc : Thread nD τ).loc main_v122) = values (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have h := run (F := Ideal) m ρ
  unfold res_main_v82 res_main_v121 at h
  unfold queries keys values turn8 turn2 table8 table2 heads8 heads2 norm8 norm2 projQ projK projV projKV cosT sinT angle modulated unit chan mods
  exact h

end Cert.Reference4Ideal.Value

end
-- ==== Proof.QkvClaim.lean ====
/- The projection's three arrays and the reference's are the same, so the two programs end at the same arrays. -/
module

public import proofs.«01_k».proof.Defs
public import proofs.«01_k».proof.Proof.Gen.Kernel4Ideal.Value
public import proofs.«01_k».proof.Proof.QkvArray
public import proofs.«01_k».proof.Proof.QkvRef

@[expose] public section

set_option maxRecDepth 16384

noncomputable section

namespace Cert.Qkv

open Idealize.ShloMosaic Idealize.ShloMosaic.TcCoe Idealize.SL.Sem
open Cert.Kernel4Ideal.Value (projA headA qArr kArr vArr projM turned across)
open Cert.Kernel5Ideal.Value (rms128)
open Cert.Reference4Ideal.Value (turn64 cosT sinT)

/-- A table of 64 columns, read at 128: the same columns twice. -/
def twice (c : Fin 64 → EReal) (d : Fin 128) : EReal := if h : (d : ℕ) < 64 then c ⟨d, h⟩ else c ⟨(d : ℕ) - 64, by omega⟩

/-- The same columns twice, the first time negated. -/
def signed (s : Fin 64 → EReal) (d : Fin 128) : EReal := if h : (d : ℕ) < 64 then -s ⟨d, h⟩ else s ⟨(d : ℕ) - 64, by omega⟩

/-- The kernel's turn of a row with the doubled tables is the reference's turn with the tables. -/
theorem turned_eq (x g : Fin 128 → EReal) (c s : Fin 64 → EReal) (d : Fin 128) :
    turned x g (twice c) (signed s) d = turn64 (fun d => rms128 x d * g d) c s d := by
  unfold turned turn64 twice signed
  by_cases h : (d : ℕ) < 64
  · have e : across d = ⟨64 + (d : ℕ), by omega⟩ := Fin.ext (by show ((d : ℕ) + 64) % 128 = 64 + (d : ℕ); omega)
    rw [dif_pos h, dif_pos h, dif_pos h, e, mul_neg, sub_eq_add_neg]
  · have e : across d = ⟨(d : ℕ) - 64, by omega⟩ := Fin.ext (by show ((d : ℕ) + 64) % 128 = (d : ℕ) - 64; omega)
    have e' : (⟨64 + ((d : ℕ) - 64), by omega⟩ : Fin 128) = d := Fin.ext (by show 64 + ((d : ℕ) - 64) = (d : ℕ); omega)
    rw [dif_neg h, dif_neg h, dif_neg h, e, e', add_comm]

section

open Cert.Reference4Ideal Cert.Reference4Ideal.Value

variable (h : FVec Ideal S4x8192x1024 .f32) (sc sh : FVec Ideal S4x1x1024 .f32) (g : FVec Ideal S1024 .f32) (w : FVec Ideal S1024x1536 .f32) (gh : FVec Ideal S128 .f32)
  (g' : FVec Ideal Cert.Kernel4Ideal.S1x1024 .f32) (gh' : FVec Ideal Cert.Kernel4Ideal.S1x128 .f32) (cs sn : FVec Ideal Cert.Kernel4Ideal.S8192x128 .f32)

/-- The projected columns agree. -/
theorem proj_eq (hg : ∀ e : Fin 1024, g' (ix2 0 e) = g (ix1 e)) (b : Fin 4) (s : Fin 8192) (o : Fin 1536) :
    projA h sc sh g' w b s o = ∑ e : Fin 1024, modulated h sc sh g (ix3 b s e) * w (ix2 e o) := by
  unfold projA
  simp only [modulated_at, hg]

variable (hcs : ∀ (s : Fin 8192) (d : Fin 128), cs (ix2 s d) = twice (fun d => cosT (ix2 s d)) d)
  (hsn : ∀ (s : Fin 8192) (d : Fin 128), sn (ix2 s d) = signed (fun d => sinT (ix2 s d)) d)

include hcs hsn

/-- A turned head, in the reference's words. -/
theorem head_eq (hgh : ∀ d : Fin 128, gh' (ix2 0 d) = gh (ix1 d)) (p : Fin 4 → Fin 8192 → Fin 1536 → EReal) (o : ℕ) (ho : o + 128 ≤ 1536) (b : Fin 4) (s : Fin 8192) (d : Fin 128) :
    headA p gh' cs sn o ho b s d
      = turn64 (fun d => rms128 (fun d => p b s ⟨o + d, by omega⟩) d * gh (ix1 d)) (fun d => cosT (ix2 s d)) (fun d => sinT (ix2 s d)) d := by
  unfold headA
  refine Eq.trans ?_ (turned_eq _ _ _ _ _)
  rw [show (fun d => gh' (ix2 0 d)) = fun d => gh (ix1 d) from funext hgh, show (fun d => cs (ix2 s d)) = _ from funext (hcs s), show (fun d => sn (ix2 s d)) = _ from funext (hsn s)]

/-- The queries agree. -/
theorem qArr_eq (hg : ∀ e : Fin 1024, g' (ix2 0 e) = g (ix1 e)) (hgh : ∀ d : Fin 128, gh' (ix2 0 d) = gh (ix1 d)) :
    qArr (projA h sc sh g' w) gh' cs sn = queries (modulated h sc sh g) w gh := by
  funext j
  idx_vars j
  unfold queries
  refine Eq.trans ?_ (turn8_at _ _ _ j0 j1 j2 j3).symm
  refine (head_eq gh gh' cs sn hcs hsn hgh _ _ _ j0 j2 j3).trans ?_
  refine congrArg (fun t => turn64 t _ _ j3) (funext fun d => ?_)
  refine Eq.trans ?_ ((heads8_at _ j0 j1 j2 d).trans (norm8_at _ gh j0 j2 j1 d)).symm
  refine congrArg (fun x => rms128 x d * gh (ix1 d)) (funext fun d => ?_)
  exact (proj_eq h sc sh g w g' hg j0 j2 _).trans (projQ_at _ w j0 j2 j1 d).symm

/-- The keys agree. -/
theorem kArr_eq (hg : ∀ e : Fin 1024, g' (ix2 0 e) = g (ix1 e)) (hgh : ∀ d : Fin 128, gh' (ix2 0 d) = gh (ix1 d)) :
    kArr (projA h sc sh g' w) gh' cs sn = keys (modulated h sc sh g) w gh := by
  funext j
  idx_vars j
  unfold keys
  refine Eq.trans ?_ (turn2_at (heads2 (norm2 (projK (modulated h sc sh g) w) gh)) cosT sinT j0 j1 j2 j3).symm
  refine (head_eq gh gh' cs sn hcs hsn hgh _ _ _ j0 j2 j3).trans ?_
  refine congrArg (fun t => turn64 t _ _ j3) (funext fun d => ?_)
  refine Eq.trans ?_ ((heads2_at _ j0 j1 j2 d).trans (norm2_at _ gh j0 j2 j1 d)).symm
  refine congrArg (fun x => rms128 x d * gh (ix1 d)) (funext fun d => ?_)
  exact (proj_eq h sc sh g w g' hg j0 j2 _).trans (projK_at _ w j0 j2 j1 d).symm

omit hcs hsn

/-- The values agree. -/
theorem vArr_eq (hg : ∀ e : Fin 1024, g' (ix2 0 e) = g (ix1 e)) : vArr (projA h sc sh g' w) = values (modulated h sc sh g) w := by
  funext j
  idx_vars j
  unfold values
  refine Eq.trans ?_ (heads2_at (projV (modulated h sc sh g) w) j0 j1 j2 j3).symm
  exact (proj_eq h sc sh g w g' hg j0 j2 _).trans (projV_at _ w j0 j2 j1 j3).symm

end

section

open Cert.Kernel4Ideal Cert.Kernel4Ideal.Gen

variable (m : (ℓ : Loc nD τ sig) → Buf (Elt Ideal) ℓ) (c : Dev nD)

/-- The norm's channels, as the kernel reads them. -/
theorem staged_g (e : Fin 1024) : (V m c main_v32 : FVec Ideal S1x1024 .f32) (ix2 0 e) = (m ((c : Thread nD τ).loc main_arg3) : FVec Ideal S1024 .f32) (ix1 e) := by
  entry_read
  pointwise

/-- The weights, as the kernel reads them. -/
theorem staged_w : V m c main_v33 = (m ((c : Thread nD τ).loc main_arg4) : FVec Ideal S1024x1536 .f32) := by
  entry_read
  rfl

/-- The queries' gains, as the kernel reads them. -/
theorem staged_gq (d : Fin 128) : (V m c main_v34 : FVec Ideal S1x128 .f32) (ix2 0 d) = (m ((c : Thread nD τ).loc main_arg5) : FVec Ideal S128 .f32) (ix1 d) := by
  entry_read
  pointwise

/-- The keys' gains, as the kernel reads them. -/
theorem staged_gk (d : Fin 128) : (V m c main_v35 : FVec Ideal S1x128 .f32) (ix2 0 d) = (m ((c : Thread nD τ).loc main_arg6) : FVec Ideal S128 .f32) (ix1 d) := by
  entry_read
  pointwise

/-- The cosines' table is the reference's, twice. -/
theorem staged_cos : (V m c main_v29 : FVec Ideal S8192x128 .f32)
    = concatenate S8192x128 1 [⟨S8192x64, cosT⟩, ⟨S8192x64, cosT⟩] concatenates_S8192x64_S8192x64_S8192x128_d1 := by
  entry_read
  rfl

/-- The sines' table is the reference's, twice, negated first. -/
theorem staged_sin : (V m c main_v31 : FVec Ideal S8192x128 .f32)
    = concatenate S8192x128 1 [⟨S8192x64, Host.negf (F := Ideal) (s := S8192x64) (φ := .f32) sinT⟩, ⟨S8192x64, sinT⟩] concatenates_S8192x64_S8192x64_S8192x128_d1 := by
  entry_read
  rfl

theorem cos_at (s : Fin 8192) (d : Fin 128) : (V m c main_v29 : FVec Ideal S8192x128 .f32) (ix2 s d) = twice (fun d => cosT (ix2 s d)) d := by
  rw [staged_cos]
  generalize cosT = x
  pointwise
  rfl

theorem sin_at (s : Fin 8192) (d : Fin 128) : (V m c main_v31 : FVec Ideal S8192x128 .f32) (ix2 s d) = signed (fun d => sinT (ix2 s d)) d := by
  rw [staged_sin]
  generalize sinT = x
  pointwise
  rfl

end

end Cert.Qkv

namespace Cert.Proof

open Idealize.ShloMosaic Idealize.ShloMosaic.TcCoe Idealize.SL.Sem

/-- The idealized projection and its reference end at the same three arrays. -/
theorem algebraic4 : Cert.algebraic_Kernel4Ideal_Reference4Ideal := by
  intro m g m' g' _ hagree
  refine ⟨fun c => (Cert.Kernel4Ideal.Gen.dats m 0 c).arrAt 9 Cert.Kernel4Ideal.cfg0.N, fun c => (Cert.Kernel4Ideal.Gen.dats m 0 c).arrAt 10 Cert.Kernel4Ideal.cfg0.N,
    fun c => (Cert.Kernel4Ideal.Gen.dats m 0 c).arrAt 11 Cert.Kernel4Ideal.cfg0.N, Cert.Kernel4Ideal.Value.run_blocks m g, ?_⟩
  run_from Cert.Reference4Ideal.Value.run_qkv m' g'
  · have e := Cert.Kernel4Ideal.Value.final_q m c
    unfold Cert.Kernel4Ideal.Value.projM at e
    rw [Cert.Qkv.staged_w] at e
    exact (e.trans (Cert.Qkv.qArr_eq _ _ _ _ _ _ _ _ _ _ (Cert.Qkv.cos_at m c) (Cert.Qkv.sin_at m c) (Cert.Qkv.staged_g m c) (Cert.Qkv.staged_gq m c))).symm
  · have e := Cert.Kernel4Ideal.Value.final_k m c
    unfold Cert.Kernel4Ideal.Value.projM at e
    rw [Cert.Qkv.staged_w] at e
    exact (e.trans (Cert.Qkv.kArr_eq _ _ _ _ _ _ _ _ _ _ (Cert.Qkv.cos_at m c) (Cert.Qkv.sin_at m c) (Cert.Qkv.staged_g m c) (Cert.Qkv.staged_gk m c))).symm
  · have e := Cert.Kernel4Ideal.Value.final_v m c
    unfold Cert.Kernel4Ideal.Value.projM at e
    rw [Cert.Qkv.staged_w] at e
    exact (e.trans (Cert.Qkv.vArr_eq _ _ _ _ _ _ (Cert.Qkv.staged_g m c))).symm

end Cert.Proof

end
-- ==== Proof.MixClaim.lean ====
/- The even layers' output projection: the reference's result entry by entry, the kernel's operands, and the equality of the two results. -/
module

public import proofs.«01_k».proof.Defs
public import proofs.«01_k».proof.Proof.MixPoint
public import proofs.«01_k».proof.Proof.Gen.Reference5Ideal.Run
public import Idealize.ShloMosaic.Lib.Claim

@[expose] public section

set_option maxRecDepth 16384

noncomputable section

namespace Cert.Reference5Ideal.Value

open Cert.Reference5Ideal Cert.Reference5Ideal.Gen Idealize.ShloMosaic Idealize.ShloMosaic.TcCoe Idealize.SL.Sem Idealize.ShloMosaic.StableHlo
open Cert.Kernel5Ideal.Value (rms128 headOf perHead)

/-- Every head's row over the root of its mean square. -/
def scaled (o : FVec Ideal S4x4x8192x128 .f32) : FVec Ideal S4x4x8192x128 .f32 :=
  mulf o (broadcastInDim S4x4x8192x128 ![0, 1, 2, 3] bcast_S4x4x8192x1_S4x4x8192x128_0_1_2_3 (Host.rsqrt (addf (Host.divf (broadcastInDim S4x4x8192x1 ![0, 1, 2] bcast_S4x4x8192_S4x4x8192x1_0_1_2 (Host.reduceAdd (mulf o o) (constant S_ .f32 0x00000000#32) reducesTo_S4x4x8192x128_S4x4x8192_d3 h_S_)) (broadcastInDim S4x4x8192x1 ![] bcast_S_S4x4x8192x1 (constant S_ .f32 0x43000000#32))) (broadcastInDim S4x4x8192x1 ![] bcast_S_S4x4x8192x1 (constant S_ .f32 0x358637BD#32)))))

/-- The heads of a row side by side. -/
def tokens (o : FVec Ideal S4x4x8192x128 .f32) : FVec Ideal S4x8192x512 .f32 :=
  shapeCast _ (transpose S4x8192x4x128 [0, 2, 1, 3] o transposes_S4x4x8192x128_S4x8192x4x128_0_2_1_3) shapeCasts_S4x8192x4x128_S4x8192x512

/-- A row of columns, repeated along batches and rows. -/
def cols (g : FVec Ideal S512 .f32) : FVec Ideal S4x8192x512 .f32 :=
  broadcastInDim S4x8192x512 ![0, 1, 2] bcast_S1x1x512_S4x8192x512_0_1_2 (broadcastInDim S1x1x512 ![2] bcast_S512_S1x1x512_2 g)

/-- Every entry times its logistic. -/
def gate (r : FVec Ideal S4x8192x512 .f32) : FVec Ideal S4x8192x512 .f32 :=
  mulf r (Host.divf (broadcastInDim S4x8192x512 ![] bcast_S_S4x8192x512 (constant S_ .f32 0x3F800000#32)) (addf (broadcastInDim S4x8192x512 ![] bcast_S_S4x8192x512 (constant S_ .f32 0x3F800000#32)) (Host.exp (Host.negf r))))

/-- The scaled and gated heads. -/
def mixed (oa ob : FVec Ideal S4x4x8192x128 .f32) (r : FVec Ideal S4x8192x512 .f32) (g : FVec Ideal S512 .f32) : FVec Ideal S4x8192x512 .f32 :=
  mulf (mulf (tokens (scaled (addf oa ob))) (cols g)) (gate r)

/-- The residual plus the gate times the product of the two halves with the weights. -/
def joined (h : FVec Ideal S4x8192x1024 .f32) (f x : FVec Ideal S4x8192x512 .f32) (w : FVec Ideal S1024x1024 .f32) (ga : FVec Ideal S4x1x1024 .f32) : FVec Ideal S4x8192x1024 .f32 :=
  addf h (mulf (broadcastInDim S4x8192x1024 ![0, 1, 2] bcast_S4x1x1024_S4x8192x1024_0_1_2 ga) (Host.dotGeneral dot_S4x8192x1024_S1024x1024_S4x8192x1024_2_0_01_1_n_n none (concatenate S4x8192x1024 2 [⟨S4x8192x512, f⟩, ⟨S4x8192x512, x⟩] concatenates_S4x8192x512_S4x8192x512_S4x8192x1024_d2) w))

/-- The reference's result. -/
def mix (h : FVec Ideal S4x8192x1024 .f32) (f : FVec Ideal S4x8192x512 .f32) (oa ob : FVec Ideal S4x4x8192x128 .f32) (r : FVec Ideal S4x8192x512 .f32) (g : FVec Ideal S512 .f32)
    (w : FVec Ideal S1024x1024 .f32) (ga : FVec Ideal S4x1x1024 .f32) : FVec Ideal S4x8192x1024 .f32 :=
  joined h f (mixed oa ob r g) w ga

theorem scaled_at (o : FVec Ideal S4x4x8192x128 .f32) (b : Fin 4) (q : Fin 4) (s : Fin 8192) (d : Fin 128) : scaled o (ix4 b q s d) = rms128 (fun d => o (ix4 b q s d)) d := by
  unfold scaled rms128
  pointwise

theorem tokens_at (o : FVec Ideal S4x4x8192x128 .f32) (b : Fin 4) (s : Fin 8192) (k : Fin 512) :
    tokens o (ix3 b s k) = o (ix4 b ⟨(k : ℕ) / 128, by omega⟩ s ⟨(k : ℕ) % 128, by omega⟩) := by
  unfold tokens
  pointwise

theorem cols_at (g : FVec Ideal S512 .f32) (b : Fin 4) (s : Fin 8192) (k : Fin 512) : cols g (ix3 b s k) = g (ix1 k) := by
  unfold cols
  pointwise

theorem gate_at (r : FVec Ideal S4x8192x512 .f32) (b : Fin 4) (s : Fin 8192) (k : Fin 512) : gate r (ix3 b s k) = r (ix3 b s k) * Ideal.logistic (r (ix3 b s k)) := by
  unfold gate Ideal.logistic
  pointwise

/-- A row of heads, read head by head. -/
theorem perHead_at (o : Fin 512 → EReal) (u : Fin 4 → Fin 128 → EReal) (ho : ∀ k : Fin 512, o k = u ⟨(k : ℕ) / 128, by omega⟩ ⟨(k : ℕ) % 128, by omega⟩) (k : Fin 512) :
    perHead o k = rms128 (u ⟨(k : ℕ) / 128, by omega⟩) ⟨(k : ℕ) % 128, by omega⟩ := by
  unfold perHead
  refine congrArg (fun f => rms128 f _) (funext fun d => ?_)
  unfold headOf
  rw [ho]
  refine congrArg₂ u (Fin.ext ?_) (Fin.ext ?_)
  · simp only []
    omega
  · simp only []
    omega

theorem mixed_at (oa ob : FVec Ideal S4x4x8192x128 .f32) (r : FVec Ideal S4x8192x512 .f32) (g : FVec Ideal S512 .f32) (b : Fin 4) (s : Fin 8192) (k : Fin 512) :
    mixed oa ob r g (ix3 b s k)
      = rms128 (fun d => oa (ix4 b ⟨(k : ℕ) / 128, by omega⟩ s d) + ob (ix4 b ⟨(k : ℕ) / 128, by omega⟩ s d)) ⟨(k : ℕ) % 128, by omega⟩ * g (ix1 k)
        * (r (ix3 b s k) * Ideal.logistic (r (ix3 b s k))) := by
  refine congrArg₂ (· * ·) (congrArg₂ (· * ·) ((tokens_at _ b s k).trans (scaled_at _ _ _ _ _)) (cols_at g b s k)) (gate_at r b s k)

theorem joined_at (h : FVec Ideal S4x8192x1024 .f32) (f x : FVec Ideal S4x8192x512 .f32) (w : FVec Ideal S1024x1024 .f32) (ga : FVec Ideal S4x1x1024 .f32) (b : Fin 4) (s : Fin 8192) (d : Fin 1024) :
    joined h f x w ga (ix3 b s d) = h (ix3 b s d) + ga (ix3 b 0 d) * ((∑ e : Fin 512, f (ix3 b s e) * w (ix2 ⟨e, by omega⟩ d)) + ∑ e : Fin 512, x (ix3 b s e) * w (ix2 ⟨512 + e, by omega⟩ d)) := by
  unfold joined
  pointwise

/-- The reference ends at its result, the arguments unchanged. -/
theorem run_mix (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = mix (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
        (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  unfold mix joined mixed tokens scaled cols gate
  exact run m ρ

end Cert.Reference5Ideal.Value

namespace Cert.Mix

open Idealize.ShloMosaic Idealize.ShloMosaic.TcCoe Idealize.SL.Sem

section

open Cert.Kernel5Ideal Cert.Kernel5Ideal.Gen

variable (m : (ℓ : Loc nD τ sig) → Buf (Elt Ideal) ℓ) (c : Dev nD)

theorem staged_f : V m c main_v0 = (m ((c : Thread nD τ).loc main_arg1) : FVec Ideal S4x8192x512 .f32) := by
  entry_read
  rfl

theorem staged_oa (b : Fin 4) (s : Fin 8192) (k : Fin 512) : (V m c main_v3 : FVec Ideal S4x8192x512 .bf16) (ix3 b s k)
    = (m ((c : Thread nD τ).loc main_arg2) : FVec Ideal S4x4x8192x128 .f32) (ix4 b ⟨(k : ℕ) / 128, by omega⟩ s ⟨(k : ℕ) % 128, by omega⟩) := by
  entry_read
  pointwise

theorem staged_ob (b : Fin 4) (s : Fin 8192) (k : Fin 512) : (V m c main_v6 : FVec Ideal S4x8192x512 .bf16) (ix3 b s k)
    = (m ((c : Thread nD τ).loc main_arg3) : FVec Ideal S4x4x8192x128 .f32) (ix4 b ⟨(k : ℕ) / 128, by omega⟩ s ⟨(k : ℕ) % 128, by omega⟩) := by
  entry_read
  pointwise

theorem staged_r : V m c main_v7 = (m ((c : Thread nD τ).loc main_arg4) : FVec Ideal S4x8192x512 .f32) := by
  entry_read
  rfl

theorem staged_g (k : Fin 512) : (V m c main_v8 : FVec Ideal S1x512 .f32) (ix2 0 k) = (m ((c : Thread nD τ).loc main_arg5) : FVec Ideal S512 .f32) (ix1 k) := by
  entry_read
  pointwise

theorem staged_w : V m c main_v9 = (m ((c : Thread nD τ).loc main_arg6) : FVec Ideal S1024x1024 .f32) := by
  entry_read
  rfl

end

section

open Cert.Reference5Ideal Cert.Reference5Ideal.Value

/-- The kernel's array and the reference's are one. -/
theorem mix_eq (h : FVec Ideal S4x8192x1024 .f32) (f : FVec Ideal S4x8192x512 .f32) (oa ob : FVec Ideal S4x4x8192x128 .f32) (r : FVec Ideal S4x8192x512 .f32) (g : FVec Ideal S512 .f32)
    (w : FVec Ideal S1024x1024 .f32) (ga : FVec Ideal S4x1x1024 .f32) (oa' ob' : FVec Ideal S4x8192x512 .bf16) (g' : FVec Ideal Cert.Kernel5Ideal.S1x512 .f32)
    (ha : ∀ (b : Fin 4) (s : Fin 8192) (k : Fin 512), oa' (ix3 b s k) = oa (ix4 b ⟨(k : ℕ) / 128, by omega⟩ s ⟨(k : ℕ) % 128, by omega⟩))
    (hb : ∀ (b : Fin 4) (s : Fin 8192) (k : Fin 512), ob' (ix3 b s k) = ob (ix4 b ⟨(k : ℕ) / 128, by omega⟩ s ⟨(k : ℕ) % 128, by omega⟩))
    (hg : ∀ k : Fin 512, g' (ix2 0 k) = g (ix1 k)) :
    Cert.Kernel5Ideal.Value.mixArr h f oa' ob' r g' w ga = mix h f oa ob r g w ga := by
  funext j
  idx_vars j
  refine Eq.trans ?_ (joined_at h f (mixed oa ob r g) w ga j0 j1 j2).symm
  unfold Cert.Kernel5Ideal.Value.mixArr
  refine congrArg₂ (· + ·) rfl (congrArg₂ (· * ·) rfl (congrArg₂ (· + ·) rfl (Finset.sum_congr rfl fun e _ => congrArg₂ (· * ·) ?_ rfl)))
  refine Eq.trans ?_ (mixed_at oa ob r g j0 j1 e).symm
  refine congrArg₂ (· * ·) (congrArg₂ (· * ·) ?_ (hg e)) rfl
  exact perHead_at _ (fun q d => oa (ix4 j0 q j1 d) + ob (ix4 j0 q j1 d)) (fun k => congrArg₂ (· + ·) (ha j0 j1 k) (hb j0 j1 k)) e

end

end Cert.Mix

namespace Cert.Proof

open Idealize.ShloMosaic Idealize.ShloMosaic.TcCoe Idealize.SL.Sem

/-- The idealized even layers' output projection and its reference end at the same array. -/
theorem algebraic5 : Cert.algebraic_Kernel5Ideal_Reference5Ideal := by
  intro m g m' g' _ hagree
  refine ⟨fun c => (Cert.Kernel5Ideal.Gen.dats m 0 c).arrAt 8 Cert.Kernel5Ideal.cfg0.N, Cert.Kernel5Ideal.Value.run_blocks m g, ?_⟩
  run_from Cert.Reference5Ideal.Value.run_mix m' g'
  have e := Cert.Kernel5Ideal.Value.final m c
  rw [Cert.Mix.staged_f m c, Cert.Mix.staged_r m c, Cert.Mix.staged_w m c] at e
  exact (e.trans (Cert.Mix.mix_eq _ _ _ _ _ _ _ _ _ _ _ (Cert.Mix.staged_oa m c) (Cert.Mix.staged_ob m c) (Cert.Mix.staged_g m c))).symm

end Cert.Proof

end
-- ==== Proof.AdalnPoint.lean ====
/- The modulation of all layers, entry by entry: the kernel's result array. -/
module

public import proofs.«01_k».proof.Proof.Gen.Kernel6Ideal.Value
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- What a grid point stores, at an index. -/
theorem pay1_at (x0 : FVec Ideal S8x1024 .f32) (x1 : FVec Ideal S1x1024x1536 .f32) (x2 : FVec Ideal S1x1x1536 .f32) (r : Fin 8) (k : Fin 1536) :
    k0_pay1 (F := Ideal) x0 x1 x2 (ix3 0 r k) = (∑ e : Fin 1024, x0 (ix2 r e) * Ideal.logistic (x0 (ix2 r e)) * x1 (ix3 0 e k)) + x2 (ix3 0 0 k) := by
  pointwise [k0_pay1]

/-- Every layer's modulation: the gated conditions times the layer's weights, plus its offsets. -/
def modArr (v : FVec Ideal S8x1024 .f32) (w : FVec Ideal S2x1024x6144 .f32) (b : FVec Ideal S2x1x6144 .f32) : FVec Ideal S2x8x6144 .f32 := fun j =>
  (∑ e : Fin 1024, v (ix2 (j 1) e) * Ideal.logistic (v (ix2 (j 1) e)) * w (ix3 (j 0) e (j 2))) + b (ix3 (j 0) 0 (j 2))

/-- Every window's block index, in the grid point's number. -/
theorem idx : ∀ t : Fin cfg0.N, win0_0.index t = ![0, 0] ∧ win0_1.index t = ![t.val / 4, 0, t.val % 4] ∧ win0_2.index t = ![t.val / 4, 0, t.val % 4]
    ∧ win0_3.index t = ![t.val / 4, 0, t.val % 4] :=
  (by decide +kernel : ∀ t : Fin grid0.N, _)

/-- The stored block is the closed array at the place where it lies. -/
theorem core (c : Dev nD) (t : Fin cfg0.N) (x : S1x8x1536.Idx) (j : S2x8x6144.Idx)
    (hj0 : (j 0 : ℕ) = t.val / 4) (hj1 : (j 1 : ℕ) = x 1) (hj2 : (j 2 : ℕ) = t.val % 4 * 1536 + x 2) :
    k0_pay1 (F := Ideal) (iblk m c 0 t) (iblk m c 1 t) (iblk m c 2 t) x
      = modArr (V m c main_v4) (m ((c : Thread nD τ).loc main_arg2)) (V m c main_v5) j := by
  have x1 : (x 1 : ℕ) < 8 := (x 1).isLt
  have x2 : (x 2 : ℕ) < 1536 := (x 2).isLt
  have hx : x = ix3 0 (x 1) (x 2) := by
    refine funext fun a => ?_
    match a with
    | 0 => exact Subsingleton.elim (α := Fin 1) _ _
    | 1 => rfl
    | 2 => rfl
  have h0 : ∀ e : Fin 1024, (iblk m c 0 t : FVec Ideal S8x1024 .f32) (ix2 (x 1) e) = (V m c main_v4 : FVec Ideal S8x1024 .f32) (ix2 (j 1) e) := fun e => by
    blk_ext [iblk, idx t]
  have h1 : ∀ e : Fin 1024, (iblk m c 1 t : FVec Ideal S1x1024x1536 .f32) (ix3 0 e (x 2))
      = (m ((c : Thread nD τ).loc main_arg2) : FVec Ideal S2x1024x6144 .f32) (ix3 (j 0) e (j 2)) := fun e => by
    blk_ext [iblk, V, idx t]
  have h2 : (iblk m c 2 t : FVec Ideal S1x1x1536 .f32) (ix3 0 0 (x 2)) = (V m c main_v5 : FVec Ideal S2x1x6144 .f32) (ix3 (j 0) 0 (j 2)) := by
    blk_ext [iblk, idx t]
  rw [hx]
  refine (pay1_at _ _ _ (x 1) (x 2)).trans ?_
  unfold modArr
  simp only [h0, h1, h2]

/-- The result array after the run. -/
theorem final (c : Dev nD) : (dats m 0 c).arrAt 3 (cfgs 0).N
    = modArr (V m c main_v4) (m ((c : Thread nD τ).loc main_arg2)) (V m c main_v5) := by
  refine (dats m 0 c).arrAt_eq_of_covers 3 _ (by decide +kernel) fun t _ y => ?_
  blk_simp
  rw [after0_3]
  unfold out0_3
  simp (disch := decide) only [View.ld_unit_lit']
  canon_tiles x h
  all_goals (refine core m c t x _ ?_ ?_ ?_ <;> blk_simp [idx t] <;> omega)

end Cert.Kernel6Ideal.Value

end
-- ==== Proof.AdalnClaim.lean ====
/- The modulation of all layers: the conditions as both programs lay them out, the reference's result entry by entry, and the equality of the two results. -/
module

public import proofs.«01_k».proof.Defs
public import proofs.«01_k».proof.Proof.AdalnPoint
public import proofs.«01_k».proof.Proof.Gen.Reference6Ideal.Run
public import Idealize.ShloMosaic.Lib.Routing.OpsSet
public import Idealize.ShloMosaic.Lib.Routing.OpsPair
public import Idealize.ShloMosaic.Lib.Claim

@[expose] public section

set_option maxRecDepth 16384

noncomputable section

namespace Cert.Adaln

open Idealize.ShloMosaic

/-- The conditions in eight rows: the batches', the context's, and rows of zeros. -/
def rows (x : Fin 4 → Fin 1024 → EReal) (y : Fin 1024 → EReal) (z : EReal) (r : Fin 8) (e : Fin 1024) : EReal :=
  if h : (r : ℕ) < 4 then x ⟨r, h⟩ e else if (r : ℕ) - 4 < 1 then y e else z

end Cert.Adaln

namespace Cert.Reference6Ideal.Value

open Cert.Reference6Ideal Cert.Reference6Ideal.Gen Idealize.ShloMosaic Idealize.ShloMosaic.TcCoe Idealize.SL.Sem Idealize.ShloMosaic.StableHlo
open Cert.Adaln (rows)

/-- The conditions, laid out. -/
def conds (x : FVec Ideal S4x1024 .f32) (y : FVec Ideal S1024 .f32) : FVec Ideal S8x1024 .f32 :=
  concatenate S8x1024 0 [⟨S4x1024, x⟩, ⟨S1x1024, (broadcastInDim S1x1024 ![1] bcast_S1024_S1x1024_1 y)⟩,
    ⟨S3x1024, (broadcastInDim S3x1024 ![] bcast_S_S3x1024 (constant S_ .f32 0x00000000#32))⟩] concatenates_S4x1024_S1x1024_S3x1024_S8x1024_d0

/-- Every entry times its logistic. -/
def gate (v : FVec Ideal S8x1024 .f32) : FVec Ideal S8x1024 .f32 :=
  mulf v (Host.divf (broadcastInDim S8x1024 ![] bcast_S_S8x1024 (constant S_ .f32 0x3F800000#32)) (addf (broadcastInDim S8x1024 ![] bcast_S_S8x1024 (constant S_ .f32 0x3F800000#32)) (Host.exp (Host.negf v))))

/-- One layer's modulation. -/
def layer (v : FVec Ideal S8x1024 .f32) (w : FVec Ideal S1x1024x6144 .f32) (b : FVec Ideal S1x6144 .f32) : FVec Ideal S1x8x6144 .f32 :=
  broadcastInDim S1x8x6144 ![1, 2] bcast_S8x6144_S1x8x6144_1_2 (addf (Host.dotGeneral dot_S8x1024_S1024x6144_S8x6144_1_0_0_1_n_n none (gate v) (shapeCast _ w shapeCasts_S1x1024x6144_S1024x6144))
    (broadcastInDim S8x6144 ![0, 1] bcast_S1x6144_S8x6144_0_1 (broadcastInDim S1x6144 ![1] bcast_S6144_S1x6144_1 (shapeCast _ b shapeCasts_S1x6144_S6144))))

/-- The reference's result. -/
def mod (x : FVec Ideal S4x1024 .f32) (y : FVec Ideal S1024 .f32) (w : FVec Ideal S2x1024x6144 .f32) (b : FVec Ideal S2x6144 .f32) : FVec Ideal S2x8x6144 .f32 :=
  concatenate S2x8x6144 0 [⟨S1x8x6144, layer (conds x y) (extractStridedSlice S1x1024x6144 ![0, 0, 0] w slices_S2x1024x6144_S1x1024x6144_0_0_0) (extractStridedSlice S1x6144 ![0, 0] b slices_S2x6144_S1x6144_0_0)⟩,
    ⟨S1x8x6144, layer (conds x y) (extractStridedSlice S1x1024x6144 ![1, 0, 0] w slices_S2x1024x6144_S1x1024x6144_1_0_0) (extractStridedSlice S1x6144 ![1, 0] b slices_S2x6144_S1x6144_1_0)⟩] concatenates_S1x8x6144_S1x8x6144_S2x8x6144_d0

theorem conds_at (x : FVec Ideal S4x1024 .f32) (y : FVec Ideal S1024 .f32) (r : Fin 8) (e : Fin 1024) :
    conds x y (ix2 r e) = rows (fun r e => x (ix2 r e)) (fun e => y (ix1 e)) (Ideal.ofBits .f32 0#32) r e := by
  unfold conds rows
  pointwise
  try rfl

theorem layer_at (v : FVec Ideal S8x1024 .f32) (w : FVec Ideal S1x1024x6144 .f32) (b : FVec Ideal S1x6144 .f32) (r : Fin 8) (k : Fin 6144) :
    layer v w b (ix3 0 r k) = (∑ e : Fin 1024, v (ix2 r e) * Ideal.logistic (v (ix2 r e)) * w (ix3 0 e k)) + b (ix2 0 k) := by
  unfold layer gate Ideal.logistic
  pointwise

theorem mod_at (x : FVec Ideal S4x1024 .f32) (y : FVec Ideal S1024 .f32) (w : FVec Ideal S2x1024x6144 .f32) (b : FVec Ideal S2x6144 .f32) (i : Fin 2) (r : Fin 8) (k : Fin 6144) :
    mod x y w b (ix3 i r k) = (∑ e : Fin 1024, conds x y (ix2 r e) * Ideal.logistic (conds x y (ix2 r e)) * w (ix3 i e k)) + b (ix2 i k) := by
  unfold mod
  generalize conds x y = v
  have l0 : ∀ (r : Fin 8) (k : Fin 6144), layer v (extractStridedSlice S1x1024x6144 ![0, 0, 0] w slices_S2x1024x6144_S1x1024x6144_0_0_0) (extractStridedSlice S1x6144 ![0, 0] b slices_S2x6144_S1x6144_0_0) (ix3 0 r k)
      = (∑ e : Fin 1024, v (ix2 r e) * Ideal.logistic (v (ix2 r e)) * w (ix3 0 e k)) + b (ix2 0 k) := fun r k => by
    rw [layer_at]
    pointwise
  have l1 : ∀ (r : Fin 8) (k : Fin 6144), layer v (extractStridedSlice S1x1024x6144 ![1, 0, 0] w slices_S2x1024x6144_S1x1024x6144_1_0_0) (extractStridedSlice S1x6144 ![1, 0] b slices_S2x6144_S1x6144_1_0) (ix3 0 r k)
      = (∑ e : Fin 1024, v (ix2 r e) * Ideal.logistic (v (ix2 r e)) * w (ix3 1 e k)) + b (ix2 1 k) := fun r k => by
    rw [layer_at]
    pointwise
  generalize layer v (extractStridedSlice S1x1024x6144 ![0, 0, 0] w slices_S2x1024x6144_S1x1024x6144_0_0_0) (extractStridedSlice S1x6144 ![0, 0] b slices_S2x6144_S1x6144_0_0) = a at l0 ⊢
  generalize layer v (extractStridedSlice S1x1024x6144 ![1, 0, 0] w slices_S2x1024x6144_S1x1024x6144_1_0_0) (extractStridedSlice S1x6144 ![1, 0] b slices_S2x6144_S1x6144_1_0) = a' at l1 ⊢
  match i with
  | 0 =>
    refine Eq.trans ?_ (l0 r k)
    pointwise
  | 1 =>
    refine Eq.trans ?_ (l1 r k)
    pointwise

/-- The reference ends at its result, the arguments unchanged. -/
theorem run_mod (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = mod (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  unfold mod layer gate conds
  exact run m ρ

end Cert.Reference6Ideal.Value

namespace Cert.Adaln

open Idealize.ShloMosaic Idealize.ShloMosaic.TcCoe Idealize.SL.Sem

section

open Cert.Kernel6Ideal Cert.Kernel6Ideal.Gen Idealize.ShloMosaic.Routing

/-- The batches' rows in the operand's places, the first index word zero. -/
abbrev D4 := scatter_S8x1024_S1_S4x1024_01_n_0_0

/-- The context's row in the operand's place four. -/
abbrev D1 := scatter_S8x1024_S1_S1024_0_0_0_0

/-- Where an entry of the batches' rows lands. -/
theorem lands4 (i : IVec S1 32) (hi : ∀ x, i x = 0#32) (a : Fin 4) (e : Fin 1024) (r : Fin 8) (k : Fin 1024) :
    D4.resultIdx? (ix2 a e) i = some (ix2 r k) ↔ (a : ℕ) = r ∧ (e : ℕ) = k := by
  have s0 : D4.start (ix2 a e) i 0 = 0 := by
    refine (show D4.start (ix2 a e) i 0 = (i _).toInt from rfl).trans ?_
    rw [hi]
    rfl
  have s1 : D4.start (ix2 a e) i 1 = 0 := rfl
  have w0 : D4.window (ix2 a e) 0 = a := rfl
  have w1 : D4.window (ix2 a e) 1 = e := rfl
  rw [resultIdx?_eq_some, Fin.forall_fin_two, s0, s1, w0, w1]
  show (0 : ℤ) + (a : ℕ) = (r : ℕ) ∧ (0 : ℤ) + (e : ℕ) = (k : ℕ) ↔ _
  omega

/-- Where an entry of the context's row lands. -/
theorem lands1 (i : IVec S1 32) (hi : ∀ x, i x = 4#32) (e : Fin 1024) (r : Fin 8) (k : Fin 1024) :
    D1.resultIdx? (ix1 e) i = some (ix2 r k) ↔ (r : ℕ) = 4 ∧ (e : ℕ) = k := by
  have s0 : D1.start (ix1 e) i 0 = 4 := by
    refine (show D1.start (ix1 e) i 0 = (i _).toInt from rfl).trans ?_
    rw [hi]
    rfl
  have s1 : D1.start (ix1 e) i 1 = 0 := rfl
  have w0 : D1.window (ix1 e) 0 = 0 := rfl
  have w1 : D1.window (ix1 e) 1 = e := rfl
  rw [resultIdx?_eq_some, Fin.forall_fin_two, s0, s1, w0, w1]
  show (4 : ℤ) + (0 : ℕ) = (r : ℕ) ∧ (0 : ℤ) + (e : ℕ) = (k : ℕ) ↔ _
  omega

/-- The two rows set into zeros. -/
theorem set_at (z : FVec Ideal S8x1024 .f32) (i i' : IVec S1 32) (hi : ∀ x, i x = 0#32) (hi' : ∀ x, i' x = 4#32) (x : FVec Ideal S4x1024 .f32) (y : FVec Ideal S1024 .f32)
    (o : EReal) (hz : ∀ r k, z (ix2 r k) = o) (r : Fin 8) (k : Fin 1024) :
    Host.scatter D1 (fun _ b => b) (Host.scatter D4 (fun _ b => b) z i x) i' y (ix2 r k) = rows (fun r e => x (ix2 r e)) (fun e => y (ix1 e)) o r k := by
  have u1 : ∀ j : S1024.Idx, D1.resultIdx? j i' = some (ix2 r k) → (r : ℕ) = 4 ∧ j = ix1 k := fun j hj => by
    idx_vars j
    have h := (lands1 i' hi' j0 r k).1 hj
    exact ⟨h.1, congrArg ix1 (Fin.ext h.2)⟩
  have u4 : ∀ j : S4x1024.Idx, D4.resultIdx? j i = some (ix2 r k) → ∃ h : (r : ℕ) < 4, j = ix2 ⟨r, h⟩ k := fun j hj => by
    idx_vars j
    have h := (lands4 i hi j0 j1 r k).1 hj
    have hr : (r : ℕ) < 4 := by omega
    exact ⟨hr, congrArg₂ ix2 (Fin.ext h.1) (Fin.ext h.2)⟩
  unfold rows
  by_cases h : (r : ℕ) < 4
  · rw [dif_pos h]
    refine (scatter_set_miss D1 _ i' y _ fun j hj => ?_).trans ?_
    · have := (u1 j hj).1
      omega
    · refine scatter_set_hit D4 z i x _ _ (fun j hj => ?_) (ix2 ⟨r, h⟩ k) ((lands4 i hi _ k r k).2 ⟨rfl, rfl⟩)
      obtain ⟨_, rfl⟩ := u4 j hj
      rfl
  · rw [dif_neg h]
    by_cases h' : (r : ℕ) - 4 < 1
    · rw [if_pos h']
      refine scatter_set_hit D1 _ i' y _ _ (fun j hj => ?_) (ix1 k) ((lands1 i' hi' k r k).2 ⟨by omega, rfl⟩)
      rw [(u1 j hj).2]
    · rw [if_neg h']
      refine (scatter_set_miss D1 _ i' y _ fun j hj => ?_).trans ((scatter_set_miss D4 z i x _ fun j hj => ?_).trans (hz r k))
      · have := (u1 j hj).1
        omega
      · exact h (u4 j hj).1

variable (m : (ℓ : Loc nD τ sig) → Buf (Elt Ideal) ℓ) (c : Dev nD)

/-- The conditions, as the kernel reads them. -/
theorem staged_v (r : Fin 8) (e : Fin 1024) : (V m c main_v4 : FVec Ideal S8x1024 .f32) (ix2 r e)
    = rows (fun r e => (m ((c : Thread nD τ).loc main_arg0) : FVec Ideal S4x1024 .f32) (ix2 r e)) (fun e => (m ((c : Thread nD τ).loc main_arg1) : FVec Ideal S1024 .f32) (ix1 e))
        (Ideal.ofBits .f32 0#32) r e := by
  entry_read
  exact set_at _ _ _ (fun _ => rfl) (fun _ => rfl) _ _ _ (fun _ _ => rfl) r e

/-- The offsets, as the kernel reads them. -/
theorem staged_b (i : Fin 2) (k : Fin 6144) : (V m c main_v5 : FVec Ideal S2x1x6144 .f32) (ix3 i 0 k) = (m ((c : Thread nD τ).loc main_arg3) : FVec Ideal S2x6144 .f32) (ix2 i k) := by
  entry_read
  pointwise

end

section

open Cert.Reference6Ideal Cert.Reference6Ideal.Value

/-- The kernel's array and the reference's are one. -/
theorem mod_eq (x : FVec Ideal S4x1024 .f32) (y : FVec Ideal S1024 .f32) (w : FVec Ideal S2x1024x6144 .f32) (b : FVec Ideal S2x6144 .f32)
    (v' : FVec Ideal S8x1024 .f32) (b' : FVec Ideal Cert.Kernel6Ideal.S2x1x6144 .f32)
    (hv : ∀ (r : Fin 8) (e : Fin 1024), v' (ix2 r e) = rows (fun r e => x (ix2 r e)) (fun e => y (ix1 e)) (Ideal.ofBits .f32 0#32) r e)
    (hb : ∀ (i : Fin 2) (k : Fin 6144), b' (ix3 i 0 k) = b (ix2 i k)) :
    Cert.Kernel6Ideal.Value.modArr v' w b' = mod x y w b := by
  funext j
  idx_vars j
  refine Eq.trans ?_ (mod_at x y w b j0 j1 j2).symm
  have hc : ∀ e : Fin 1024, v' (ix2 j1 e) = conds x y (ix2 j1 e) := fun e => (hv j1 e).trans (conds_at x y j1 e).symm
  refine congrArg₂ (· + ·) (Finset.sum_congr rfl fun e _ => ?_) (hb j0 j2)
  rw [← hc e]
  rfl

end

end Cert.Adaln

namespace Cert.Proof

open Idealize.ShloMosaic Idealize.ShloMosaic.TcCoe Idealize.SL.Sem

/-- The idealized modulation and its reference end at the same array. -/
theorem algebraic6 : Cert.algebraic_Kernel6Ideal_Reference6Ideal := by
  intro m g m' g' _ hagree
  refine ⟨fun c => (Cert.Kernel6Ideal.Gen.dats m 0 c).arrAt 3 Cert.Kernel6Ideal.cfg0.N, Cert.Kernel6Ideal.Value.run_blocks m g, ?_⟩
  run_from Cert.Reference6Ideal.Value.run_mod m' g'
  exact ((Cert.Kernel6Ideal.Value.final m c).trans (Cert.Adaln.mod_eq _ _ _ _ _ _ (Cert.Adaln.staged_v m c) (Cert.Adaln.staged_b m c))).symm

end Cert.Proof

end
-- ==== Proof.KvPoint.lean ====
/- The context's keys and values, entry by entry: the kernel's two result arrays. -/
module

public import proofs.«01_k».proof.Proof.Gen.Kernel7Ideal.Value
public import proofs.«01_k».proof.Proof.FfnPoint
public import proofs.«01_k».proof.Proof.MixPoint
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)
open Cert.Kernel2Ideal.Value (rms normed)
open Cert.Kernel5Ideal.Value (rms128)

section

variable (x0 : FVec Ideal S1x256x1024 .f32) (x1 x2 : FVec Ideal S1x1x1024 .f32) (x3 : FVec Ideal S1x1024 .f32) (x4 : FVec Ideal S1024x1536 .bf16) (x5 x6 g : FVec Ideal S1x128 .f32)
  (v : FVec Ideal S256x512 .f32) (r : Fin 256) (d : Fin 128)

/-- Column `o` of row `s` of the projected block. -/
def projB (s : Fin 256) (o : Fin 512) : EReal :=
  ∑ e : Fin 1024, normed (fun d => x0 (ix3 0 s d)) (fun d => x3 (ix2 0 d)) (fun d => x1 (ix3 0 0 d)) (fun d => x2 (ix3 0 0 d)) e * x4 (ix2 e ⟨1024 + o, by omega⟩)

theorem pay2_at (w : FVec Ideal S1024x512 .bf16) (o : Fin 512) : k0_pay2 (F := Ideal) x0 x3 x1 x2 w (ix2 r o)
    = ∑ e : Fin 1024, normed (fun d => x0 (ix3 0 r d)) (fun d => x3 (ix2 0 d)) (fun d => x1 (ix3 0 0 d)) (fun d => x2 (ix3 0 0 d)) e * w (ix2 e o) := by
  unfold normed rms
  pointwise [k0_pay2]

/-- The projected block. -/
theorem pay11_at (o : Fin 512) : k0_pay11 (F := Ideal) x0 x1 x2 x3 x4 x5 x6 (ix2 r o) = projB x0 x1 x2 x3 x4 r o := by
  have h : ∀ (e : Fin 1024) (o : Fin 512), View.ld (Val := Elt Ideal) (e' := .bf16) x4 r0_3 (ix2 e o) = x4 (ix2 e ⟨1024 + o, by omega⟩) := fun e o => by pointwise
  unfold k0_pay11
  simp (disch := decide) only [View.ld_unit_lit']
  refine (pay2_at x0 x1 x2 x3 r _ o).trans ?_
  unfold projB
  exact Finset.sum_congr rfl fun e _ => congrArg (_ * ·) (h e o)

/-- A key head's columns, normed and scaled. -/
def headV (o : ℕ) (ho : o + 128 ≤ 256) : EReal := rms128 (fun d => v (ix2 r ⟨o + d, by omega⟩)) d * g (ix2 0 d)

theorem k1_at : k0_pay9 (F := Ideal) v g (ix4 0 0 r d) = headV g v r d 128 (by omega) := by
  unfold headV rms128
  pointwise [k0_pay9]

theorem k0_at (v29 : FVec Ideal S256x128 .f32) (v34 : FVec Ideal S256x1 .f32) (h29 : ∀ d, v29 (ix2 r d) = v (ix2 r ⟨0 + d, by omega⟩))
    (h34 : v34 (ix2 r 0) = ∑ d : Fin 128, v29 (ix2 r d) * v29 (ix2 r d)) :
    k0_pay7 (F := Ideal) v29 (k0_pay4 g) v34 (k0_pay6 (F := Ideal)) (ix4 0 0 r d) = headV g v r d 0 (by omega) := by
  have e : k0_pay7 (F := Ideal) v29 (k0_pay4 g) v34 (k0_pay6 (F := Ideal)) (ix4 0 0 r d)
      = v29 (ix2 r d) * Ideal.rsqrt (Ideal.div (v34 (ix2 r 0)) (Ideal.ofBits .f32 1124073472#32) + Ideal.ofBits .f32 897988541#32) * g (ix2 0 d) := by
    pointwise [k0_pay7, k0_pay4, k0_pay6]
  rw [e, h34]
  unfold headV rms128
  simp only [h29]

theorem pay3_at (w : FVec Ideal S1024x512 .bf16) : k0_pay3 (F := Ideal) x0 x3 x1 x2 w (ix2 r d) = k0_pay2 (F := Ideal) x0 x3 x1 x2 w (ix2 r ⟨0 + d, by omega⟩) := by
  unfold k0_pay3
  generalize k0_pay2 (F := Ideal) x0 x3 x1 x2 w = v
  pointwise

theorem pay5_at (w : FVec Ideal S1024x512 .bf16) : k0_pay5 (F := Ideal) x0 x3 x1 x2 w (ix2 r 0)
    = ∑ d : Fin 128, k0_pay3 (F := Ideal) x0 x3 x1 x2 w (ix2 r d) * k0_pay3 (F := Ideal) x0 x3 x1 x2 w (ix2 r d) := by
  unfold k0_pay5
  generalize k0_pay3 (F := Ideal) x0 x3 x1 x2 w = v
  pointwise

theorem v0_at : k0_pay8 (F := Ideal) v (ix4 0 0 r d) = v (ix2 r ⟨256 + d, by omega⟩) := by
  pointwise [k0_pay8]

theorem v1_at : k0_pay1 (F := Ideal) (k0_pay10 v) (ix4 0 0 r d) = v (ix2 r ⟨384 + d, by omega⟩) := by
  pointwise [k0_pay1, k0_pay10]

end

/-- Column `o` of the projected row `s` of batch `b`. -/
def projA (h : FVec Ideal S4x256x1024 .f32) (sc sh : FVec Ideal S1x1x1024 .f32) (g : FVec Ideal S1x1024 .f32) (w : FVec Ideal S1024x1536 .bf16) (b : Fin 4) (s : Fin 256)
    (o : Fin 512) : EReal :=
  ∑ e : Fin 1024, normed (fun d => h (ix3 b s d)) (fun d => g (ix2 0 d)) (fun d => sc (ix3 0 0 d)) (fun d => sh (ix3 0 0 d)) e * w (ix2 e ⟨1024 + o, by omega⟩)

/-- The keys. -/
def kArr (p : Fin 4 → Fin 256 → Fin 512 → EReal) (g : FVec Ideal S1x128 .f32) : FVec Ideal S4x2x256x128 .bf16 := fun j =>
  rms128 (fun d => p (j 0) (j 2) ⟨128 * (j 1 : Fin 2) + d, by have : (j 1 : ℕ) < 2 := (j 1).isLt; omega⟩) (j 3) * g (ix2 0 (j 3))

/-- The values. -/
def vArr (p : Fin 4 → Fin 256 → Fin 512 → EReal) : FVec Ideal S4x2x256x128 .bf16 := fun j =>
  p (j 0) (j 2) ⟨256 + 128 * (j 1 : Fin 2) + (j 3 : Fin 128), by have : (j 1 : ℕ) < 2 := (j 1).isLt; have : (j 3 : ℕ) < 128 := (j 3).isLt; omega⟩

/-- Every window's block index, in the grid point's number. -/
theorem idx : ∀ t : Fin cfg0.N, win0_0.index t = ![t.val, 0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![t.val, 0, 0, 0] ∧ win0_8.index t = ![t.val, 0, 0, 0] :=
  (by decide +kernel : ∀ t : Fin grid0.N, _)

/-- A stored piece is read at its two last places. -/
theorem at_piece {α : Type} (P : S1x1x256x128.Idx → α) (x : S1x1x256x128.Idx) : P x = P (ix4 0 0 (x 2) (x 3)) := by
  refine congrArg P (funext fun a => ?_)
  match a with
  | 0 => exact Subsingleton.elim (α := Fin 1) _ _
  | 1 => exact Subsingleton.elim (α := Fin 1) _ _
  | 2 => rfl
  | 3 => rfl

section blocks

variable (m : (ℓ : Loc nD τ sig) → Buf (Elt Ideal) ℓ) (c : Dev nD) (t : Fin cfg0.N)

/-- The batch of a grid point. -/
def bat : Fin 4 := ⟨t.val, by have : t.val < 4 := t.isLt; omega⟩

theorem b0 (r : Fin 256) (e : Fin 1024) : (iblk m c 0 t : FVec Ideal S1x256x1024 .f32) (ix3 0 r e)
    = (m ((c : Thread nD τ).loc main_arg0) : FVec Ideal S4x256x1024 .f32) (ix3 (bat t) r e) := by
  blk_ext [iblk, V, idx t, bat]

theorem b1 (e : Fin 1024) : (iblk m c 1 t : FVec Ideal S1x1x1024 .f32) (ix3 0 0 e) = (V m c main_v0 : FVec Ideal S1x1x1024 .f32) (ix3 0 0 e) := by
  blk_ext [iblk, idx t]

theorem b2 (e : Fin 1024) : (iblk m c 2 t : FVec Ideal S1x1x1024 .f32) (ix3 0 0 e) = (V m c main_v1 : FVec Ideal S1x1x1024 .f32) (ix3 0 0 e) := by
  blk_ext [iblk, idx t]

theorem b3 (e : Fin 1024) : (iblk m c 3 t : FVec Ideal S1x1024 .f32) (ix2 0 e) = (V m c main_v2 : FVec Ideal S1x1024 .f32) (ix2 0 e) := by
  blk_ext [iblk, idx t]

theorem b4 (e : Fin 1024) (o : Fin 1536) : (iblk m c 4 t : FVec Ideal S1024x1536 .bf16) (ix2 e o) = (V m c main_v3 : FVec Ideal S1024x1536 .bf16) (ix2 e o) := by
  blk_ext [iblk, idx t]

theorem b6 (d : Fin 128) : (iblk m c 6 t : FVec Ideal S1x128 .f32) (ix2 0 d) = (V m c main_v5 : FVec Ideal S1x128 .f32) (ix2 0 d) := by
  blk_ext [iblk, idx t]

/-- The projection of the run's arrays. -/
def projM : Fin 4 → Fin 256 → Fin 512 → EReal :=
  projA (m ((c : Thread nD τ).loc main_arg0)) (V m c main_v0) (V m c main_v1) (V m c main_v2) (V m c main_v3)

/-- The projected block of the run. -/
def blkM : FVec Ideal S256x512 .f32 := k0_pay11 (F := Ideal) (iblk m c 0 t) (iblk m c 1 t) (iblk m c 2 t) (iblk m c 3 t) (iblk m c 4 t) (iblk m c 5 t) (iblk m c 6 t)

theorem col_eq (r : Fin 256) (o : Fin 512) : blkM m c t (ix2 r o) = projM m c (bat t) r o := by
  refine (pay11_at _ _ _ _ _ _ _ r o).trans ?_
  unfold projB projM projA
  simp only [b0, b1, b2, b3, b4]

/-- The first key head's piece. -/
def piece0 : FVec Ideal S1x1x256x128 .bf16 :=
  k0_pay7 (F := Ideal) (k0_pay3 (iblk m c 0 t) (iblk m c 3 t) (iblk m c 1 t) (iblk m c 2 t) (View.ld (Val := Elt Ideal) (e' := .bf16) (iblk m c 4 t) r0_3)) (k0_pay4 (iblk m c 6 t))
    (k0_pay5 (iblk m c 0 t) (iblk m c 3 t) (iblk m c 1 t) (iblk m c 2 t) (View.ld (Val := Elt Ideal) (e' := .bf16) (iblk m c 4 t) r0_3)) (k0_pay6 (F := Ideal))

theorem blkM_eq : blkM m c t = k0_pay2 (F := Ideal) (iblk m c 0 t) (iblk m c 3 t) (iblk m c 1 t) (iblk m c 2 t) (View.ld (Val := Elt Ideal) (e' := .bf16) (iblk m c 4 t) r0_3) := by
  unfold blkM k0_pay11
  simp (disch := decide) only [View.ld_unit_lit']
  rfl

theorem piece0_at (r : Fin 256) (d : Fin 128) : piece0 m c t (ix4 0 0 r d) = headV (iblk m c 6 t) (blkM m c t) r d 0 (by omega) := by
  rw [blkM_eq]
  exact k0_at _ _ r d _ _ (fun d => pay3_at _ _ _ _ r d _) (pay5_at _ _ _ _ r _)

theorem k_core (o : ℕ) (ho : o + 128 ≤ 256) (x : S1x1x256x128.Idx) (j : S4x2x256x128.Idx) (h0 : (j 0 : ℕ) = t.val) (h1 : o = 128 * (j 1 : ℕ))
    (h2 : (j 2 : ℕ) = x 2) (h3 : (j 3 : ℕ) = x 3) :
    headV (iblk m c 6 t) (blkM m c t) (x 2) (x 3) o ho = kArr (projM m c) (V m c main_v5) j := by
  have g0 : (j 0 : Fin 4) = bat t := Fin.ext h0
  have g2 : (j 2 : Fin 256) = x 2 := Fin.ext h2
  have g3 : (j 3 : Fin 128) = x 3 := Fin.ext h3
  subst h1
  unfold headV kArr
  refine congrArg₂ (· * ·) ?_ ((b6 m c t (x 3)).trans (congrArg (fun d => (V m c main_v5 : FVec Ideal S1x128 .f32) (ix2 0 d)) g3.symm))
  refine congrArg₂ rms128 (funext fun d => (col_eq m c t (x 2) _).trans ?_) g3.symm
  exact congr (congr (congrArg (projM m c) g0.symm) g2.symm) rfl

theorem v_core (o : ℕ) (ho : o + 128 ≤ 512) (x : S1x1x256x128.Idx) (j : S4x2x256x128.Idx) (h0 : (j 0 : ℕ) = t.val) (h1 : o = 256 + 128 * (j 1 : ℕ))
    (h2 : (j 2 : ℕ) = x 2) (h3 : (j 3 : ℕ) = x 3) :
    blkM m c t (ix2 (x 2) ⟨o + (x 3 : Fin 128), by have : (x 3 : ℕ) < 128 := (x 3).isLt; omega⟩) = vArr (projM m c) j := by
  have g0 : (j 0 : Fin 4) = bat t := Fin.ext h0
  have g2 : (j 2 : Fin 256) = x 2 := Fin.ext h2
  subst h1
  refine (col_eq m c t (x 2) _).trans ?_
  refine congr (congr (congrArg (projM m c) g0.symm) g2.symm) (Fin.ext ?_)
  show 256 + 128 * (j 1 : ℕ) + (x 3 : ℕ) = 256 + 128 * (j 1 : ℕ) + (j 3 : ℕ)
  rw [h3]

end blocks

variable (m : (ℓ : Loc nD τ sig) → Buf (Elt Ideal) ℓ)

/-- The keys after the run. -/
theorem final_k (c : Dev nD) : (dats m 0 c).arrAt 7 (cfgs 0).N = kArr (projM m c) (V m c main_v5) := by
  refine (dats m 0 c).arrAt_eq_of_covers 7 _ (by decide +kernel) fun t _ y => ?_
  blk_simp
  rw [after0_7]
  unfold out0_7
  simp (disch := decide) only [View.ld_unit_lit']
  canon_tiles x h
  · refine (at_piece _ x).trans ((k1_at (iblk m c 6 t) (blkM m c t) (x 2) (x 3)).trans (k_core m c t 128 (by omega) x _ ?_ ?_ ?_ ?_)) <;> blk_simp [idx t] <;> omega
  · refine (at_piece _ x).trans ((piece0_at m c t (x 2) (x 3)).trans (k_core m c t 0 (by omega) x _ ?_ ?_ ?_ ?_)) <;> blk_simp [idx t] <;> omega

/-- The values after the run. -/
theorem final_v (c : Dev nD) : (dats m 0 c).arrAt 8 (cfgs 0).N = vArr (projM m c) := by
  refine (dats m 0 c).arrAt_eq_of_covers 8 _ (by decide +kernel) fun t _ y => ?_
  blk_simp
  rw [after0_8]
  unfold out0_8
  canon_tiles x h
  · refine (at_piece _ x).trans ((v1_at (blkM m c t) (x 2) (x 3)).trans (v_core m c t 384 (by omega) x _ ?_ ?_ ?_ ?_)) <;> blk_simp [idx t] <;> omega
  · refine (at_piece _ x).trans ((v0_at (blkM m c t) (x 2) (x 3)).trans (v_core m c t 256 (by omega) x _ ?_ ?_ ?_ ?_)) <;> blk_simp [idx t] <;> omega

end Cert.Kernel7Ideal.Value

end
-- ==== Proof.KvClaim.lean ====
/- The context's keys and values: the reference's results entry by entry, and the equality of the two programs' results. -/
module

public import proofs.«01_k».proof.Defs
public import proofs.«01_k».proof.Proof.Gen.Reference7Ideal.Run
public import proofs.«01_k».proof.Proof.KvPoint
public import Idealize.ShloMosaic.Lib.Claim
public import Idealize.ShloMosaic.Lib.Tactic.CleanTypes

@[expose] public section

set_option maxRecDepth 16384

noncomputable section

namespace Cert.Reference7Ideal.Value

open Cert.Reference7Ideal Cert.Reference7Ideal.Gen Idealize.ShloMosaic Idealize.ShloMosaic.TcCoe Idealize.SL.Sem Idealize.ShloMosaic.StableHlo
open Cert.Kernel2Ideal.Value (rms normed)
open Cert.Kernel5Ideal.Value (rms128)

/-- A row of channels, repeated along batches and rows. -/
def chan (g : FVec Ideal S1024 .f32) : FVec Ideal S4x256x1024 .f32 :=
  broadcastInDim S4x256x1024 ![0, 1, 2] bcast_S1x1x1024_S4x256x1024_0_1_2 (broadcastInDim S1x1x1024 ![2] bcast_S1024_S1x1x1024_2 g)

/-- The row of channels of all batches, repeated along batches and rows. -/
def mods (x : FVec Ideal S1x1024 .f32) : FVec Ideal S4x256x1024 .f32 :=
  broadcastInDim S4x256x1024 ![0, 1, 2] bcast_S1x1x1024_S4x256x1024_0_1_2 (broadcastInDim S1x1x1024 ![1, 2] bcast_S1x1024_S1x1x1024_1_2 x)

/-- Every row over the root of its mean square. -/
def unit (x : FVec Ideal S4x256x1024 .f32) : FVec Ideal S4x256x1024 .f32 :=
  mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))

/-- The modulated norm of the rows. -/
def modulated (h : FVec Ideal S4x256x1024 .f32) (sc sh : FVec Ideal S1x1024 .f32) (g : FVec Ideal S1024 .f32) : FVec Ideal S4x256x1024 .f32 :=
  addf (mulf (mulf (unit h) (chan g)) (mods (addf (broadcastInDim S1x1024 ![] bcast_S_S1x1024 (constant S_ .f32 0x3F800000#32)) sc))) (mods sh)

/-- The keys' and values' product, by heads. -/
def projKV (f : FVec Ideal S4x256x1024 .f32) (w : FVec Ideal S1024x1536 .f32) : FVec Ideal S4x256x2x2x128 .f32 :=
  shapeCast _ (Host.dotGeneral dot_S4x256x1024_S1024x512_S4x256x512_2_0_01_1_n_n none f (extractStridedSlice S1024x512 ![0, 1024] w slices_S1024x1536_S1024x512_0_1024)) shapeCasts_S4x256x512_S4x256x2x2x128

/-- The keys' heads. -/
def projK (f : FVec Ideal S4x256x1024 .f32) (w : FVec Ideal S1024x1536 .f32) : FVec Ideal S4x256x2x128 .f32 :=
  shapeCast _ (extractStridedSlice S4x256x1x2x128 ![0, 0, 0, 0, 0] (projKV f w) slices_S4x256x2x2x128_S4x256x1x2x128_0_0_0_0_0) shapeCasts_S4x256x1x2x128_S4x256x2x128

/-- The values' heads. -/
def projV (f : FVec Ideal S4x256x1024 .f32) (w : FVec Ideal S1024x1536 .f32) : FVec Ideal S4x256x2x128 .f32 :=
  shapeCast _ (extractStridedSlice S4x256x1x2x128 ![0, 0, 1, 0, 0] (projKV f w) slices_S4x256x2x2x128_S4x256x1x2x128_0_0_1_0_0) shapeCasts_S4x256x1x2x128_S4x256x2x128

/-- Every key head over the root of its mean square, times the head's gains. -/
def norm2 (x : FVec Ideal S4x256x2x128 .f32) (g : FVec Ideal S128 .f32) : FVec Ideal S4x256x2x128 .f32 :=
  mulf (mulf x (broadcastInDim S4x256x2x128 ![0, 1, 2, 3] bcast_S4x256x2x1_S4x256x2x128_0_1_2_3 (Host.rsqrt (addf (Host.divf (broadcastInDim S4x256x2x1 ![0, 1, 2] bcast_S4x256x2_S4x256x2x1_0_1_2 (Host.reduceAdd (mulf x x) (constant S_ .f32 0x00000000#32) reducesTo_S4x256x2x128_S4x256x2_d3 h_S_)) (broadcastInDim S4x256x2x1 ![] bcast_S_S4x256x2x1 (constant S_ .f32 0x43000000#32))) (broadcastInDim S4x256x2x1 ![] bcast_S_S4x256x2x1 (constant S_ .f32 0x358637BD#32)))))) (broadcastInDim S4x256x2x128 ![0, 1, 2, 3] bcast_S1x1x1x128_S4x256x2x128_0_1_2_3 (broadcastInDim S1x1x1x128 ![3] bcast_S128_S1x1x1x128_3 g))

/-- The key heads before the rows. -/
def heads2 (x : FVec Ideal S4x256x2x128 .f32) : FVec Ideal S4x2x256x128 .f32 :=
  transpose S4x2x256x128 [0, 2, 1, 3] x transposes_S4x256x2x128_S4x2x256x128_0_2_1_3

theorem chan_at (g : FVec Ideal S1024 .f32) (b : Fin 4) (s : Fin 256) (d : Fin 1024) : chan g (ix3 b s d) = g (ix1 d) := by
  unfold chan
  pointwise

theorem mods_at (x : FVec Ideal S1x1024 .f32) (b : Fin 4) (s : Fin 256) (d : Fin 1024) : mods x (ix3 b s d) = x (ix2 0 d) := by
  unfold mods
  pointwise

theorem unit_at (x : FVec Ideal S4x256x1024 .f32) (b : Fin 4) (s : Fin 256) (d : Fin 1024) : unit x (ix3 b s d) = rms (fun d => x (ix3 b s d)) d := by
  unfold unit rms
  pointwise

/-- The modulated norm is the kernel's, the channel's factors associated the other way. -/
theorem modulated_at (h : FVec Ideal S4x256x1024 .f32) (sc sh : FVec Ideal S1x1024 .f32) (g : FVec Ideal S1024 .f32) (b : Fin 4) (s : Fin 256) (d : Fin 1024) :
    modulated h sc sh g (ix3 b s d) = normed (fun d => h (ix3 b s d)) (fun d => g (ix1 d)) (fun d => sc (ix2 0 d)) (fun d => sh (ix2 0 d)) d := by
  unfold modulated
  pointwise
  simp only [mods_at, unit_at, chan_at]
  unfold normed
  pointwise
  rw [mul_assoc]

theorem projKV_at (f : FVec Ideal S4x256x1024 .f32) (w : FVec Ideal S1024x1536 .f32) (b : Fin 4) (s : Fin 256) (k h : Fin 2) (d : Fin 128) :
    projKV f w (ix5 b s k h d) = ∑ e : Fin 1024, f (ix3 b s e) * w (ix2 e ⟨1024 + (k * 256 + h * 128 + d), by omega⟩) := by
  unfold projKV
  pointwise

theorem projK_at (f : FVec Ideal S4x256x1024 .f32) (w : FVec Ideal S1024x1536 .f32) (b : Fin 4) (s : Fin 256) (h : Fin 2) (d : Fin 128) :
    projK f w (ix4 b s h d) = ∑ e : Fin 1024, f (ix3 b s e) * w (ix2 e ⟨1024 + 128 * h + d, by omega⟩) := by
  refine (show projK f w (ix4 b s h d) = projKV f w (ix5 b s 0 h d) by unfold projK; pointwise).trans ((projKV_at f w b s 0 h d).trans ?_)
  refine Finset.sum_congr rfl fun e _ => congrArg (fun i => f (ix3 b s e) * w (ix2 e i)) (Fin.ext ?_)
  show 1024 + (0 * 256 + (h : ℕ) * 128 + (d : ℕ)) = 1024 + 128 * (h : ℕ) + (d : ℕ)
  omega

theorem projV_at (f : FVec Ideal S4x256x1024 .f32) (w : FVec Ideal S1024x1536 .f32) (b : Fin 4) (s : Fin 256) (h : Fin 2) (d : Fin 128) :
    projV f w (ix4 b s h d) = ∑ e : Fin 1024, f (ix3 b s e) * w (ix2 e ⟨1280 + 128 * h + d, by omega⟩) := by
  refine (show projV f w (ix4 b s h d) = projKV f w (ix5 b s 1 h d) by unfold projV; pointwise).trans ((projKV_at f w b s 1 h d).trans ?_)
  refine Finset.sum_congr rfl fun e _ => congrArg (fun i => f (ix3 b s e) * w (ix2 e i)) (Fin.ext ?_)
  show 1024 + (1 * 256 + (h : ℕ) * 128 + (d : ℕ)) = 1280 + 128 * (h : ℕ) + (d : ℕ)
  omega

theorem norm2_at (x : FVec Ideal S4x256x2x128 .f32) (g : FVec Ideal S128 .f32) (b : Fin 4) (s : Fin 256) (h : Fin 2) (d : Fin 128) :
    norm2 x g (ix4 b s h d) = rms128 (fun d => x (ix4 b s h d)) d * g (ix1 d) := by
  unfold norm2 rms128
  pointwise

theorem heads2_at (x : FVec Ideal S4x256x2x128 .f32) (b : Fin 4) (h : Fin 2) (s : Fin 256) (d : Fin 128) : heads2 x (ix4 b h s d) = x (ix4 b s h d) := by
  unfold heads2
  pointwise

/-- The reference's keys. -/
def keys (f : FVec Ideal S4x256x1024 .f32) (w : FVec Ideal S1024x1536 .f32) (g : FVec Ideal S128 .f32) : FVec Ideal S4x2x256x128 .bf16 :=
  truncf .bf16 (heads2 (norm2 (projK f w) g)) bitsLt_bf16_f32

/-- The reference's values. -/
def values (f : FVec Ideal S4x256x1024 .f32) (w : FVec Ideal S1024x1536 .f32) : FVec Ideal S4x2x256x128 .bf16 :=
  truncf .bf16 (heads2 (projV f w)) bitsLt_bf16_f32

/-- The run ends at the two staged results. -/
theorem run_kv (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = keys (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg6))
      ∧ r.2.mem ((c.tc : Thread nD τ).loc main_v44) = values (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have h := run (F := Ideal) m ρ
  unfold res_main_v43 at h
  unfold keys values heads2 norm2 projK projV projKV modulated unit chan mods
  exact h

end Cert.Reference7Ideal.Value

namespace Cert.Kv

open Idealize.ShloMosaic Idealize.ShloMosaic.TcCoe Idealize.SL.Sem
open Cert.Kernel7Ideal.Value (projA kArr vArr projM)
open Cert.Kernel5Ideal.Value (rms128)

section

open Cert.Reference7Ideal Cert.Reference7Ideal.Value

variable (h : FVec Ideal S4x256x1024 .f32) (sc sh : FVec Ideal S1x1024 .f32) (g : FVec Ideal S1024 .f32) (w : FVec Ideal S1024x1536 .f32) (gh : FVec Ideal S128 .f32)
  (sc' sh' : FVec Ideal S1x1x1024 .f32) (g' : FVec Ideal S1x1024 .f32) (gh' : FVec Ideal Cert.Kernel7Ideal.S1x128 .f32)
  (hsc : ∀ e : Fin 1024, sc' (ix3 0 0 e) = sc (ix2 0 e)) (hsh : ∀ e : Fin 1024, sh' (ix3 0 0 e) = sh (ix2 0 e)) (hg : ∀ e : Fin 1024, g' (ix2 0 e) = g (ix1 e))

include hsc hsh hg

/-- The projected columns agree. -/
theorem proj_eq (b : Fin 4) (s : Fin 256) (o : Fin 512) :
    projA h sc' sh' g' w b s o = ∑ e : Fin 1024, modulated h sc sh g (ix3 b s e) * w (ix2 e ⟨1024 + o, by omega⟩) := by
  unfold projA
  simp only [modulated_at, hsc, hsh, hg]

/-- The keys agree. -/
theorem kArr_eq (hgh : ∀ d : Fin 128, gh' (ix2 0 d) = gh (ix1 d)) : kArr (projA h sc' sh' g' w) gh' = keys (modulated h sc sh g) w gh := by
  funext j
  idx_vars j
  unfold keys
  refine Eq.trans ?_ ((heads2_at (norm2 (projK (modulated h sc sh g) w) gh) j0 j1 j2 j3).trans (norm2_at _ gh j0 j2 j1 j3)).symm
  refine congrArg₂ (· * ·) (congrArg (fun x => rms128 x j3) (funext fun d => ?_)) (hgh j3)
  refine (proj_eq h sc sh g w sc' sh' g' hsc hsh hg j0 j2 _).trans (Eq.trans ?_ (projK_at _ w j0 j2 j1 d).symm)
  refine Finset.sum_congr rfl fun e _ => congrArg (fun i => modulated h sc sh g (ix3 j0 j2 e) * w (ix2 e i)) (Fin.ext ?_)
  show 1024 + (128 * (j1 : ℕ) + (d : ℕ)) = 1024 + 128 * (j1 : ℕ) + (d : ℕ)
  omega

/-- The values agree. -/
theorem vArr_eq : vArr (projA h sc' sh' g' w) = values (modulated h sc sh g) w := by
  funext j
  idx_vars j
  unfold values
  refine Eq.trans ?_ (heads2_at (projV (modulated h sc sh g) w) j0 j1 j2 j3).symm
  refine (proj_eq h sc sh g w sc' sh' g' hsc hsh hg j0 j2 _).trans (Eq.trans ?_ (projV_at _ w j0 j2 j1 j3).symm)
  refine Finset.sum_congr rfl fun e _ => congrArg (fun i => modulated h sc sh g (ix3 j0 j2 e) * w (ix2 e i)) (Fin.ext ?_)
  show 1024 + (256 + 128 * (j1 : ℕ) + (j3 : ℕ)) = 1280 + 128 * (j1 : ℕ) + (j3 : ℕ)
  omega

end

section

open Cert.Kernel7Ideal Cert.Kernel7Ideal.Gen

variable (m : (ℓ : Loc nD τ sig) → Buf (Elt Ideal) ℓ) (c : Dev nD)

/-- The scales, as the kernel reads them. -/
theorem staged_sc (e : Fin 1024) : (V m c main_v0 : FVec Ideal S1x1x1024 .f32) (ix3 0 0 e) = (m ((c : Thread nD τ).loc main_arg1) : FVec Ideal S1x1024 .f32) (ix2 0 e) := by
  entry_read
  pointwise

/-- The shifts, as the kernel reads them. -/
theorem staged_sh (e : Fin 1024) : (V m c main_v1 : FVec Ideal S1x1x1024 .f32) (ix3 0 0 e) = (m ((c : Thread nD τ).loc main_arg2) : FVec Ideal S1x1024 .f32) (ix2 0 e) := by
  entry_read
  pointwise

/-- The norm's channels, as the kernel reads them. -/
theorem staged_g (e : Fin 1024) : (V m c main_v2 : FVec Ideal S1x1024 .f32) (ix2 0 e) = (m ((c : Thread nD τ).loc main_arg3) : FVec Ideal S1024 .f32) (ix1 e) := by
  entry_read
  pointwise

/-- The weights, as the kernel reads them. -/
theorem staged_w : V m c main_v3 = (m ((c : Thread nD τ).loc main_arg4) : FVec Ideal S1024x1536 .f32) := by
  entry_read
  rfl

/-- The keys' gains, as the kernel reads them. -/
theorem staged_gk (d : Fin 128) : (V m c main_v5 : FVec Ideal S1x128 .f32) (ix2 0 d) = (m ((c : Thread nD τ).loc main_arg6) : FVec Ideal S128 .f32) (ix1 d) := by
  entry_read
  pointwise

end

end Cert.Kv

namespace Cert.Proof

open Idealize.ShloMosaic Idealize.ShloMosaic.TcCoe Idealize.SL.Sem

/-- The idealized context projection and its reference end at the same two arrays. -/
theorem algebraic7 : Cert.algebraic_Kernel7Ideal_Reference7Ideal := by
  intro m g m' g' _ hagree
  refine ⟨fun c => (Cert.Kernel7Ideal.Gen.dats m 0 c).arrAt 7 Cert.Kernel7Ideal.cfg0.N, fun c => (Cert.Kernel7Ideal.Gen.dats m 0 c).arrAt 8 Cert.Kernel7Ideal.cfg0.N,
    Cert.Kernel7Ideal.Value.run_blocks m g, ?_⟩
  run_from Cert.Reference7Ideal.Value.run_kv m' g'
  · have e := Cert.Kernel7Ideal.Value.final_k m c
    unfold Cert.Kernel7Ideal.Value.projM at e
    rw [Cert.Kv.staged_w] at e
    exact (e.trans (Cert.Kv.kArr_eq _ _ _ _ _ _ _ _ _ _ (Cert.Kv.staged_sc m c) (Cert.Kv.staged_sh m c) (Cert.Kv.staged_g m c) (Cert.Kv.staged_gk m c))).symm
  · have e := Cert.Kernel7Ideal.Value.final_v m c
    unfold Cert.Kernel7Ideal.Value.projM at e
    rw [Cert.Kv.staged_w] at e
    exact (e.trans (Cert.Kv.vArr_eq _ _ _ _ _ _ _ _ (Cert.Kv.staged_sc m c) (Cert.Kv.staged_sh m c) (Cert.Kv.staged_g m c))).symm

end Cert.Proof

end
-- ==== Proof.InprojRun.lean ====
/- The even layer's input projection: the run ends at the nine window arrays, the arguments unchanged. -/
module

public import proofs.«01_k».proof.Proof.Gen.Kernel8Ideal.Frame
public import Idealize.ShloMosaic.Lib.Pipeline.Value

@[expose] public section

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v43_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v43_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v43_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v43_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v43_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v43_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v43_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v43_7) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v43_8) = (dats m 0 c).arrAt 19 cfg0.N :=
  (h c).1 19

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

set_option maxHeartbeats 206100 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v43_0) = (dats m 0 c).arrAt 11 cfg0.N
      ∧ r.2.mem ((c : Thread nD τ).loc main_v43_1) = (dats m 0 c).arrAt 12 cfg0.N
      ∧ r.2.mem ((c : Thread nD τ).loc main_v43_2) = (dats m 0 c).arrAt 13 cfg0.N
      ∧ r.2.mem ((c : Thread nD τ).loc main_v43_3) = (dats m 0 c).arrAt 14 cfg0.N
      ∧ r.2.mem ((c : Thread nD τ).loc main_v43_4) = (dats m 0 c).arrAt 15 cfg0.N
      ∧ r.2.mem ((c : Thread nD τ).loc main_v43_5) = (dats m 0 c).arrAt 16 cfg0.N
      ∧ r.2.mem ((c : Thread nD τ).loc main_v43_6) = (dats m 0 c).arrAt 17 cfg0.N
      ∧ r.2.mem ((c : Thread nD τ).loc main_v43_7) = (dats m 0 c).arrAt 18 cfg0.N
      ∧ r.2.mem ((c : Thread nD τ).loc main_v43_8) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post11 m r h c,
      post12 m r h c,
      post13 m r h c,
      post14 m r h c,
      post15 m r h c,
      post16 m r h c,
      post17 m r h c,
      post18 m r h c,
      post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.Kernel8Ideal.Value

end
-- ==== Proof.InprojMath.lean ====
/- The decays' arithmetic: the gate's logarithm, a value in three parts, the triangular sums within chunks of 64 rows, and the host's running sum. -/
module

public import Idealize.ShloMosaic.Lib.Pipeline.ValueKit
public import Idealize.ShloMosaic.Lib.Pointwise
public import Idealize.ShloMosaic.Lib.Tactic.CleanTypes

@[expose] public section

set_option maxRecDepth 16384

noncomputable section

namespace Cert.Inproj

open Idealize.ShloMosaic

/-- The logarithm of the logistic. -/
def logSig (z : EReal) : EReal := min z 0 - Ideal.log1p (Ideal.exp (-max z (-z)))

theorem exp_nonneg (x : EReal) : 0 ≤ Ideal.exp x := by
  induction x with
  | bot => exact le_refl _
  | top => exact le_top
  | coe r => exact EReal.coe_nonneg.2 (Real.exp_pos r).le

theorem log1p_nonneg (x : EReal) (h : 0 ≤ x) : 0 ≤ Ideal.log1p x := by
  unfold Ideal.log1p
  induction x with
  | bot => exact absurd h (by simp)
  | top => rw [show (1 : EReal) + ⊤ = ⊤ from rfl]; exact le_top
  | coe r =>
    have hr : 0 ≤ r := EReal.coe_nonneg.1 h
    rw [show (1 : EReal) + (r : EReal) = ((1 + r : ℝ) : EReal) from (EReal.coe_add 1 r).symm]
    show (0 : EReal) ≤ if 1 + r ≤ 0 then ⊥ else (Real.log (1 + r) : EReal)
    rw [if_neg (by linarith)]
    exact EReal.coe_nonneg.2 (Real.log_nonneg (by linarith))

/-- The logarithm is never above zero. -/
theorem logSig_le (z : EReal) : logSig z ≤ 0 := by
  have h := log1p_nonneg _ (exp_nonneg (-max z (-z)))
  unfold logSig
  refine (EReal.sub_le_sub (min_le_right z 0) h).trans ?_
  simp

/-- The reference's spelling, the softplus of the negated argument, negated. -/
theorem logSig_eq (z : EReal) : -(max (-z) 0 + Ideal.log1p (Ideal.exp (-max (-z) (-(-z))))) = logSig z := by
  have h := log1p_nonneg _ (exp_nonneg (-max (-z) (-(-z))))
  have h0 : (0 : EReal) ≤ max (-z) 0 := le_max_right _ _
  unfold logSig
  rw [EReal.neg_add (Or.inl (ne_of_gt (lt_of_lt_of_le EReal.bot_lt_zero h0))) (Or.inr (ne_of_gt (lt_of_lt_of_le EReal.bot_lt_zero h)))]
  have e : -max (-z) 0 = min z 0 := by
    rw [← EReal.min_neg_neg, neg_neg, neg_zero]
  rw [e, neg_neg, max_comm (-z) z]

/-- A value at most zero, in three parts, each times nought or one: the whole. -/
theorem parts (t : Prop) [Decidable t] (x : EReal) (hx : x ≤ 0) :
    (if t then (1 : EReal) else 0) * x + (if t then (1 : EReal) else 0) * (x - x) + (if t then (1 : EReal) else 0) * ((x - x) - (x - x)) = if t then x else 0 := by
  split
  · rw [one_mul, one_mul, one_mul]
    induction x with
    | bot => rfl
    | top => exact absurd hx (by simp)
    | coe r =>
      rw [← EReal.coe_sub, ← EReal.coe_sub, ← EReal.coe_add, ← EReal.coe_add]
      congr 1
      ring
  · rw [zero_mul, zero_mul, zero_mul, add_zero, add_zero]

theorem parts_sum {n : ℕ} (t : Fin n → Prop) [∀ k, Decidable (t k)] (x : Fin n → EReal) (hx : ∀ k, x k ≤ 0) :
    ∑ k, (if t k then (1 : EReal) else 0) * x k + ∑ k, (if t k then (1 : EReal) else 0) * (x k - x k)
      + ∑ k, (if t k then (1 : EReal) else 0) * ((x k - x k) - (x k - x k)) = ∑ k, if t k then x k else 0 := by
  rw [← Finset.sum_add_distrib, ← Finset.sum_add_distrib]
  exact Finset.sum_congr rfl fun k _ => parts (t k) (x k) (hx k)

/-- A sum over the rows of one chunk, over the chunk's own rows. -/
theorem chunk_sum (x : Fin 256 → EReal) (c : ℕ) (hc : c < 4) (p : ℕ → Prop) [DecidablePred p] :
    (∑ k : Fin 256, if (k : ℕ) / 64 = c ∧ p k then x k else 0) = ∑ j : Fin 64, if p (64 * c + j) then x ⟨64 * c + j, by omega⟩ else 0 := by
  rw [← Finset.sum_filter, ← Finset.sum_filter]
  symm
  refine Finset.sum_bij (fun j _ => ⟨64 * c + j, by omega⟩) ?_ ?_ ?_ ?_
  · intro j hj
    rw [Finset.mem_filter] at hj ⊢
    refine ⟨Finset.mem_univ _, ?_, hj.2⟩
    show (64 * c + (j : ℕ)) / 64 = c
    omega
  · intro a _ b _ h
    have := congrArg Fin.val h
    refine Fin.ext ?_
    change 64 * c + (a : ℕ) = 64 * c + b at this
    omega
  · intro k hk
    rw [Finset.mem_filter] at hk
    obtain ⟨_, h1, h2⟩ := hk
    have e : 64 * c + (k : ℕ) % 64 = k := by omega
    refine ⟨⟨(k : ℕ) % 64, by omega⟩, ?_, Fin.ext e⟩
    rw [Finset.mem_filter]
    refine ⟨Finset.mem_univ _, ?_⟩
    show p (64 * c + (k : ℕ) % 64)
    rw [e]; exact h2
  · intro j _
    rfl

abbrev C4 : Shape := ⟨4, ![4, 128, 64, 256]⟩
abbrev W4 : Shape := ⟨4, ![1, 1, 64, 1]⟩

theorem fold_add {α : Type} (f : α → EReal) (l : List α) (a : EReal) : l.foldl (fun r n => r + f n) a = a + (l.map f).sum := by
  induction l generalizing a with
  | nil => simp
  | cons b l ih => rw [List.foldl_cons, ih, List.map_cons, List.sum_cons, add_assoc]

/-- The running sum within a chunk. -/
theorem running (x : FVec Ideal C4 .f32) (init : (⟨0, ![]⟩ : Shape).Idx → Ideal .f32) (hi : ∀ i, init i = (0 : EReal))
    (h : C4.ReduceWindows ![1, 1, 64, 1] ![1, 1, 1, 1] ![0, 0, 63, 0] ![0, 0, 0, 0] C4) (hu : 0 < (⟨0, ![]⟩ : Shape).numel)
    (b : Fin 4) (c : Fin 128) (s : Fin 64) (d : Fin 256) :
    Host.reduceWindowAdd (F := Ideal) ![1, 1, 64, 1] ![1, 1, 1, 1] ![0, 0, 63, 0] ![0, 0, 0, 0] x init h hu (ix4 b c s d)
      = ∑ k : Fin 64, if (k : ℕ) ≤ s then x (ix4 b c k d) else 0 := by
  show Host.reduceWindow (fun a b : EReal => a + b) ![1, 1, 64, 1] ![1, 1, 1, 1] ![0, 0, 63, 0] ![0, 0, 0, 0] x (fun _ : (⟨0, ![]⟩ : Shape).Idx => init (Shape.Idx.first hu)) h hu (ix4 b c s d) = _
  rw [hi]
  unfold Host.reduceWindow
  dsimp only
  rw [fold_add, zero_add]
  let g : W4.Idx → EReal := fun w => if 63 ≤ (s : ℕ) + (w 2 : ℕ) then x (ix4 b c ⟨(s : ℕ) + (w 2 : ℕ) - 63, by have : (w 2 : ℕ) < 64 := (w 2).isLt; omega⟩ d) else 0
  refine (congrArg List.sum (List.map_congr_left (g := fun n => g (W4.rowMajor.symm n)) fun n _ => ?_)).trans ?_
  · let w : W4.Idx := W4.rowMajor.symm n
    have w0 : (w 0 : ℕ) < 1 := (w 0).isLt
    have w1 : (w 1 : ℕ) < 1 := (w 1).isLt
    have w2 : (w 2 : ℕ) < 64 := (w 2).isLt
    have w3 : (w 3 : ℕ) < 1 := (w 3).isLt
    have hb := b.isLt
    have hc := c.isLt
    have hd := d.isLt
    by_cases hs : 63 ≤ (s : ℕ) + (w 2 : ℕ)
    · refine (dif_pos ?_).trans ((congrArg x (funext fun a => Fin.ext ?_)).trans (if_pos hs).symm)
      · intro a
        match a with
        | 0 => show 0 ≤ (b : ℕ) * 1 + (w 0 : ℕ) ∧ (b : ℕ) * 1 + (w 0 : ℕ) - 0 < 4; omega
        | 1 => show 0 ≤ (c : ℕ) * 1 + (w 1 : ℕ) ∧ (c : ℕ) * 1 + (w 1 : ℕ) - 0 < 128; omega
        | 2 => show 63 ≤ (s : ℕ) * 1 + (w 2 : ℕ) ∧ (s : ℕ) * 1 + (w 2 : ℕ) - 63 < 64; omega
        | 3 => show 0 ≤ (d : ℕ) * 1 + (w 3 : ℕ) ∧ (d : ℕ) * 1 + (w 3 : ℕ) - 0 < 256; omega
      · match a with
        | 0 => show (b : ℕ) * 1 + (w 0 : ℕ) - 0 = b; omega
        | 1 => show (c : ℕ) * 1 + (w 1 : ℕ) - 0 = c; omega
        | 2 => show (s : ℕ) * 1 + (w 2 : ℕ) - 63 = (s : ℕ) + (w 2 : ℕ) - 63; omega
        | 3 => show (d : ℕ) * 1 + (w 3 : ℕ) - 0 = d; omega
    · refine (dif_neg ?_).trans (if_neg hs).symm
      intro hin
      have h2 : 63 ≤ (s : ℕ) * 1 + (w 2 : ℕ) ∧ (s : ℕ) * 1 + (w 2 : ℕ) - 63 < 64 := hin 2
      omega
  · refine (Fin.sum_univ_def fun n => g (W4.rowMajor.symm n)).symm.trans ?_
    refine (Equiv.sum_comp W4.rowMajor.symm g).trans ?_
    rw [← Finset.sum_filter, ← Finset.sum_filter]
    symm
    refine Finset.sum_bij (fun k hk => (ix4 0 0 ⟨(k : ℕ) + 63 - s, by have := (Finset.mem_filter.1 hk).2; have := k.isLt; omega⟩ 0 : W4.Idx)) ?_ ?_ ?_ ?_
    · intro k hk
      have hk' := (Finset.mem_filter.1 hk).2
      refine Finset.mem_filter.2 ⟨Finset.mem_univ _, ?_⟩
      show 63 ≤ (s : ℕ) + ((k : ℕ) + 63 - s)
      omega
    · intro k hk l hl e
      have hk' := (Finset.mem_filter.1 hk).2
      have hl' := (Finset.mem_filter.1 hl).2
      have e2 : (k : ℕ) + 63 - s = (l : ℕ) + 63 - s := congrArg (fun w : W4.Idx => (w 2 : ℕ)) e
      exact Fin.ext (by omega)
    · intro w hw
      have hw' := (Finset.mem_filter.1 hw).2
      have w2 : (w 2 : ℕ) < 64 := (w 2).isLt
      refine ⟨⟨(s : ℕ) + (w 2 : ℕ) - 63, by omega⟩, Finset.mem_filter.2 ⟨Finset.mem_univ _, ?_⟩, funext fun a => ?_⟩
      · show (s : ℕ) + (w 2 : ℕ) - 63 ≤ s
        omega
      · match a with
        | 0 => exact Subsingleton.elim (α := Fin 1) _ _
        | 1 => exact Subsingleton.elim (α := Fin 1) _ _
        | 2 => exact Fin.ext (by show (s : ℕ) + (w 2 : ℕ) - 63 + 63 - s = (w 2 : ℕ); omega)
        | 3 => exact Subsingleton.elim (α := Fin 1) _ _
    · intro k hk
      have hk' := (Finset.mem_filter.1 hk).2
      refine congrArg (fun i => x (ix4 b c i d)) (Fin.ext ?_)
      show (k : ℕ) = (s : ℕ) + ((k : ℕ) + 63 - s) - 63
      omega

end Cert.Inproj

end
-- ==== Proof.InprojPoint.lean ====
/- The even layer's input projection, entry by entry: the payloads of the kernel's nine result arrays. -/
module

public import proofs.«01_k».proof.Proof.InprojRun
public import proofs.«01_k».proof.Proof.FfnPoint
public import proofs.«01_k».proof.Proof.InprojMath
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)
open Cert.Kernel2Ideal.Value (rms normed)
open Cert.Inproj (logSig)

section

variable (x0 : FVec Ideal S1x512x1024 .f32) (x1 x2 : FVec Ideal S1x1x1024 .f32) (x3 : FVec Ideal S1x1024 .f32) (x4 : FVec Ideal S1024x2048 .bf16) (x5 : FVec Ideal S1024x128 .bf16)
  (x6 : FVec Ideal S128x256 .bf16) (x7 : FVec Ideal S128x512 .bf16) (x8 : FVec Ideal S1x512 .f32) (x9 x10 : FVec Ideal S256x256 .bf16)
  (v : FVec Ideal S256x2048 .f32) (cs : FVec Ideal S128x256 .bf16) (r : Fin 256)

theorem payU_at (h : FVec Ideal S1x256x1024 .f32) (o : Fin 2048) : k0_pay7 (F := Ideal) h x3 x1 x2 x4 (ix2 r o)
    = ∑ e : Fin 1024, normed (fun d => h (ix3 0 r d)) (fun d => x3 (ix2 0 d)) (fun d => x1 (ix3 0 0 d)) (fun d => x2 (ix3 0 0 d)) e * x4 (ix2 e o) := by
  unfold normed rms
  pointwise [k0_pay7, k0_pay6]

theorem payL_at (h : FVec Ideal S1x256x1024 .f32) (o : Fin 2048) : k0_pay10 (F := Ideal) h x3 x1 x2 x4 (ix2 r o)
    = ∑ e : Fin 1024, normed (fun d => h (ix3 0 r d)) (fun d => x3 (ix2 0 d)) (fun d => x1 (ix3 0 0 d)) (fun d => x2 (ix3 0 0 d)) e * x4 (ix2 e o) := by
  unfold normed rms
  pointwise [k0_pay10, k0_pay9]

/-- Column `o` of row `s` of the projected block. -/
def colB (s : Fin 512) (o : Fin 2048) : EReal :=
  ∑ e : Fin 1024, normed (fun d => x0 (ix3 0 s d)) (fun d => x3 (ix2 0 d)) (fun d => x1 (ix3 0 0 d)) (fun d => x2 (ix3 0 0 d)) e * x4 (ix2 e o)

/-- The upper half of the projected block. -/
theorem pay73_at (o : Fin 2048) : k0_pay73 (F := Ideal) x0 x1 x2 x3 x4 x5 x6 x7 x8 x9 x10 (ix2 r o) = colB x0 x1 x2 x3 x4 ⟨0 + r, by omega⟩ o := by
  have h : ∀ d : Fin 1024, View.ld (Val := Elt Ideal) (e' := .f32) x0 r0_1 (ix3 0 r d) = x0 (ix3 0 ⟨0 + r, by omega⟩ d) := fun d => by pointwise
  unfold k0_pay73
  simp (disch := decide) only [View.ld_unit_lit']
  refine (payU_at x1 x2 x3 x4 r _ o).trans ?_
  unfold colB
  simp only [h]

/-- The lower half of the projected block. -/
theorem pay75_at (o : Fin 2048) : k0_pay75 (F := Ideal) x0 x1 x2 x3 x4 x5 x6 x7 x8 x9 x10 (ix2 r o) = colB x0 x1 x2 x3 x4 ⟨256 + r, by omega⟩ o := by
  have h : ∀ d : Fin 1024, View.ld (Val := Elt Ideal) (e' := .f32) x0 r0_6 (ix3 0 r d) = x0 (ix3 0 ⟨256 + r, by omega⟩ d) := fun d => by pointwise
  unfold k0_pay75
  simp (disch := decide) only [View.ld_unit_lit']
  refine (payL_at x1 x2 x3 x4 r _ o).trans ?_
  unfold colB
  simp only [h]

/-- A group's columns times the table's columns from `q` on. -/
def dft (o q : ℕ) (ho : o + 128 ≤ 2048) (hq : q + 128 ≤ 256) (d : Fin 128) : EReal :=
  ∑ e : Fin 128, v (ix2 r ⟨o + e, by omega⟩) * cs (ix2 e ⟨q + d, by omega⟩)

theorem re0 (d : Fin 128) : k0_pay14 (F := Ideal) (k0_pay12 v) cs (ix3 0 r d) = dft v cs r 0 0 (by omega) (by omega) d := by
  unfold dft
  pointwise [k0_pay14, k0_pay13, k0_pay12]

theorem re1 (d : Fin 128) : k0_pay17 (F := Ideal) v cs (ix3 0 r d) = dft v cs r 128 0 (by omega) (by omega) d := by
  unfold dft
  pointwise [k0_pay17, k0_pay16]

theorem re2 (d : Fin 128) : k0_pay21 (F := Ideal) (k0_pay20 v cs) (ix3 0 r d) = dft v cs r 256 0 (by omega) (by omega) d := by
  unfold dft
  pointwise [k0_pay21, k0_pay20, k0_pay19]

theorem re3 (d : Fin 128) : k0_pay24 (F := Ideal) v cs (ix3 0 r d) = dft v cs r 384 0 (by omega) (by omega) d := by
  unfold dft
  pointwise [k0_pay24, k0_pay23]

theorem im0 (d : Fin 128) : k0_pay15 (F := Ideal) (k0_pay12 v) cs (ix3 0 r d) = dft v cs r 0 128 (by omega) (by omega) d := by
  unfold dft
  pointwise [k0_pay15, k0_pay13, k0_pay12]

theorem im1 (d : Fin 128) : k0_pay18 (F := Ideal) v cs (ix3 0 r d) = dft v cs r 128 128 (by omega) (by omega) d := by
  unfold dft
  pointwise [k0_pay18, k0_pay16]

theorem im2 (d : Fin 128) : k0_pay22 (F := Ideal) (k0_pay19 v cs) (ix3 0 r d) = dft v cs r 256 128 (by omega) (by omega) d := by
  unfold dft
  pointwise [k0_pay22, k0_pay19]

theorem im3 (d : Fin 128) : k0_pay25 (F := Ideal) v cs (ix3 0 r d) = dft v cs r 384 128 (by omega) (by omega) d := by
  unfold dft
  pointwise [k0_pay25, k0_pay23]

theorem re4 (d : Fin 128) : k0_pay46 (F := Ideal) v cs (ix3 0 r d) = dft v cs r 0 0 (by omega) (by omega) d := by
  unfold dft
  pointwise [k0_pay46, k0_pay45]

theorem re5 (d : Fin 128) : k0_pay50 (F := Ideal) v cs (ix3 0 r d) = dft v cs r 128 0 (by omega) (by omega) d := by
  unfold dft
  pointwise [k0_pay50, k0_pay49]

theorem re6 (d : Fin 128) : k0_pay53 (F := Ideal) v cs (ix3 0 r d) = dft v cs r 256 0 (by omega) (by omega) d := by
  unfold dft
  pointwise [k0_pay53, k0_pay52]

theorem re7 (d : Fin 128) : k0_pay57 (F := Ideal) (k0_pay55 v) cs (ix3 0 r d) = dft v cs r 384 0 (by omega) (by omega) d := by
  unfold dft
  pointwise [k0_pay57, k0_pay56, k0_pay55]

theorem im4 (d : Fin 128) : k0_pay48 (F := Ideal) (k0_pay47 v cs) (ix3 0 r d) = dft v cs r 0 128 (by omega) (by omega) d := by
  unfold dft
  pointwise [k0_pay48, k0_pay47, k0_pay45]

theorem im5 (d : Fin 128) : k0_pay51 (F := Ideal) v cs (ix3 0 r d) = dft v cs r 128 128 (by omega) (by omega) d := by
  unfold dft
  pointwise [k0_pay51, k0_pay49]

theorem im6 (d : Fin 128) : k0_pay54 (F := Ideal) v cs (ix3 0 r d) = dft v cs r 256 128 (by omega) (by omega) d := by
  unfold dft
  pointwise [k0_pay54, k0_pay52]

theorem im7 (d : Fin 128) : k0_pay58 (F := Ideal) (k0_pay55 v) cs (ix3 0 r d) = dft v cs r 384 128 (by omega) (by omega) d := by
  unfold dft
  pointwise [k0_pay58, k0_pay56, k0_pay55]

theorem q0 (d : Fin 256) : k0_pay26 (F := Ideal) v (ix3 0 r d) = v (ix2 r ⟨512 + d, by omega⟩) * Ideal.ofBits .f32 0x3E000000#32 := by
  pointwise [k0_pay26]

theorem q1 (d : Fin 256) : k0_pay59 (F := Ideal) v (ix3 0 r d) = v (ix2 r ⟨512 + d, by omega⟩) * Ideal.ofBits .f32 0x3E000000#32 := by
  pointwise [k0_pay59]

theorem k0 (d : Fin 256) : k0_pay27 (F := Ideal) v (ix3 0 r d) = v (ix2 r ⟨768 + d, by omega⟩) := by
  pointwise [k0_pay27]

theorem k1 (d : Fin 256) : k0_pay60 (F := Ideal) v (ix3 0 r d) = v (ix2 r ⟨768 + d, by omega⟩) := by
  pointwise [k0_pay60]

theorem v0 (d : Fin 512) : k0_pay29 (F := Ideal) (k0_pay28 v) (ix3 0 r d) = v (ix2 r ⟨1024 + d, by omega⟩) := by
  pointwise [k0_pay29, k0_pay28]

theorem v1 (d : Fin 512) : k0_pay61 (F := Ideal) v (ix3 0 r d) = v (ix2 r ⟨1024 + d, by omega⟩) := by
  pointwise [k0_pay61]

theorem r0 (d : Fin 512) : k0_pay30 (F := Ideal) v (ix3 0 r d) = v (ix2 r ⟨1536 + d, by omega⟩) := by
  pointwise [k0_pay30]

theorem r1 (d : Fin 512) : k0_pay63 (F := Ideal) (k0_pay62 v) (ix3 0 r d) = v (ix2 r ⟨1536 + d, by omega⟩) := by
  pointwise [k0_pay63, k0_pay62]

/-- Column `o` of row `s` of the gates' projection. -/
def zB (s : Fin 512) (o : Fin 128) : EReal :=
  ∑ e : Fin 1024, normed (fun d => x0 (ix3 0 s d)) (fun d => x3 (ix2 0 d)) (fun d => x1 (ix3 0 0 d)) (fun d => x2 (ix3 0 0 d)) e * x5 (ix2 e o)

theorem payZU_at (h : FVec Ideal S1x256x1024 .f32) (o : Fin 128) : k0_pay8 (F := Ideal) (k0_pay6 h x3 x1 x2) x5 (ix2 r o)
    = ∑ e : Fin 1024, normed (fun d => h (ix3 0 r d)) (fun d => x3 (ix2 0 d)) (fun d => x1 (ix3 0 0 d)) (fun d => x2 (ix3 0 0 d)) e * x5 (ix2 e o) := by
  unfold normed rms
  pointwise [k0_pay8, k0_pay6]

theorem payZL_at (h : FVec Ideal S1x256x1024 .f32) (o : Fin 128) : k0_pay11 (F := Ideal) h x3 x1 x2 x5 (ix2 r o)
    = ∑ e : Fin 1024, normed (fun d => h (ix3 0 r d)) (fun d => x3 (ix2 0 d)) (fun d => x1 (ix3 0 0 d)) (fun d => x2 (ix3 0 0 d)) e * x5 (ix2 e o) := by
  unfold normed rms
  pointwise [k0_pay11, k0_pay9]

/-- The upper half of the gates' projection. -/
theorem pay74_at (o : Fin 128) : k0_pay74 (F := Ideal) x0 x1 x2 x3 x4 x5 x6 x7 x8 x9 x10 (ix2 r o) = zB x0 x1 x2 x3 x5 ⟨0 + r, by omega⟩ o := by
  have h : ∀ d : Fin 1024, View.ld (Val := Elt Ideal) (e' := .f32) x0 r0_1 (ix3 0 r d) = x0 (ix3 0 ⟨0 + r, by omega⟩ d) := fun d => by pointwise
  unfold k0_pay74
  simp (disch := decide) only [View.ld_unit_lit']
  refine (payZU_at x1 x2 x3 x5 r _ o).trans ?_
  unfold zB
  simp only [h]

/-- The lower half of the gates' projection. -/
theorem pay76_at (o : Fin 128) : k0_pay76 (F := Ideal) x0 x1 x2 x3 x4 x5 x6 x7 x8 x9 x10 (ix2 r o) = zB x0 x1 x2 x3 x5 ⟨256 + r, by omega⟩ o := by
  have h : ∀ d : Fin 1024, View.ld (Val := Elt Ideal) (e' := .f32) x0 r0_6 (ix3 0 r d) = x0 (ix3 0 ⟨256 + r, by omega⟩ d) := fun d => by pointwise
  unfold k0_pay76
  simp (disch := decide) only [View.ld_unit_lit']
  refine (payZL_at x1 x2 x3 x5 r _ o).trans ?_
  unfold zB
  simp only [h]

end

section decays

variable (z : FVec Ideal S256x128 .f32) (wg : FVec Ideal S128x512 .bf16) (bg : FVec Ideal S1x512 .f32) (t t' : FVec Ideal S256x256 .bf16) (r : Fin 256)

/-- The decay's logarithm at column `o` of row `r`. -/
def loga (o : Fin 512) : EReal :=
  logSig ((∑ c : Fin 128, z (ix2 r c) * wg (ix2 c o)) + bg (ix2 0 o)) * Ideal.ofBits .f32 0x3D800000#32

theorem pay31_at (o : Fin 512) : k0_pay31 (F := Ideal) z wg bg (ix2 r o) = loga z wg bg r o := by
  unfold loga logSig
  rw [← zero_sub (max _ _)]
  pointwise [k0_pay31]
  rfl

theorem pay64_at (o : Fin 512) : k0_pay64 (F := Ideal) z wg bg (ix2 r o) = loga z wg bg r o := by
  unfold loga logSig
  rw [← zero_sub (max _ _)]
  pointwise [k0_pay64]
  rfl

/-- A triangle's row times a column in three parts. -/
def tri (L : Fin 256 → EReal) : EReal :=
  ((∑ k : Fin 256, t (ix2 r k) * L k) + ∑ k : Fin 256, t (ix2 r k) * (L k - L k)) + ∑ k : Fin 256, t (ix2 r k) * ((L k - L k) - (L k - L k))

theorem accfU (d : Fin 256) : k0_pay40 (F := Ideal) t (k0_pay35 z wg bg) (k0_pay36 t z wg bg) (k0_pay38 t z wg bg) (ix2 r d) = tri t r fun k => loga z wg bg k ⟨0 + d, by omega⟩ := by
  have h := pay31_at z wg bg
  unfold k0_pay40 k0_pay38 k0_pay36 k0_pay35 k0_pay34 k0_pay33 k0_pay32 tri
  simp only [← h]
  generalize k0_pay31 (F := Ideal) z wg bg = L
  pointwise

theorem accbU (d : Fin 256) : k0_pay41 (F := Ideal) t (k0_pay35 z wg bg) (k0_pay37 t z wg bg) (k0_pay39 z wg bg) (ix2 r d) = tri t r fun k => loga z wg bg k ⟨256 + d, by omega⟩ := by
  have h := pay31_at z wg bg
  unfold k0_pay41 k0_pay39 k0_pay37 k0_pay35 k0_pay34 k0_pay33 k0_pay32 tri
  simp only [← h]
  generalize k0_pay31 (F := Ideal) z wg bg = L
  pointwise

theorem accfL (d : Fin 256) : k0_pay69 (F := Ideal) t z wg bg (ix2 r d) = tri t r fun k => loga z wg bg k ⟨0 + d, by omega⟩ := by
  have h := pay64_at z wg bg
  unfold k0_pay69 k0_pay68 k0_pay67 k0_pay66 k0_pay65 tri
  simp only [← h]
  generalize k0_pay64 (F := Ideal) z wg bg = L
  pointwise

theorem accbL (d : Fin 256) : k0_pay70 (F := Ideal) t z wg bg (ix2 r d) = tri t r fun k => loga z wg bg k ⟨256 + d, by omega⟩ := by
  have h := pay64_at z wg bg
  unfold k0_pay70 k0_pay68 k0_pay67 k0_pay66 k0_pay65 tri
  simp only [← h]
  generalize k0_pay64 (F := Ideal) z wg bg = L
  pointwise

theorem cumfU (d : Fin 256) : k0_pay42 (F := Ideal) t (k0_pay35 z wg bg) (k0_pay36 t z wg bg) (k0_pay38 t z wg bg) (ix3 0 r d) = tri t r fun k => loga z wg bg k ⟨0 + d, by omega⟩ := by
  refine Eq.trans ?_ (accfU z wg bg t r d)
  unfold k0_pay42
  pointwise

theorem cumbU (d : Fin 256) : k0_pay43 (F := Ideal) t (k0_pay35 z wg bg) (k0_pay37 t z wg bg) (k0_pay39 z wg bg) (ix3 0 r d) = tri t r fun k => loga z wg bg k ⟨256 + d, by omega⟩ := by
  refine Eq.trans ?_ (accbU z wg bg t r d)
  unfold k0_pay43
  pointwise

theorem cumfL (d : Fin 256) : k0_pay1 (F := Ideal) (k0_pay69 t z wg bg) (ix3 0 r d) = tri t r fun k => loga z wg bg k ⟨0 + d, by omega⟩ := by
  refine Eq.trans ?_ (accfL z wg bg t r d)
  unfold k0_pay1
  pointwise

theorem cumbL (d : Fin 256) : k0_pay2 (F := Ideal) (k0_pay70 t z wg bg) (ix3 0 r d) = tri t r fun k => loga z wg bg k ⟨256 + d, by omega⟩ := by
  refine Eq.trans ?_ (accbL z wg bg t r d)
  unfold k0_pay2
  pointwise

/-- The least of both sums at the ends of eight chunks. -/
def mins (a b a' b' : FVec Ideal S256x256 .f32) (d : Fin 256) : EReal :=
  min (min (min (min (min (min (min (min (a (ix2 63 d)) (b (ix2 0 d))) (min (a (ix2 127 d)) (b (ix2 64 d)))) (min (a (ix2 191 d)) (b (ix2 128 d)))) (min (a (ix2 255 d)) (b (ix2 192 d))))
    (min (a' (ix2 63 d)) (b' (ix2 0 d)))) (min (a' (ix2 127 d)) (b' (ix2 64 d)))) (min (a' (ix2 191 d)) (b' (ix2 128 d)))) (min (a' (ix2 255 d)) (b' (ix2 192 d)))

theorem least_at (v172 : FVec Ideal S256x512 .bf16) (v174 v176 v178 : FVec Ideal S256x256 .f32) (v179 : FVec Ideal S256x256 .bf16) (a' b' : FVec Ideal S256x256 .f32) (i : Fin 8) (d : Fin 256) :
    k0_pay3 (F := Ideal) (k0_pay44 t t' v172 v174 v176 v178 v179) a' b' (ix4 0 0 i d) = mins (k0_pay40 t v172 v174 v178) (k0_pay41 t' v172 v176 v179) a' b' d := by
  unfold k0_pay3 k0_pay44 mins
  generalize k0_pay40 (F := Ideal) t v172 v174 v178 = a
  generalize k0_pay41 (F := Ideal) t' v172 v176 v179 = b
  pointwise

end decays

end Cert.Kernel8Ideal.Value

end
-- ==== Proof.InprojSums.lean ====
/- The even layer's input projection in plain functions: the spectra of the projected groups, the decays' running sums, and the least sums. -/
module

public import proofs.«01_k».proof.Proof.InprojMath

@[expose] public section

set_option maxRecDepth 16384

noncomputable section

namespace Cert.Inproj

open Idealize.ShloMosaic

/-- A group's columns times the table's columns from `q` on. -/
def fou (p : Fin 4 → Fin 8192 → Fin 2048 → EReal) (cs : Fin 128 → Fin 256 → EReal) (q : ℕ) (hq : q + 128 ≤ 256) (b : Fin 4) (s : Fin 8192) (d : Fin 512) : EReal :=
  ∑ e : Fin 128, p b s ⟨128 * ((d : ℕ) / 128) + e, by omega⟩ * cs e ⟨q + (d : ℕ) % 128, by omega⟩

/-- The decay's logarithm, of the gates' products `z`, at column `o` of row `s`. -/
def decay (z : Fin 4 → Fin 8192 → Fin 512 → EReal) (b : Fin 4) (s : Fin 8192) (o : Fin 512) : EReal := logSig (z b s o) * Ideal.ofBits .f32 0x3D800000#32

/-- The forward sum within a chunk of 64 rows. -/
def cumF (L : Fin 4 → Fin 8192 → Fin 512 → EReal) (b : Fin 4) (s : Fin 8192) (d : Fin 256) : EReal :=
  ∑ k : Fin 64, if (k : ℕ) ≤ (s : ℕ) % 64 then L b ⟨64 * ((s : ℕ) / 64) + k, by omega⟩ ⟨0 + d, by omega⟩ else 0

/-- The backward sum within a chunk of 64 rows. -/
def cumB (L : Fin 4 → Fin 8192 → Fin 512 → EReal) (b : Fin 4) (s : Fin 8192) (d : Fin 256) : EReal :=
  ∑ k : Fin 64, if (s : ℕ) % 64 ≤ (k : ℕ) then L b ⟨64 * ((s : ℕ) / 64) + k, by omega⟩ ⟨256 + d, by omega⟩ else 0

/-- The lesser of a chunk's whole sums. -/
def ends (L : Fin 4 → Fin 8192 → Fin 512 → EReal) (b : Fin 4) (c : Fin 128) (d : Fin 256) : EReal := min (cumF L b ⟨64 * c + 63, by omega⟩ d) (cumB L b ⟨64 * c, by omega⟩ d)

/-- The least of eight chunks' sums. -/
def least (L : Fin 4 → Fin 8192 → Fin 512 → EReal) (b : Fin 4) (t : Fin 16) (d : Fin 256) : EReal :=
  min (min (min (min (min (min (min (ends L b ⟨8 * t + 0, by omega⟩ d) (ends L b ⟨8 * t + 1, by omega⟩ d)) (ends L b ⟨8 * t + 2, by omega⟩ d)) (ends L b ⟨8 * t + 3, by omega⟩ d))
    (ends L b ⟨8 * t + 4, by omega⟩ d)) (ends L b ⟨8 * t + 5, by omega⟩ d)) (ends L b ⟨8 * t + 6, by omega⟩ d)) (ends L b ⟨8 * t + 7, by omega⟩ d)

theorem sixteenth : Ideal.ofBits .f32 0x3D800000#32 = ((1 / 16 : ℝ) : EReal) := by
  simp [Ideal.ofBits, Ideal.ieee]
  rw [← EReal.coe_mul]
  congr 1
  norm_num

theorem sixteen : Ideal.ofBits .f32 0x41800000#32 = ((16 : ℝ) : EReal) := by
  simp [Ideal.ofBits, Ideal.ieee]
  rw [← EReal.coe_mul]
  congr 1
  norm_num

/-- Over sixteen is times a sixteenth. -/
theorem over_sixteen (x : EReal) : Ideal.div x (Ideal.ofBits .f32 0x41800000#32) = x * Ideal.ofBits .f32 0x3D800000#32 := by
  rw [sixteen, sixteenth]
  unfold Ideal.div
  rw [if_neg (by simp), ← EReal.coe_inv]
  congr 2
  norm_num

theorem decay_le (z : Fin 4 → Fin 8192 → Fin 512 → EReal) (b : Fin 4) (s : Fin 8192) (o : Fin 512) : decay z b s o ≤ 0 := by
  have h : (0 : EReal) ≤ Ideal.ofBits .f32 0x3D800000#32 := by
    rw [sixteenth]
    exact EReal.coe_nonneg.2 (by norm_num)
  unfold decay
  exact mul_nonpos_of_nonpos_of_nonneg (logSig_le _) h

end Cert.Inproj

end
-- ==== Proof.InprojBlocks.lean ====
/- The even layer's input projection: the blocks of the arrays, and the payloads' entries in the arrays. -/
module

public import proofs.«01_k».proof.Proof.InprojPoint
public import proofs.«01_k».proof.Proof.InprojSums
public import Idealize.ShloMosaic.Lib.Claim

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)
open Cert.Kernel2Ideal.Value (rms normed)
open Cert.Inproj

/-- Column `o` of the projected row `s` of batch `b`. -/
def projA (h : FVec Ideal S4x8192x1024 .f32) (sc sh : FVec Ideal S4x1x1024 .f32) (g : FVec Ideal S1x1024 .f32) (w : FVec Ideal S1024x2048 .bf16) (b : Fin 4) (s : Fin 8192)
    (o : Fin 2048) : EReal :=
  ∑ e : Fin 1024, normed (fun d => h (ix3 b s d)) (fun d => g (ix2 0 d)) (fun d => sc (ix3 b 0 d)) (fun d => sh (ix3 b 0 d)) e * w (ix2 e o)

/-- Column `o` of the gates' projection of row `s` of batch `b`. -/
def zA (h : FVec Ideal S4x8192x1024 .f32) (sc sh : FVec Ideal S4x1x1024 .f32) (g : FVec Ideal S1x1024 .f32) (w : FVec Ideal S1024x128 .bf16) (b : Fin 4) (s : Fin 8192)
    (o : Fin 128) : EReal :=
  ∑ e : Fin 1024, normed (fun d => h (ix3 b s d)) (fun d => g (ix2 0 d)) (fun d => sc (ix3 b 0 d)) (fun d => sh (ix3 b 0 d)) e * w (ix2 e o)

/-- The gates' products with their shifts. -/
def gatesA (z : Fin 4 → Fin 8192 → Fin 128 → EReal) (wg : FVec Ideal S128x512 .bf16) (bg : FVec Ideal S1x512 .f32) (b : Fin 4) (s : Fin 8192) (o : Fin 512) : EReal :=
  (∑ c : Fin 128, z b s c * wg (ix2 c o)) + bg (ix2 0 o)

/-- The spectra's real parts. -/
def reArr (p : Fin 4 → Fin 8192 → Fin 2048 → EReal) (cs : FVec Ideal S128x256 .bf16) : FVec Ideal S4x8192x512 .bf16 := fun j =>
  fou p (fun e o => cs (ix2 e o)) 0 (by omega) (j 0) (j 1) (j 2)

/-- The spectra's imaginary parts. -/
def imArr (p : Fin 4 → Fin 8192 → Fin 2048 → EReal) (cs : FVec Ideal S128x256 .bf16) : FVec Ideal S4x8192x512 .bf16 := fun j =>
  fou p (fun e o => cs (ix2 e o)) 128 (by omega) (j 0) (j 1) (j 2)

/-- The queries. -/
def qArr (p : Fin 4 → Fin 8192 → Fin 2048 → EReal) : FVec Ideal S4x8192x256 .f32 := fun j =>
  p (j 0) (j 1) ⟨512 + (j 2 : Fin 256), by have : (j 2 : ℕ) < 256 := (j 2).isLt; omega⟩ * Ideal.ofBits .f32 0x3E000000#32

/-- The keys. -/
def kArr (p : Fin 4 → Fin 8192 → Fin 2048 → EReal) : FVec Ideal S4x8192x256 .f32 := fun j =>
  p (j 0) (j 1) ⟨768 + (j 2 : Fin 256), by have : (j 2 : ℕ) < 256 := (j 2).isLt; omega⟩

/-- The values. -/
def vArr (p : Fin 4 → Fin 8192 → Fin 2048 → EReal) : FVec Ideal S4x8192x512 .bf16 := fun j =>
  p (j 0) (j 1) ⟨1024 + (j 2 : Fin 512), by have : (j 2 : ℕ) < 512 := (j 2).isLt; omega⟩

/-- The output gates. -/
def rArr (p : Fin 4 → Fin 8192 → Fin 2048 → EReal) : FVec Ideal S4x8192x512 .bf16 := fun j =>
  p (j 0) (j 1) ⟨1536 + (j 2 : Fin 512), by have : (j 2 : ℕ) < 512 := (j 2).isLt; omega⟩

/-- The decays' forward sums. -/
def fArr (L : Fin 4 → Fin 8192 → Fin 512 → EReal) : FVec Ideal S4x8192x256 .f32 := fun j => cumF L (j 0) (j 1) (j 2)

/-- The decays' backward sums. -/
def bArr (L : Fin 4 → Fin 8192 → Fin 512 → EReal) : FVec Ideal S4x8192x256 .f32 := fun j => cumB L (j 0) (j 1) (j 2)

/-- The least sums. -/
def leastArr (L : Fin 4 → Fin 8192 → Fin 512 → EReal) : FVec Ideal S4x16x8x256 .f32 := fun j => least L (j 0) (j 1) (j 3)

/-- Every window's block index, in the grid point's number. -/
theorem idx : ∀ t : Fin cfg0.N, win0_0.index t = ![t.val / 16, t.val % 16, 0] ∧ win0_1.index t = ![t.val / 16, 0, 0] ∧ win0_2.index t = ![t.val / 16, 0, 0]
    ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![t.val / 16, t.val % 16, 0] ∧ win0_12.index t = ![t.val / 16, t.val % 16, 0] ∧ win0_13.index t = ![t.val / 16, t.val % 16, 0] ∧ win0_14.index t = ![t.val / 16, t.val % 16, 0] ∧ win0_15.index t = ![t.val / 16, t.val % 16, 0] ∧ win0_16.index t = ![t.val / 16, t.val % 16, 0] ∧ win0_17.index t = ![t.val / 16, t.val % 16, 0] ∧ win0_18.index t = ![t.val / 16, t.val % 16, 0]
    ∧ win0_19.index t = ![t.val / 16, t.val % 16, 0, 0] :=
  (by decide +kernel : ∀ t : Fin grid0.N, _)

/-- A stored piece is read at its two last places. -/
theorem at_piece128 {α : Type} (P : S1x256x128.Idx → α) (x : S1x256x128.Idx) : P x = P (ix3 0 (x 1) (x 2)) := by
  refine congrArg P (funext fun a => ?_)
  match a with
  | 0 => exact Subsingleton.elim (α := Fin 1) _ _
  | 1 => rfl
  | 2 => rfl

/-- A stored piece is read at its two last places. -/
theorem at_piece256 {α : Type} (P : S1x256x256.Idx → α) (x : S1x256x256.Idx) : P x = P (ix3 0 (x 1) (x 2)) := by
  refine congrArg P (funext fun a => ?_)
  match a with
  | 0 => exact Subsingleton.elim (α := Fin 1) _ _
  | 1 => rfl
  | 2 => rfl

/-- A stored piece is read at its two last places. -/
theorem at_piece512 {α : Type} (P : S1x256x512.Idx → α) (x : S1x256x512.Idx) : P x = P (ix3 0 (x 1) (x 2)) := by
  refine congrArg P (funext fun a => ?_)
  match a with
  | 0 => exact Subsingleton.elim (α := Fin 1) _ _
  | 1 => rfl
  | 2 => rfl

/-- A stored piece is read at its two last places. -/
theorem at_piece4 {α : Type} (P : S1x1x8x256.Idx → α) (x : S1x1x8x256.Idx) : P x = P (ix4 0 0 (x 2) (x 3)) := by
  refine congrArg P (funext fun a => ?_)
  match a with
  | 0 => exact Subsingleton.elim (α := Fin 1) _ _
  | 1 => exact Subsingleton.elim (α := Fin 1) _ _
  | 2 => rfl
  | 3 => rfl

section blocks

variable (m : (ℓ : Loc nD τ sig) → Buf (Elt Ideal) ℓ) (c : Dev nD) (t : Fin cfg0.N)

/-- The batch of a grid point. -/
def bat : Fin 4 := ⟨t.val / 16, by have : t.val < 64 := t.isLt; omega⟩

theorem b0 (r : Fin 512) (e : Fin 1024) : (iblk m c 0 t : FVec Ideal S1x512x1024 .f32) (ix3 0 r e)
    = (m ((c : Thread nD τ).loc main_arg0) : FVec Ideal S4x8192x1024 .f32) (ix3 (bat t) ⟨t.val % 16 * 512 + r, by omega⟩ e) := by
  blk_ext [iblk, V, idx t, bat]

theorem b1 (e : Fin 1024) : (iblk m c 1 t : FVec Ideal S1x1x1024 .f32) (ix3 0 0 e)
    = (m ((c : Thread nD τ).loc main_arg1) : FVec Ideal S4x1x1024 .f32) (ix3 (bat t) 0 e) := by
  blk_ext [iblk, V, idx t, bat]

theorem b2 (e : Fin 1024) : (iblk m c 2 t : FVec Ideal S1x1x1024 .f32) (ix3 0 0 e)
    = (m ((c : Thread nD τ).loc main_arg2) : FVec Ideal S4x1x1024 .f32) (ix3 (bat t) 0 e) := by
  blk_ext [iblk, V, idx t, bat]

theorem b3 (e : Fin 1024) : (iblk m c 3 t : FVec Ideal S1x1024 .f32) (ix2 0 e) = (V m c main_v17 : FVec Ideal S1x1024 .f32) (ix2 0 e) := by
  blk_ext [iblk, idx t]

theorem b4 (e : Fin 1024) (o : Fin 2048) : (iblk m c 4 t : FVec Ideal S1024x2048 .bf16) (ix2 e o) = (V m c main_v1 : FVec Ideal S1024x2048 .bf16) (ix2 e o) := by
  blk_ext [iblk, idx t]

theorem b5 (e : Fin 1024) (o : Fin 128) : (iblk m c 5 t : FVec Ideal S1024x128 .bf16) (ix2 e o) = (V m c main_v6 : FVec Ideal S1024x128 .bf16) (ix2 e o) := by
  blk_simp [iblk, idx t]
  generalize (V m c main_v6 : FVec Ideal S1024x128 .bf16) = A
  blk_ext [idx t]

theorem b6 (e : Fin 128) (o : Fin 256) : (iblk m c 6 t : FVec Ideal S128x256 .bf16) (ix2 e o) = (V m c main_v18 : FVec Ideal S128x256 .bf16) (ix2 e o) := by
  blk_ext [iblk, idx t]

theorem b7 (e : Fin 128) (o : Fin 512) : (iblk m c 7 t : FVec Ideal S128x512 .bf16) (ix2 e o) = (V m c main_v15 : FVec Ideal S128x512 .bf16) (ix2 e o) := by
  blk_ext [iblk, idx t]

theorem b8 (e : Fin 512) : (iblk m c 8 t : FVec Ideal S1x512 .f32) (ix2 0 e) = (V m c main_v16 : FVec Ideal S1x512 .f32) (ix2 0 e) := by
  blk_ext [iblk, idx t]

theorem b9 (e : Fin 256) (o : Fin 256) : (iblk m c 9 t : FVec Ideal S256x256 .bf16) (ix2 e o) = (V m c main_v34 : FVec Ideal S256x256 .bf16) (ix2 e o) := by
  blk_ext [iblk, idx t]

theorem b10 (e : Fin 256) (o : Fin 256) : (iblk m c 10 t : FVec Ideal S256x256 .bf16) (ix2 e o) = (V m c main_v42 : FVec Ideal S256x256 .bf16) (ix2 e o) := by
  blk_ext [iblk, idx t]

/-- The projection of the run's arrays. -/
def projM : Fin 4 → Fin 8192 → Fin 2048 → EReal :=
  projA (m ((c : Thread nD τ).loc main_arg0)) (m ((c : Thread nD τ).loc main_arg1)) (m ((c : Thread nD τ).loc main_arg2)) (V m c main_v17) (V m c main_v1)

/-- The gates' projection of the run's arrays. -/
def zM : Fin 4 → Fin 8192 → Fin 128 → EReal :=
  zA (m ((c : Thread nD τ).loc main_arg0)) (m ((c : Thread nD τ).loc main_arg1)) (m ((c : Thread nD τ).loc main_arg2)) (V m c main_v17) (V m c main_v6)

/-- The decays of the run's arrays. -/
def LM : Fin 4 → Fin 8192 → Fin 512 → EReal := decay (gatesA (zM m c) (V m c main_v15) (V m c main_v16))

theorem proj_eq (r : Fin 512) (o : Fin 2048) : colB (iblk m c 0 t) (iblk m c 1 t) (iblk m c 2 t) (iblk m c 3 t) (iblk m c 4 t) r o
    = projM m c (bat t) ⟨t.val % 16 * 512 + r, by omega⟩ o := by
  unfold colB projM projA
  simp only [b0, b1, b2, b3, b4]

theorem z_eq (r : Fin 512) (o : Fin 128) : zB (iblk m c 0 t) (iblk m c 1 t) (iblk m c 2 t) (iblk m c 3 t) (iblk m c 5 t) r o
    = zM m c (bat t) ⟨t.val % 16 * 512 + r, by omega⟩ o := by
  unfold zB zM zA
  simp only [b0, b1, b2, b3, b5]

theorem upper (r : Fin 256) (o : Fin 2048) : k0_pay73 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r o)
    = projM m c (bat t) ⟨t.val % 16 * 512 + (0 + (r : ℕ)), by omega⟩ o :=
  (pay73_at _ _ _ _ _ _ _ _ _ _ _ r o).trans (proj_eq m c t ⟨0 + r, by omega⟩ o)

theorem lower (r : Fin 256) (o : Fin 2048) : k0_pay75 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r o)
    = projM m c (bat t) ⟨t.val % 16 * 512 + (256 + (r : ℕ)), by omega⟩ o :=
  (pay75_at _ _ _ _ _ _ _ _ _ _ _ r o).trans (proj_eq m c t ⟨256 + r, by omega⟩ o)

theorem upperZ (r : Fin 256) (o : Fin 128) : k0_pay74 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r o)
    = zM m c (bat t) ⟨t.val % 16 * 512 + (0 + (r : ℕ)), by omega⟩ o :=
  (pay74_at _ _ _ _ _ _ _ _ _ _ _ r o).trans (z_eq m c t ⟨0 + r, by omega⟩ o)

theorem lowerZ (r : Fin 256) (o : Fin 128) : k0_pay76 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r o)
    = zM m c (bat t) ⟨t.val % 16 * 512 + (256 + (r : ℕ)), by omega⟩ o :=
  (pay76_at _ _ _ _ _ _ _ _ _ _ _ r o).trans (z_eq m c t ⟨256 + r, by omega⟩ o)

section halves

/-- A tile's row is a row of the array. -/
theorem row_lt (ρ : ℕ) (hρ : ρ = 0 ∨ ρ = 256) (r : Fin 256) : t.val % 16 * 512 + (ρ + (r : ℕ)) < 8192 := by omega

variable (ρ : ℕ) (hρ : ρ = 0 ∨ ρ = 256)

section columns

variable (v : FVec Ideal S256x2048 .f32) (hv : ∀ (r : Fin 256) (o : Fin 2048), v (ix2 r o) = projM m c (bat t) ⟨t.val % 16 * 512 + (ρ + (r : ℕ)), row_lt t ρ hρ r⟩ o)

include hv

theorem col_core (r : Fin 256) (o o' : Fin 2048) (b : Fin 4) (s : Fin 8192) (h0 : (b : ℕ) = t.val / 16) (h1 : (s : ℕ) = t.val % 16 * 512 + (ρ + (r : ℕ))) (ho : (o' : ℕ) = o) :
    v (ix2 r o) = projM m c b s o' := by
  have g0 : b = bat t := Fin.ext h0
  have g1 : s = ⟨t.val % 16 * 512 + (ρ + (r : ℕ)), row_lt t ρ hρ r⟩ := Fin.ext h1
  have g2 : o' = o := Fin.ext ho
  rw [g0, g1, g2]
  exact hv r o

theorem re_core (o : ℕ) (ho : o + 128 ≤ 2048) (h128 : o % 128 = 0) (x : S1x256x128.Idx) (j : S4x8192x512.Idx) (h0 : (j 0 : ℕ) = t.val / 16)
    (h1 : (j 1 : ℕ) = t.val % 16 * 512 + (ρ + (x 1 : ℕ))) (h2 : (j 2 : ℕ) = o + (x 2 : ℕ)) :
    dft v (iblk m c 6 t) (x 1) o 0 ho (by omega) (x 2) = reArr (projM m c) (V m c main_v18) j := by
  have x2 : (x 2 : ℕ) < 128 := (x 2).isLt
  unfold dft reArr fou
  refine Finset.sum_congr rfl fun e _ => congrArg₂ (· * ·) ?_ ((b6 m c t e _).trans (congrArg (fun i => (V m c main_v18 : FVec Ideal S128x256 .bf16) (ix2 e i)) (Fin.ext ?_)))
  · refine col_core m c t ρ hρ v hv (x 1) _ _ _ _ h0 h1 ?_
    show 128 * ((j 2 : ℕ) / 128) + (e : ℕ) = o + (e : ℕ)
    omega
  · show 0 + (x 2 : ℕ) = 0 + (j 2 : ℕ) % 128
    omega

theorem im_core (o : ℕ) (ho : o + 128 ≤ 2048) (h128 : o % 128 = 0) (x : S1x256x128.Idx) (j : S4x8192x512.Idx) (h0 : (j 0 : ℕ) = t.val / 16)
    (h1 : (j 1 : ℕ) = t.val % 16 * 512 + (ρ + (x 1 : ℕ))) (h2 : (j 2 : ℕ) = o + (x 2 : ℕ)) :
    dft v (iblk m c 6 t) (x 1) o 128 ho (by omega) (x 2) = imArr (projM m c) (V m c main_v18) j := by
  have x2 : (x 2 : ℕ) < 128 := (x 2).isLt
  unfold dft imArr fou
  refine Finset.sum_congr rfl fun e _ => congrArg₂ (· * ·) ?_ ((b6 m c t e _).trans (congrArg (fun i => (V m c main_v18 : FVec Ideal S128x256 .bf16) (ix2 e i)) (Fin.ext ?_)))
  · refine col_core m c t ρ hρ v hv (x 1) _ _ _ _ h0 h1 ?_
    show 128 * ((j 2 : ℕ) / 128) + (e : ℕ) = o + (e : ℕ)
    omega
  · show 128 + (x 2 : ℕ) = 128 + (j 2 : ℕ) % 128
    omega

theorem k_core (x : S1x256x256.Idx) (j : S4x8192x256.Idx) (h0 : (j 0 : ℕ) = t.val / 16) (h1 : (j 1 : ℕ) = t.val % 16 * 512 + (ρ + (x 1 : ℕ))) (h2 : (j 2 : ℕ) = (x 2 : ℕ)) :
    v (ix2 (x 1) ⟨768 + (x 2 : Fin 256), by have : (x 2 : ℕ) < 256 := (x 2).isLt; omega⟩) = kArr (projM m c) j :=
  col_core m c t ρ hρ v hv (x 1) _ _ _ _ h0 h1 (congrArg (768 + ·) h2)

theorem v_core (x : S1x256x512.Idx) (j : S4x8192x512.Idx) (h0 : (j 0 : ℕ) = t.val / 16) (h1 : (j 1 : ℕ) = t.val % 16 * 512 + (ρ + (x 1 : ℕ))) (h2 : (j 2 : ℕ) = (x 2 : ℕ)) :
    v (ix2 (x 1) ⟨1024 + (x 2 : Fin 512), by have : (x 2 : ℕ) < 512 := (x 2).isLt; omega⟩) = vArr (projM m c) j :=
  col_core m c t ρ hρ v hv (x 1) _ _ _ _ h0 h1 (congrArg (1024 + ·) h2)

theorem r_core (x : S1x256x512.Idx) (j : S4x8192x512.Idx) (h0 : (j 0 : ℕ) = t.val / 16) (h1 : (j 1 : ℕ) = t.val % 16 * 512 + (ρ + (x 1 : ℕ))) (h2 : (j 2 : ℕ) = (x 2 : ℕ)) :
    v (ix2 (x 1) ⟨1536 + (x 2 : Fin 512), by have : (x 2 : ℕ) < 512 := (x 2).isLt; omega⟩) = rArr (projM m c) j :=
  col_core m c t ρ hρ v hv (x 1) _ _ _ _ h0 h1 (congrArg (1536 + ·) h2)

theorem q_core (x : S1x256x256.Idx) (j : S4x8192x256.Idx) (h0 : (j 0 : ℕ) = t.val / 16) (h1 : (j 1 : ℕ) = t.val % 16 * 512 + (ρ + (x 1 : ℕ))) (h2 : (j 2 : ℕ) = (x 2 : ℕ)) :
    v (ix2 (x 1) ⟨512 + (x 2 : Fin 256), by have : (x 2 : ℕ) < 256 := (x 2).isLt; omega⟩) * Ideal.ofBits .f32 0x3E000000#32 = qArr (projM m c) j :=
  congrArg (· * Ideal.ofBits .f32 0x3E000000#32) (col_core m c t ρ hρ v hv (x 1) _ _ _ _ h0 h1 (congrArg (512 + ·) h2))

end columns

section decays

variable (z : FVec Ideal S256x128 .f32) (hz : ∀ (r : Fin 256) (o : Fin 128), z (ix2 r o) = zM m c (bat t) ⟨t.val % 16 * 512 + (ρ + (r : ℕ)), row_lt t ρ hρ r⟩ o)
  (T : FVec Ideal S256x256 .bf16)

include hz

theorem loga_eq (k : Fin 256) (o : Fin 512) : loga z (iblk m c 7 t) (iblk m c 8 t) k o = LM m c (bat t) ⟨t.val % 16 * 512 + (ρ + (k : ℕ)), row_lt t ρ hρ k⟩ o := by
  unfold loga LM decay gatesA
  simp only [hz, b7, b8]

theorem sumF (hT : ∀ r k : Fin 256, T (ix2 r k) = if (k : ℕ) / 64 = (r : ℕ) / 64 ∧ (k : ℕ) ≤ r then (1 : EReal) else 0) (r d : Fin 256) :
    tri T r (fun k => loga z (iblk m c 7 t) (iblk m c 8 t) k ⟨0 + d, by omega⟩) = cumF (LM m c) (bat t) ⟨t.val % 16 * 512 + (ρ + (r : ℕ)), row_lt t ρ hρ r⟩ d := by
  unfold tri
  simp only [hT, loga_eq m c t ρ hρ z hz]
  refine (parts_sum (fun k : Fin 256 => (k : ℕ) / 64 = (r : ℕ) / 64 ∧ (k : ℕ) ≤ r) (fun k => LM m c (bat t) ⟨t.val % 16 * 512 + (ρ + (k : ℕ)), row_lt t ρ hρ k⟩ ⟨0 + d, by omega⟩)
    fun k => decay_le _ _ _ _).trans ?_
  refine (chunk_sum (fun k => LM m c (bat t) ⟨t.val % 16 * 512 + (ρ + (k : ℕ)), row_lt t ρ hρ k⟩ ⟨0 + d, by omega⟩) ((r : ℕ) / 64) (by omega) (fun k => k ≤ (r : ℕ))).trans ?_
  unfold cumF
  refine Finset.sum_congr rfl fun j _ => if_congr ?_ (congrArg (fun i => LM m c (bat t) i ⟨0 + d, by omega⟩) (Fin.ext ?_)) rfl
  · show 64 * ((r : ℕ) / 64) + (j : ℕ) ≤ (r : ℕ) ↔ (j : ℕ) ≤ (t.val % 16 * 512 + (ρ + (r : ℕ))) % 64
    omega
  · show t.val % 16 * 512 + (ρ + (64 * ((r : ℕ) / 64) + (j : ℕ))) = 64 * ((t.val % 16 * 512 + (ρ + (r : ℕ))) / 64) + (j : ℕ)
    omega

theorem f_core (hT : ∀ r k : Fin 256, T (ix2 r k) = if (k : ℕ) / 64 = (r : ℕ) / 64 ∧ (k : ℕ) ≤ r then (1 : EReal) else 0) (x : S1x256x256.Idx) (j : S4x8192x256.Idx)
    (h0 : (j 0 : ℕ) = t.val / 16) (h1 : (j 1 : ℕ) = t.val % 16 * 512 + (ρ + (x 1 : ℕ))) (h2 : (j 2 : ℕ) = (x 2 : ℕ)) :
    tri T (x 1) (fun k => loga z (iblk m c 7 t) (iblk m c 8 t) k ⟨0 + (x 2 : Fin 256), by have : (x 2 : ℕ) < 256 := (x 2).isLt; omega⟩) = fArr (LM m c) j := by
  have x1 : (x 1 : ℕ) < 256 := (x 1).isLt
  have g0 : (j 0 : Fin 4) = bat t := Fin.ext h0
  have g1 : (j 1 : Fin 8192) = ⟨t.val % 16 * 512 + (ρ + (x 1 : ℕ)), by omega⟩ := Fin.ext h1
  have g2 : (j 2 : Fin 256) = x 2 := Fin.ext h2
  refine (sumF m c t ρ hρ z hz T hT (x 1) (x 2)).trans ?_
  exact congr (congr (congrArg (cumF (LM m c)) g0.symm) g1.symm) g2.symm

theorem sumB (hT : ∀ r k : Fin 256, T (ix2 r k) = if (k : ℕ) / 64 = (r : ℕ) / 64 ∧ (r : ℕ) ≤ k then (1 : EReal) else 0) (r d : Fin 256) :
    tri T r (fun k => loga z (iblk m c 7 t) (iblk m c 8 t) k ⟨256 + d, by omega⟩) = cumB (LM m c) (bat t) ⟨t.val % 16 * 512 + (ρ + (r : ℕ)), row_lt t ρ hρ r⟩ d := by
  unfold tri
  simp only [hT, loga_eq m c t ρ hρ z hz]
  refine (parts_sum (fun k : Fin 256 => (k : ℕ) / 64 = (r : ℕ) / 64 ∧ (r : ℕ) ≤ k) (fun k => LM m c (bat t) ⟨t.val % 16 * 512 + (ρ + (k : ℕ)), row_lt t ρ hρ k⟩ ⟨256 + d, by omega⟩)
    fun k => decay_le _ _ _ _).trans ?_
  refine (chunk_sum (fun k => LM m c (bat t) ⟨t.val % 16 * 512 + (ρ + (k : ℕ)), row_lt t ρ hρ k⟩ ⟨256 + d, by omega⟩) ((r : ℕ) / 64) (by omega) (fun k => (r : ℕ) ≤ k)).trans ?_
  unfold cumB
  refine Finset.sum_congr rfl fun j _ => if_congr ?_ (congrArg (fun i => LM m c (bat t) i ⟨256 + d, by omega⟩) (Fin.ext ?_)) rfl
  · show (r : ℕ) ≤ 64 * ((r : ℕ) / 64) + (j : ℕ) ↔ (t.val % 16 * 512 + (ρ + (r : ℕ))) % 64 ≤ (j : ℕ)
    omega
  · show t.val % 16 * 512 + (ρ + (64 * ((r : ℕ) / 64) + (j : ℕ))) = 64 * ((t.val % 16 * 512 + (ρ + (r : ℕ))) / 64) + (j : ℕ)
    omega

theorem b_core (hT : ∀ r k : Fin 256, T (ix2 r k) = if (k : ℕ) / 64 = (r : ℕ) / 64 ∧ (r : ℕ) ≤ k then (1 : EReal) else 0) (x : S1x256x256.Idx) (j : S4x8192x256.Idx)
    (h0 : (j 0 : ℕ) = t.val / 16) (h1 : (j 1 : ℕ) = t.val % 16 * 512 + (ρ + (x 1 : ℕ))) (h2 : (j 2 : ℕ) = (x 2 : ℕ)) :
    tri T (x 1) (fun k => loga z (iblk m c 7 t) (iblk m c 8 t) k ⟨256 + (x 2 : Fin 256), by have : (x 2 : ℕ) < 256 := (x 2).isLt; omega⟩) = bArr (LM m c) j := by
  have x1 : (x 1 : ℕ) < 256 := (x 1).isLt
  have g0 : (j 0 : Fin 4) = bat t := Fin.ext h0
  have g1 : (j 1 : Fin 8192) = ⟨t.val % 16 * 512 + (ρ + (x 1 : ℕ)), by omega⟩ := Fin.ext h1
  have g2 : (j 2 : Fin 256) = x 2 := Fin.ext h2
  refine (sumB m c t ρ hρ z hz T hT (x 1) (x 2)).trans ?_
  exact congr (congr (congrArg (cumB (LM m c)) g0.symm) g1.symm) g2.symm

end decays

end halves

/-- The least of the ends' sums. -/
theorem least_core (a b a' b' : FVec Ideal S256x256 .f32)
    (ha : ∀ r d : Fin 256, a (ix2 r d) = cumF (LM m c) (bat t) ⟨t.val % 16 * 512 + (0 + (r : ℕ)), by omega⟩ d)
    (hb : ∀ r d : Fin 256, b (ix2 r d) = cumB (LM m c) (bat t) ⟨t.val % 16 * 512 + (0 + (r : ℕ)), by omega⟩ d)
    (ha' : ∀ r d : Fin 256, a' (ix2 r d) = cumF (LM m c) (bat t) ⟨t.val % 16 * 512 + (256 + (r : ℕ)), by omega⟩ d)
    (hb' : ∀ r d : Fin 256, b' (ix2 r d) = cumB (LM m c) (bat t) ⟨t.val % 16 * 512 + (256 + (r : ℕ)), by omega⟩ d)
    (x : S1x1x8x256.Idx) (j : S4x16x8x256.Idx) (h0 : (j 0 : ℕ) = t.val / 16) (h1 : (j 1 : ℕ) = t.val % 16) (h3 : (j 3 : ℕ) = (x 3 : ℕ)) :
    mins a b a' b' (x 3) = leastArr (LM m c) j := by
  have g0 : (j 0 : Fin 4) = bat t := Fin.ext h0
  have g1 : (j 1 : Fin 16) = ⟨t.val % 16, by omega⟩ := Fin.ext h1
  have g3 : (j 3 : Fin 256) = x 3 := Fin.ext h3
  have e : least (LM m c) (bat t) ⟨t.val % 16, by omega⟩ (x 3) = least (LM m c) (j 0) (j 1) (j 3) := congr (congr (congrArg (least (LM m c)) g0.symm) g1.symm) g3.symm
  refine Eq.trans ?_ e
  generalize (x 3 : Fin 256) = d
  have fa : ∀ (n : Fin 256) (s : Fin 8192), t.val % 16 * 512 + (0 + (n : ℕ)) = s → a (ix2 n d) = cumF (LM m c) (bat t) s d := fun n s h => (ha n d).trans (congrArg (fun i => cumF (LM m c) (bat t) i d) (Fin.ext h))
  have fb : ∀ (n : Fin 256) (s : Fin 8192), t.val % 16 * 512 + (0 + (n : ℕ)) = s → b (ix2 n d) = cumB (LM m c) (bat t) s d := fun n s h => (hb n d).trans (congrArg (fun i => cumB (LM m c) (bat t) i d) (Fin.ext h))
  have fa' : ∀ (n : Fin 256) (s : Fin 8192), t.val % 16 * 512 + (256 + (n : ℕ)) = s → a' (ix2 n d) = cumF (LM m c) (bat t) s d := fun n s h => (ha' n d).trans (congrArg (fun i => cumF (LM m c) (bat t) i d) (Fin.ext h))
  have fb' : ∀ (n : Fin 256) (s : Fin 8192), t.val % 16 * 512 + (256 + (n : ℕ)) = s → b' (ix2 n d) = cumB (LM m c) (bat t) s d := fun n s h => (hb' n d).trans (congrArg (fun i => cumB (LM m c) (bat t) i d) (Fin.ext h))
  unfold mins least ends
  exact congrArg₂ min (congrArg₂ min (congrArg₂ min (congrArg₂ min (congrArg₂ min (congrArg₂ min (congrArg₂ min (congrArg₂ min (fa 63 _ (show t.val % 16 * 512 + (0 + 63) = 64 * (8 * (t.val % 16) + 0) + 63 by omega)) (fb 0 _ (show t.val % 16 * 512 + (0 + 0) = 64 * (8 * (t.val % 16) + 0) by omega)))
    (congrArg₂ min (fa 127 _ (show t.val % 16 * 512 + (0 + 127) = 64 * (8 * (t.val % 16) + 1) + 63 by omega)) (fb 64 _ (show t.val % 16 * 512 + (0 + 64) = 64 * (8 * (t.val % 16) + 1) by omega))))
    (congrArg₂ min (fa 191 _ (show t.val % 16 * 512 + (0 + 191) = 64 * (8 * (t.val % 16) + 2) + 63 by omega)) (fb 128 _ (show t.val % 16 * 512 + (0 + 128) = 64 * (8 * (t.val % 16) + 2) by omega))))
    (congrArg₂ min (fa 255 _ (show t.val % 16 * 512 + (0 + 255) = 64 * (8 * (t.val % 16) + 3) + 63 by omega)) (fb 192 _ (show t.val % 16 * 512 + (0 + 192) = 64 * (8 * (t.val % 16) + 3) by omega))))
    (congrArg₂ min (fa' 63 _ (show t.val % 16 * 512 + (256 + 63) = 64 * (8 * (t.val % 16) + 4) + 63 by omega)) (fb' 0 _ (show t.val % 16 * 512 + (256 + 0) = 64 * (8 * (t.val % 16) + 4) by omega))))
    (congrArg₂ min (fa' 127 _ (show t.val % 16 * 512 + (256 + 127) = 64 * (8 * (t.val % 16) + 5) + 63 by omega)) (fb' 64 _ (show t.val % 16 * 512 + (256 + 64) = 64 * (8 * (t.val % 16) + 5) by omega))))
    (congrArg₂ min (fa' 191 _ (show t.val % 16 * 512 + (256 + 191) = 64 * (8 * (t.val % 16) + 6) + 63 by omega)) (fb' 128 _ (show t.val % 16 * 512 + (256 + 128) = 64 * (8 * (t.val % 16) + 6) by omega))))
    (congrArg₂ min (fa' 255 _ (show t.val % 16 * 512 + (256 + 255) = 64 * (8 * (t.val % 16) + 7) + 63 by omega)) (fb' 192 _ (show t.val % 16 * 512 + (256 + 192) = 64 * (8 * (t.val % 16) + 7) by omega)))

theorem pay71_eq (r k : Fin 256) : k0_pay71 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = (V m c main_v34 : FVec Ideal S256x256 .bf16) (ix2 r k) := by
  refine Eq.trans ?_ (b9 m c t r k)
  unfold k0_pay71
  simp (disch := decide) only [View.ld_unit_lit']
  pointwise [k0_pay4]

theorem pay72_eq (r k : Fin 256) : k0_pay72 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) = (V m c main_v42 : FVec Ideal S256x256 .bf16) (ix2 r k) := by
  refine Eq.trans ?_ (b10 m c t r k)
  unfold k0_pay72
  simp (disch := decide) only [View.ld_unit_lit']
  pointwise [k0_pay5]

end blocks

end Cert.Kernel8Ideal.Value

end
-- ==== Proof.InprojArray.lean ====
/- The even layer's input projection: its six projected arrays after the run. -/
module

public import proofs.«01_k».proof.Proof.InprojBlocks

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)
open Cert.Kernel2Ideal.Value (rms normed)
open Cert.Inproj

section blocks

variable (m : (ℓ : Loc nD τ sig) → Buf (Elt Ideal) ℓ) (c : Dev nD)

set_option maxHeartbeats 8000000 in
/-- The real parts after the run. -/
theorem final_re : (dats m 0 c).arrAt 11 (cfgs 0).N = reArr (projM m c) (V m c main_v18) := by
  refine (dats m 0 c).arrAt_eq_of_covers 11 _ (by decide +kernel) fun t _ y => ?_
  blk_simp
  rw [after0_11]
  unfold out0_11 k0_pay83 k0_pay77
  simp (disch := decide) only [View.ld_unit_lit']
  canon_tiles x h
  · refine (at_piece128 _ x).trans ((re7 _ _ (x 1) (x 2)).trans (re_core m c t 256 (Or.inr rfl) _ (lower m c t) 384 (by omega) (by omega) x _ ?_ ?_ ?_)) <;> blk_simp [idx t] <;> omega
  · refine (at_piece128 _ x).trans ((re6 _ _ (x 1) (x 2)).trans (re_core m c t 256 (Or.inr rfl) _ (lower m c t) 256 (by omega) (by omega) x _ ?_ ?_ ?_)) <;> blk_simp [idx t] <;> omega
  · refine (at_piece128 _ x).trans ((re5 _ _ (x 1) (x 2)).trans (re_core m c t 256 (Or.inr rfl) _ (lower m c t) 128 (by omega) (by omega) x _ ?_ ?_ ?_)) <;> blk_simp [idx t] <;> omega
  · refine (at_piece128 _ x).trans ((re4 _ _ (x 1) (x 2)).trans (re_core m c t 256 (Or.inr rfl) _ (lower m c t) 0 (by omega) (by omega) x _ ?_ ?_ ?_)) <;> blk_simp [idx t] <;> omega
  · refine (at_piece128 _ x).trans ((re3 _ _ (x 1) (x 2)).trans (re_core m c t 0 (Or.inl rfl) _ (upper m c t) 384 (by omega) (by omega) x _ ?_ ?_ ?_)) <;> blk_simp [idx t] <;> omega
  · refine (at_piece128 _ x).trans ((re2 _ _ (x 1) (x 2)).trans (re_core m c t 0 (Or.inl rfl) _ (upper m c t) 256 (by omega) (by omega) x _ ?_ ?_ ?_)) <;> blk_simp [idx t] <;> omega
  · refine (at_piece128 _ x).trans ((re1 _ _ (x 1) (x 2)).trans (re_core m c t 0 (Or.inl rfl) _ (upper m c t) 128 (by omega) (by omega) x _ ?_ ?_ ?_)) <;> blk_simp [idx t] <;> omega
  · refine (at_piece128 _ x).trans ((re0 _ _ (x 1) (x 2)).trans (re_core m c t 0 (Or.inl rfl) _ (upper m c t) 0 (by omega) (by omega) x _ ?_ ?_ ?_)) <;> blk_simp [idx t] <;> omega

set_option maxHeartbeats 8000000 in
/-- The imaginary parts after the run. -/
theorem final_im : (dats m 0 c).arrAt 12 (cfgs 0).N = imArr (projM m c) (V m c main_v18) := by
  refine (dats m 0 c).arrAt_eq_of_covers 12 _ (by decide +kernel) fun t _ y => ?_
  blk_simp
  rw [after0_12]
  unfold out0_12 k0_pay83 k0_pay77
  simp (disch := decide) only [View.ld_unit_lit']
  canon_tiles x h
  · refine (at_piece128 _ x).trans ((im7 _ _ (x 1) (x 2)).trans (im_core m c t 256 (Or.inr rfl) _ (lower m c t) 384 (by omega) (by omega) x _ ?_ ?_ ?_)) <;> blk_simp [idx t] <;> omega
  · refine (at_piece128 _ x).trans ((im6 _ _ (x 1) (x 2)).trans (im_core m c t 256 (Or.inr rfl) _ (lower m c t) 256 (by omega) (by omega) x _ ?_ ?_ ?_)) <;> blk_simp [idx t] <;> omega
  · refine (at_piece128 _ x).trans ((im5 _ _ (x 1) (x 2)).trans (im_core m c t 256 (Or.inr rfl) _ (lower m c t) 128 (by omega) (by omega) x _ ?_ ?_ ?_)) <;> blk_simp [idx t] <;> omega
  · refine (at_piece128 _ x).trans ((im4 _ _ (x 1) (x 2)).trans (im_core m c t 256 (Or.inr rfl) _ (lower m c t) 0 (by omega) (by omega) x _ ?_ ?_ ?_)) <;> blk_simp [idx t] <;> omega
  · refine (at_piece128 _ x).trans ((im3 _ _ (x 1) (x 2)).trans (im_core m c t 0 (Or.inl rfl) _ (upper m c t) 384 (by omega) (by omega) x _ ?_ ?_ ?_)) <;> blk_simp [idx t] <;> omega
  · refine (at_piece128 _ x).trans ((im2 _ _ (x 1) (x 2)).trans (im_core m c t 0 (Or.inl rfl) _ (upper m c t) 256 (by omega) (by omega) x _ ?_ ?_ ?_)) <;> blk_simp [idx t] <;> omega
  · refine (at_piece128 _ x).trans ((im1 _ _ (x 1) (x 2)).trans (im_core m c t 0 (Or.inl rfl) _ (upper m c t) 128 (by omega) (by omega) x _ ?_ ?_ ?_)) <;> blk_simp [idx t] <;> omega
  · refine (at_piece128 _ x).trans ((im0 _ _ (x 1) (x 2)).trans (im_core m c t 0 (Or.inl rfl) _ (upper m c t) 0 (by omega) (by omega) x _ ?_ ?_ ?_)) <;> blk_simp [idx t] <;> omega

set_option maxHeartbeats 8000000 in
/-- The queries after the run. -/
theorem final_q : (dats m 0 c).arrAt 13 (cfgs 0).N = qArr (projM m c) := by
  refine (dats m 0 c).arrAt_eq_of_covers 13 _ (by decide +kernel) fun t _ y => ?_
  blk_simp
  rw [after0_13]
  unfold out0_13
  simp (disch := decide) only [View.ld_unit_lit']
  canon_tiles x h
  · refine (at_piece256 _ x).trans ((q1 _ (x 1) (x 2)).trans (q_core m c t 256 (Or.inr rfl) _ (lower m c t) x _ ?_ ?_ ?_)) <;> blk_simp [idx t] <;> omega
  · refine (at_piece256 _ x).trans ((q0 _ (x 1) (x 2)).trans (q_core m c t 0 (Or.inl rfl) _ (upper m c t) x _ ?_ ?_ ?_)) <;> blk_simp [idx t] <;> omega

set_option maxHeartbeats 8000000 in
/-- The keys after the run. -/
theorem final_k : (dats m 0 c).arrAt 14 (cfgs 0).N = kArr (projM m c) := by
  refine (dats m 0 c).arrAt_eq_of_covers 14 _ (by decide +kernel) fun t _ y => ?_
  blk_simp
  rw [after0_14]
  unfold out0_14
  simp (disch := decide) only [View.ld_unit_lit']
  canon_tiles x h
  · refine (at_piece256 _ x).trans ((k1 _ (x 1) (x 2)).trans (k_core m c t 256 (Or.inr rfl) _ (lower m c t) x _ ?_ ?_ ?_)) <;> blk_simp [idx t] <;> omega
  · refine (at_piece256 _ x).trans ((k0 _ (x 1) (x 2)).trans (k_core m c t 0 (Or.inl rfl) _ (upper m c t) x _ ?_ ?_ ?_)) <;> blk_simp [idx t] <;> omega

set_option maxHeartbeats 8000000 in
/-- The values after the run. -/
theorem final_v : (dats m 0 c).arrAt 15 (cfgs 0).N = vArr (projM m c) := by
  refine (dats m 0 c).arrAt_eq_of_covers 15 _ (by decide +kernel) fun t _ y => ?_
  blk_simp
  rw [after0_15]
  unfold out0_15
  simp (disch := decide) only [View.ld_unit_lit']
  canon_tiles x h
  · refine (at_piece512 _ x).trans ((v1 _ (x 1) (x 2)).trans (v_core m c t 256 (Or.inr rfl) _ (lower m c t) x _ ?_ ?_ ?_)) <;> blk_simp [idx t] <;> omega
  · refine (at_piece512 _ x).trans ((v0 _ (x 1) (x 2)).trans (v_core m c t 0 (Or.inl rfl) _ (upper m c t) x _ ?_ ?_ ?_)) <;> blk_simp [idx t] <;> omega

set_option maxHeartbeats 8000000 in
/-- The output gates after the run. -/
theorem final_r : (dats m 0 c).arrAt 16 (cfgs 0).N = rArr (projM m c) := by
  refine (dats m 0 c).arrAt_eq_of_covers 16 _ (by decide +kernel) fun t _ y => ?_
  blk_simp
  rw [after0_16]
  unfold out0_16
  simp (disch := decide) only [View.ld_unit_lit']
  canon_tiles x h
  · refine (at_piece512 _ x).trans ((r1 _ (x 1) (x 2)).trans (r_core m c t 256 (Or.inr rfl) _ (lower m c t) x _ ?_ ?_ ?_)) <;> blk_simp [idx t] <;> omega
  · refine (at_piece512 _ x).trans ((r0 _ (x 1) (x 2)).trans (r_core m c t 0 (Or.inl rfl) _ (upper m c t) x _ ?_ ?_ ?_)) <;> blk_simp [idx t] <;> omega

end blocks

end Cert.Kernel8Ideal.Value

end
-- ==== Proof.InprojDecay.lean ====
/- The even layer's input projection: the decays' three arrays after the run. -/
module

public import proofs.«01_k».proof.Proof.InprojBlocks

@[expose] public section

set_option maxRecDepth 16384

noncomputable section

namespace Cert.Kernel8Ideal.Value

open Cert.Kernel8Ideal Cert.Kernel8Ideal.Gen Idealize.ShloMosaic Idealize.ShloMosaic.TcCoe Idealize.SL.Sem
open Idealize.ShloMosaic.Pipeline (Dat)
open Cert.Kernel2Ideal.Value (rms normed)
open Cert.Inproj

section blocks

variable (m : (ℓ : Loc nD τ sig) → Buf (Elt Ideal) ℓ) (c : Dev nD)

set_option maxHeartbeats 8000000 in
/-- The forward sums after the run. -/
theorem final_f (hl : ∀ r k : Fin 256, (V m c main_v34 : FVec Ideal S256x256 .bf16) (ix2 r k) = if (k : ℕ) / 64 = (r : ℕ) / 64 ∧ (k : ℕ) ≤ r then (1 : EReal) else 0) : (dats m 0 c).arrAt 17 (cfgs 0).N = fArr (LM m c) := by
  refine (dats m 0 c).arrAt_eq_of_covers 17 _ (by decide +kernel) fun t _ y => ?_
  blk_simp
  rw [after0_17]
  unfold out0_17 k0_pay78 k0_pay79 k0_pay81 k0_pay84
  simp (disch := decide) only [View.ld_unit_lit']
  canon_tiles x h
  · refine (at_piece256 _ x).trans ((cumfL _ _ _ _ (x 1) (x 2)).trans (f_core m c t 256 (Or.inr rfl) _ (lowerZ m c t) _ (fun r k => (pay71_eq m c t r k).trans (hl r k)) x _ ?_ ?_ ?_)) <;> blk_simp [idx t] <;> omega
  · refine (at_piece256 _ x).trans ((cumfU _ _ _ _ (x 1) (x 2)).trans (f_core m c t 0 (Or.inl rfl) _ (upperZ m c t) _ (fun r k => (pay71_eq m c t r k).trans (hl r k)) x _ ?_ ?_ ?_)) <;> blk_simp [idx t] <;> omega

set_option maxHeartbeats 8000000 in
/-- The backward sums after the run. -/
theorem final_b (hu : ∀ r k : Fin 256, (V m c main_v42 : FVec Ideal S256x256 .bf16) (ix2 r k) = if (k : ℕ) / 64 = (r : ℕ) / 64 ∧ (r : ℕ) ≤ k then (1 : EReal) else 0) : (dats m 0 c).arrAt 18 (cfgs 0).N = bArr (LM m c) := by
  refine (dats m 0 c).arrAt_eq_of_covers 18 _ (by decide +kernel) fun t _ y => ?_
  blk_simp
  rw [after0_18]
  unfold out0_18 k0_pay78 k0_pay80 k0_pay82 k0_pay85
  simp (disch := decide) only [View.ld_unit_lit']
  canon_tiles x h
  · refine (at_piece256 _ x).trans ((cumbL _ _ _ _ (x 1) (x 2)).trans (b_core m c t 256 (Or.inr rfl) _ (lowerZ m c t) _ (fun r k => (pay72_eq m c t r k).trans (hu r k)) x _ ?_ ?_ ?_)) <;> blk_simp [idx t] <;> omega
  · refine (at_piece256 _ x).trans ((cumbU _ _ _ _ (x 1) (x 2)).trans (b_core m c t 0 (Or.inl rfl) _ (upperZ m c t) _ (fun r k => (pay72_eq m c t r k).trans (hu r k)) x _ ?_ ?_ ?_)) <;> blk_simp [idx t] <;> omega

set_option maxHeartbeats 8000000 in
/-- The least sums after the run. -/
theorem final_least (hl : ∀ r k : Fin 256, (V m c main_v34 : FVec Ideal S256x256 .bf16) (ix2 r k) = if (k : ℕ) / 64 = (r : ℕ) / 64 ∧ (k : ℕ) ≤ r then (1 : EReal) else 0) (hu : ∀ r k : Fin 256, (V m c main_v42 : FVec Ideal S256x256 .bf16) (ix2 r k) = if (k : ℕ) / 64 = (r : ℕ) / 64 ∧ (r : ℕ) ≤ k then (1 : EReal) else 0) : (dats m 0 c).arrAt 19 (cfgs 0).N = leastArr (LM m c) := by
  refine (dats m 0 c).arrAt_eq_of_covers 19 _ (by decide +kernel) fun t _ y => ?_
  blk_simp
  rw [after0_19]
  unfold out0_19 k0_pay78 k0_pay79 k0_pay80 k0_pay81 k0_pay82 k0_pay84 k0_pay85
  simp (disch := decide) only [View.ld_unit_lit']
  canon_tiles x h
  · refine (at_piece4 _ x).trans ((least_at _ _ _ _ _ _ _ _ _ (x 2) (x 3)).trans (least_core m c t _ _ _ _ (fun r d => (accfU _ _ _ _ r d).trans (sumF m c t 0 (Or.inl rfl) _ (upperZ m c t) _ (fun r k => (pay71_eq m c t r k).trans (hl r k)) r d)) (fun r d => (accbU _ _ _ _ r d).trans (sumB m c t 0 (Or.inl rfl) _ (upperZ m c t) _ (fun r k => (pay72_eq m c t r k).trans (hu r k)) r d)) (fun r d => (accfL _ _ _ _ r d).trans (sumF m c t 256 (Or.inr rfl) _ (lowerZ m c t) _ (fun r k => (pay71_eq m c t r k).trans (hl r k)) r d)) (fun r d => (accbL _ _ _ _ r d).trans (sumB m c t 256 (Or.inr rfl) _ (lowerZ m c t) _ (fun r k => (pay72_eq m c t r k).trans (hu r k)) r d)) x _ ?_ ?_ ?_)) <;> blk_simp [idx t] <;> omega

end blocks

end Cert.Kernel8Ideal.Value

end
-- ==== Proof.InprojStaged.lean ====
/- The even layer's input projection: the arrays the kernel reads, as it finds them. -/
module

public import proofs.«01_k».proof.Proof.InprojRun
public import Idealize.ShloMosaic.Lib.Routing.OpsSet
public import Idealize.ShloMosaic.Lib.Routing.OpsPair
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.Claim

@[expose] public section

set_option maxRecDepth 16384

noncomputable section

namespace Cert.Inproj

open Cert.Kernel8Ideal Cert.Kernel8Ideal.Gen Idealize.ShloMosaic Idealize.ShloMosaic.TcCoe Idealize.SL.Sem Idealize.ShloMosaic.StableHlo Idealize.ShloMosaic.Routing

/-- The gates' columns in the first places of the operand's columns. -/
abbrev DZ := scatter_S1024x128_S1_S1024x16_01_n_1_0

/-- The gates' weights in the first places of the operand's rows. -/
abbrev DW := scatter_S128x512_S1_S16x512_01_n_0_0

theorem landsZ (i : IVec S1 32) (hi : ∀ x, i x = 0#32) (a : Fin 1024) (e : Fin 16) (r : Fin 1024) (k : Fin 128) :
    DZ.resultIdx? (ix2 a e) i = some (ix2 r k) ↔ (a : ℕ) = r ∧ (e : ℕ) = k := by
  have s0 : DZ.start (ix2 a e) i 0 = 0 := rfl
  have s1 : DZ.start (ix2 a e) i 1 = 0 := by
    refine (show DZ.start (ix2 a e) i 1 = (i _).toInt from rfl).trans ?_
    rw [hi]
    rfl
  have w0 : DZ.window (ix2 a e) 0 = a := rfl
  have w1 : DZ.window (ix2 a e) 1 = e := rfl
  rw [resultIdx?_eq_some, Fin.forall_fin_two, s0, s1, w0, w1]
  show (0 : ℤ) + (a : ℕ) = (r : ℕ) ∧ (0 : ℤ) + (e : ℕ) = (k : ℕ) ↔ _
  omega

theorem landsW (i : IVec S1 32) (hi : ∀ x, i x = 0#32) (a : Fin 16) (e : Fin 512) (r : Fin 128) (k : Fin 512) :
    DW.resultIdx? (ix2 a e) i = some (ix2 r k) ↔ (a : ℕ) = r ∧ (e : ℕ) = k := by
  have s0 : DW.start (ix2 a e) i 0 = 0 := by
    refine (show DW.start (ix2 a e) i 0 = (i _).toInt from rfl).trans ?_
    rw [hi]
    rfl
  have s1 : DW.start (ix2 a e) i 1 = 0 := rfl
  have w0 : DW.window (ix2 a e) 0 = a := rfl
  have w1 : DW.window (ix2 a e) 1 = e := rfl
  rw [resultIdx?_eq_some, Fin.forall_fin_two, s0, s1, w0, w1]
  show (0 : ℤ) + (a : ℕ) = (r : ℕ) ∧ (0 : ℤ) + (e : ℕ) = (k : ℕ) ↔ _
  omega

theorem padZ (z : FVec Ideal S1024x128 .f32) (i : IVec S1 32) (hi : ∀ x, i x = 0#32) (x : FVec Ideal S1024x16 .f32) (hz : ∀ r k, z (ix2 r k) = (0 : EReal)) (r : Fin 1024) (k : Fin 128) :
    Host.scatter DZ (fun _ b => b) z i x (ix2 r k) = if h : (k : ℕ) < 16 then x (ix2 r ⟨k, h⟩) else (0 : EReal) := by
  have u : ∀ j : S1024x16.Idx, DZ.resultIdx? j i = some (ix2 r k) → ∃ h : (k : ℕ) < 16, j = ix2 r ⟨k, h⟩ := fun j hj => by
    idx_vars j
    have h := (landsZ i hi j0 j1 r k).1 hj
    have hr : (k : ℕ) < 16 := by omega
    exact ⟨hr, congrArg₂ ix2 (Fin.ext h.1) (Fin.ext h.2)⟩
  by_cases h : (k : ℕ) < 16
  · rw [dif_pos h]
    refine scatter_set_hit DZ z i x _ _ (fun j hj => ?_) (ix2 r ⟨k, h⟩) ((landsZ i hi r _ r k).2 ⟨rfl, rfl⟩)
    obtain ⟨_, rfl⟩ := u j hj
    rfl
  · rw [dif_neg h]
    exact (scatter_set_miss DZ z i x _ fun j hj => h (u j hj).1).trans (hz r k)

theorem padW (z : FVec Ideal S128x512 .f32) (i : IVec S1 32) (hi : ∀ x, i x = 0#32) (x : FVec Ideal S16x512 .f32) (hz : ∀ r k, z (ix2 r k) = (0 : EReal)) (r : Fin 128) (k : Fin 512) :
    Host.scatter DW (fun _ b => b) z i x (ix2 r k) = if h : (r : ℕ) < 16 then x (ix2 ⟨r, h⟩ k) else (0 : EReal) := by
  have u : ∀ j : S16x512.Idx, DW.resultIdx? j i = some (ix2 r k) → ∃ h : (r : ℕ) < 16, j = ix2 ⟨r, h⟩ k := fun j hj => by
    idx_vars j
    have h := (landsW i hi j0 j1 r k).1 hj
    have hr : (r : ℕ) < 16 := by omega
    exact ⟨hr, congrArg₂ ix2 (Fin.ext h.1) (Fin.ext h.2)⟩
  by_cases h : (r : ℕ) < 16
  · rw [dif_pos h]
    refine scatter_set_hit DW z i x _ _ (fun j hj => ?_) (ix2 ⟨r, h⟩ k) ((landsW i hi _ k r k).2 ⟨rfl, rfl⟩)
    obtain ⟨_, rfl⟩ := u j hj
    rfl
  · rw [dif_neg h]
    exact (scatter_set_miss DW z i x _ fun j hj => h (u j hj).1).trans (hz r k)

theorem cast_at {s : Shape} (x : FVec Ideal s .f32) (h : FTy.bits .bf16 < FTy.bits .f32) (i : s.Idx) : truncf (F := Ideal) .bf16 x h i = x i := rfl

variable (m : (ℓ : Loc nD τ sig) → Buf (Elt Ideal) ℓ) (c : Dev nD)

/-- The norm's channels. -/
theorem staged_g (e : Fin 1024) : (V m c main_v17 : FVec Ideal S1x1024 .f32) (ix2 0 e) = (m ((c : Thread nD τ).loc main_arg3) : FVec Ideal S1024 .f32) (ix1 e) := by
  simp only [V, hostOps0, hostOps0_1, hostOps0_2, hostOps0_3, hostOps0_4, List.flatten_cons, List.flatten_nil, List.append_nil, List.cons_append, List.nil_append]
  entry_read
  pointwise

/-- The columns without the gates'. -/
theorem staged_w (e : Fin 1024) (o : Fin 2048) : (V m c main_v1 : FVec Ideal S1024x2048 .bf16) (ix2 e o)
    = (m ((c : Thread nD τ).loc main_arg4) : FVec Ideal S1024x2064 .f32) (ix2 e ⟨o, by omega⟩) := by
  simp only [V, hostOps0, hostOps0_1, hostOps0_2, hostOps0_3, hostOps0_4, List.flatten_cons, List.flatten_nil, List.append_nil, List.cons_append, List.nil_append]
  entry_read
  pointwise

/-- The table. -/
theorem staged_cs : V m c main_v18 = (m ((c : Thread nD τ).loc main_arg7) : FVec Ideal S128x256 .f32) := by
  simp only [V, hostOps0, hostOps0_1, hostOps0_2, hostOps0_3, hostOps0_4, List.flatten_cons, List.flatten_nil, List.append_nil, List.cons_append, List.nil_append]
  entry_read
  rfl

/-- The gates' columns, then zeros. -/
theorem staged_z (e : Fin 1024) (k : Fin 128) : (V m c main_v6 : FVec Ideal S1024x128 .bf16) (ix2 e k)
    = if h : (k : ℕ) < 16 then (m ((c : Thread nD τ).loc main_arg4) : FVec Ideal S1024x2064 .f32) (ix2 e ⟨2048 + k, by omega⟩) else (0 : EReal) := by
  simp only [V, hostOps0, hostOps0_1, hostOps0_2, hostOps0_3, hostOps0_4, List.flatten_cons, List.flatten_nil, List.append_nil, List.cons_append, List.nil_append]
  entry_read
  refine (cast_at _ _ _).trans ((padZ _ _ (fun _ => rfl) _ (fun _ _ => ?_) e k).trans ?_)
  · pointwise
  · by_cases h : (k : ℕ) < 16
    · rw [dif_pos h, dif_pos h]
      pointwise
    · rw [dif_neg h, dif_neg h]

/-- The forward gates' weights, then zeros. -/
theorem staged_u0 (k : Fin 128) (d : Fin 256) : (V m c main_v15 : FVec Ideal S128x512 .bf16) (ix2 k ⟨0 + d, by omega⟩)
    = if h : (k : ℕ) < 16 then (m ((c : Thread nD τ).loc main_arg5) : FVec Ideal S2x16x256 .f32) (ix3 0 ⟨k, h⟩ d) else (0 : EReal) := by
  simp only [V, hostOps0, hostOps0_1, hostOps0_2, hostOps0_3, hostOps0_4, List.flatten_cons, List.flatten_nil, List.append_nil, List.cons_append, List.nil_append]
  entry_read
  refine (cast_at _ _ _).trans ((padW _ _ (fun _ => rfl) _ (fun _ _ => ?_) k _).trans ?_)
  · pointwise
  · by_cases h : (k : ℕ) < 16
    · rw [dif_pos h, dif_pos h]
      pointwise
    · rw [dif_neg h, dif_neg h]

/-- The backward gates' weights, then zeros. -/
theorem staged_u1 (k : Fin 128) (d : Fin 256) : (V m c main_v15 : FVec Ideal S128x512 .bf16) (ix2 k ⟨256 + d, by omega⟩)
    = if h : (k : ℕ) < 16 then (m ((c : Thread nD τ).loc main_arg5) : FVec Ideal S2x16x256 .f32) (ix3 1 ⟨k, h⟩ d) else (0 : EReal) := by
  simp only [V, hostOps0, hostOps0_1, hostOps0_2, hostOps0_3, hostOps0_4, List.flatten_cons, List.flatten_nil, List.append_nil, List.cons_append, List.nil_append]
  entry_read
  refine (cast_at _ _ _).trans ((padW _ _ (fun _ => rfl) _ (fun _ _ => ?_) k _).trans ?_)
  · pointwise
  · by_cases h : (k : ℕ) < 16
    · rw [dif_pos h, dif_pos h]
      pointwise
    · rw [dif_neg h, dif_neg h]

/-- The forward gates' shifts. -/
theorem staged_s0 (d : Fin 256) : (V m c main_v16 : FVec Ideal S1x512 .f32) (ix2 0 ⟨0 + d, by omega⟩) = (m ((c : Thread nD τ).loc main_arg6) : FVec Ideal S2x256 .f32) (ix2 0 d) := by
  simp only [V, hostOps0, hostOps0_1, hostOps0_2, hostOps0_3, hostOps0_4, List.flatten_cons, List.flatten_nil, List.append_nil, List.cons_append, List.nil_append]
  entry_read
  pointwise
  exact congrArg₂ (fun a b => (m ((c : Thread nD τ).loc main_arg6) : FVec Ideal S2x256 .f32) (ix2 a b)) (Fin.ext (by show (d : ℕ) / 256 = 0; omega)) (Fin.ext (by show (d : ℕ) % 256 = d; omega))

/-- The backward gates' shifts. -/
theorem staged_s1 (d : Fin 256) : (V m c main_v16 : FVec Ideal S1x512 .f32) (ix2 0 ⟨256 + d, by omega⟩) = (m ((c : Thread nD τ).loc main_arg6) : FVec Ideal S2x256 .f32) (ix2 1 d) := by
  simp only [V, hostOps0, hostOps0_1, hostOps0_2, hostOps0_3, hostOps0_4, List.flatten_cons, List.flatten_nil, List.append_nil, List.cons_append, List.nil_append]
  entry_read
  pointwise
  exact congrArg (fun a => (m ((c : Thread nD τ).loc main_arg6) : FVec Ideal S2x256 .f32) (ix2 a d)) (Fin.ext (by show (256 + (d : ℕ)) / 256 = 1; omega))

end Cert.Inproj

end
-- ==== Proof.InprojMask.lean ====
/- The even layer's input projection: the triangles the kernel reads, as it finds them. -/
module

public import proofs.«01_k».proof.Proof.InprojRun
public import Idealize.ShloMosaic.Lib.Routing.OpsSet
public import Idealize.ShloMosaic.Lib.Routing.OpsPair
public import Idealize.ShloMosaic.Lib.Pipeline.ValueKit
public import Idealize.ShloMosaic.Lib.Pipeline.ReadBack
public import Idealize.ShloMosaic.Lib.Pointwise
public import Idealize.ShloMosaic.Lib.Tactic.CleanTypes
public import Idealize.ShloMosaic.Lib.Claim

@[expose] public section

set_option maxRecDepth 16384

noncomputable section

namespace Cert.Inproj

open Cert.Kernel8Ideal Cert.Kernel8Ideal.Gen Idealize.ShloMosaic Idealize.ShloMosaic.TcCoe Idealize.SL.Sem Idealize.ShloMosaic.StableHlo Idealize.ShloMosaic.Routing

theorem word_div : ∀ r : Fin 256, IntOp.divsi .host (BitVec.ofNat 32 r) 64#32 = BitVec.ofNat 32 ((r : ℕ) / 64) := by decide +kernel

theorem word_int : ∀ r : Fin 256, (BitVec.ofNat 32 r).toInt = ((r : ℕ) : ℤ) := by decide +kernel

theorem word_eq : ∀ a b : Fin 4, (BitVec.ofNat 32 a == BitVec.ofNat 32 b) = decide ((b : ℕ) = a) := by decide +kernel

theorem word_chunk (r k : Fin 256) : IntOp.cmpi .eq (IntOp.divsi .host (BitVec.ofNat 32 r) 64#32) (IntOp.divsi .host (BitVec.ofNat 32 k) 64#32)
    = BitVec.ofBool (decide ((k : ℕ) / 64 = (r : ℕ) / 64)) := by
  rw [word_div, word_div]
  exact congrArg BitVec.ofBool (word_eq ⟨(r : ℕ) / 64, by omega⟩ ⟨(k : ℕ) / 64, by omega⟩)

theorem word_le (r k : Fin 256) : (BitVec.ofNat 32 k).sle (BitVec.ofNat 32 r) = decide ((k : ℕ) ≤ r) := by
  unfold BitVec.sle
  rw [word_int, word_int]
  exact decide_eq_decide.2 Int.ofNat_le

theorem word_and (p q : Prop) [Decidable p] [Decidable q] : IntOp.andi (BitVec.ofBool (decide p)) (BitVec.ofBool (decide q)) = 1 ↔ p ∧ q := by
  by_cases hp : p <;> by_cases hq : q <;> simp [hp, hq, IntOp.andi]

/-- The lower triangle's mask. -/
theorem mask_l (r k : Fin 256) : (select (andi (cmpi .eq (broadcastInDim S256x256 ![0, 1] bcast_S256x1_S256x256_0_1 (broadcastInDim S256x1 ![0] bcast_S256_S256x1_0 (Host.divsi (iotaInDim S256 32 0) (broadcastInDim S256 ![] bcast_S_S256 (constantI S_ 32 64#32)))))
        (broadcastInDim S256x256 ![0, 1] bcast_S1x256_S256x256_0_1 (broadcastInDim S1x256 ![1] bcast_S256_S1x256_1 (Host.divsi (iotaInDim S256 32 0) (broadcastInDim S256 ![] bcast_S_S256 (constantI S_ 32 64#32))))))
      (cmpi .sge (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0)))))
      (broadcastInDim S256x256 ![] bcast_S_S256x256 (constant (F := Ideal) S_ .f32 0x3F800000#32)) (broadcastInDim S256x256 ![] bcast_S_S256x256 (constant (F := Ideal) S_ .f32 0x00000000#32)) : FVec Ideal S256x256 .f32) (ix2 r k)
    = if (k : ℕ) / 64 = (r : ℕ) / 64 ∧ (k : ℕ) ≤ r then (1 : EReal) else 0 := by
  pointwise
  unfold Scalar.select
  refine if_congr ?_ rfl rfl
  rw [word_chunk, show IntOp.cmpi .sge (BitVec.ofNat 32 r) (BitVec.ofNat 32 k) = BitVec.ofBool (decide ((k : ℕ) ≤ r)) from congrArg BitVec.ofBool (word_le r k)]
  exact word_and _ _

/-- The upper triangle's mask. -/
theorem mask_r (r k : Fin 256) : (select (andi (cmpi .eq (broadcastInDim S256x256 ![0, 1] bcast_S256x1_S256x256_0_1 (broadcastInDim S256x1 ![0] bcast_S256_S256x1_0 (Host.divsi (iotaInDim S256 32 0) (broadcastInDim S256 ![] bcast_S_S256 (constantI S_ 32 64#32)))))
        (broadcastInDim S256x256 ![0, 1] bcast_S1x256_S256x256_0_1 (broadcastInDim S1x256 ![1] bcast_S256_S1x256_1 (Host.divsi (iotaInDim S256 32 0) (broadcastInDim S256 ![] bcast_S_S256 (constantI S_ 32 64#32))))))
      (cmpi .sle (broadcastInDim S256x256 ![0, 1] bcast_S256x1_S256x256_0_1 (broadcastInDim S256x1 ![0] bcast_S256_S256x1_0 (iotaInDim S256 32 0)))
        (broadcastInDim S256x256 ![0, 1] bcast_S1x256_S256x256_0_1 (broadcastInDim S1x256 ![1] bcast_S256_S1x256_1 (iotaInDim S256 32 0)))))
      (broadcastInDim S256x256 ![] bcast_S_S256x256 (constant (F := Ideal) S_ .f32 0x3F800000#32)) (broadcastInDim S256x256 ![] bcast_S_S256x256 (constant (F := Ideal) S_ .f32 0x00000000#32)) : FVec Ideal S256x256 .f32) (ix2 r k)
    = if (k : ℕ) / 64 = (r : ℕ) / 64 ∧ (r : ℕ) ≤ k then (1 : EReal) else 0 := by
  pointwise
  unfold Scalar.select
  refine if_congr ?_ rfl rfl
  rw [word_chunk, show IntOp.cmpi .sle (BitVec.ofNat 32 r) (BitVec.ofNat 32 k) = BitVec.ofBool (decide ((r : ℕ) ≤ k)) from congrArg BitVec.ofBool (word_le k r)]
  exact word_and _ _

variable (m : (ℓ : Loc nD τ sig) → Buf (Elt Ideal) ℓ) (c : Dev nD)

/-- The lower triangle of every chunk. -/
theorem staged_l (r k : Fin 256) : (V m c main_v34 : FVec Ideal S256x256 .bf16) (ix2 r k) = if (k : ℕ) / 64 = (r : ℕ) / 64 ∧ (k : ℕ) ≤ r then (1 : EReal) else 0 := by
  simp only [V, hostOps0, hostOps0_1, hostOps0_2, hostOps0_3, hostOps0_4, List.flatten_cons, List.flatten_nil, List.append_nil, List.cons_append, List.nil_append]
  entry_read
  exact mask_l r k

/-- The upper triangle of every chunk. -/
theorem staged_r (r k : Fin 256) : (V m c main_v42 : FVec Ideal S256x256 .bf16) (ix2 r k) = if (k : ℕ) / 64 = (r : ℕ) / 64 ∧ (r : ℕ) ≤ k then (1 : EReal) else 0 := by
  simp only [V, hostOps0, hostOps0_1, hostOps0_2, hostOps0_3, hostOps0_4, List.flatten_cons, List.flatten_nil, List.append_nil, List.cons_append, List.nil_append]
  entry_read
  exact mask_r r k

end Cert.Inproj

end
-- ==== Proof.InprojRef.lean ====
/- The reference's even-layer input projection, read at one index: the modulated norm, the product, the spectra, and the decays' sums. -/
module

public import proofs.«01_k».proof.Proof.Gen.Reference8Ideal.Run
public import proofs.«01_k».proof.Proof.FfnPoint
public import proofs.«01_k».proof.Proof.InprojSums
public import Idealize.ShloMosaic.Lib.Tactic.CleanTypes

@[expose] public section

set_option maxRecDepth 16384

noncomputable section

namespace Cert.Reference8Ideal.Value

open Cert.Reference8Ideal Cert.Reference8Ideal.Gen Idealize.ShloMosaic Idealize.ShloMosaic.TcCoe Idealize.SL.Sem Idealize.ShloMosaic.StableHlo
open Cert.Kernel2Ideal.Value (rms normed)
open Cert.Inproj (logSig fou decay cumF cumB ends least)

/-- A row of channels, repeated along batches and rows. -/
def chan (g : FVec Ideal S1024 .f32) : FVec Ideal S4x8192x1024 .f32 :=
  broadcastInDim S4x8192x1024 ![0, 1, 2] bcast_S1x1x1024_S4x8192x1024_0_1_2 (broadcastInDim S1x1x1024 ![2] bcast_S1024_S1x1x1024_2 g)

/-- A row of channels per batch, repeated along the rows. -/
def mods (x : FVec Ideal S4x1x1024 .f32) : FVec Ideal S4x8192x1024 .f32 :=
  broadcastInDim S4x8192x1024 ![0, 1, 2] bcast_S4x1x1024_S4x8192x1024_0_1_2 x

/-- Every row over the root of its mean square. -/
def unit (x : FVec Ideal S4x8192x1024 .f32) : FVec Ideal S4x8192x1024 .f32 :=
  mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))

/-- The modulated norm of the rows. -/
def modulated (h : FVec Ideal S4x8192x1024 .f32) (sc sh : FVec Ideal S4x1x1024 .f32) (g : FVec Ideal S1024 .f32) : FVec Ideal S4x8192x1024 .f32 :=
  addf (mulf (mulf (unit h) (chan g)) (mods (addf (broadcastInDim S4x1x1024 ![] bcast_S_S4x1x1024 (constant S_ .f32 0x3F800000#32)) sc))) (mods sh)

/-- The product with the whole weight. -/
def proj (f : FVec Ideal S4x8192x1024 .f32) (w : FVec Ideal S1024x2064 .f32) : FVec Ideal S4x8192x2064 .f32 :=
  Host.dotGeneral dot_S4x8192x1024_S1024x2064_S4x8192x2064_2_0_01_1_n_n none f w

/-- The groups' spectra, both parts side by side. -/
def spectra (p : FVec Ideal S4x8192x2064 .f32) (cs : FVec Ideal S128x256 .f32) : FVec Ideal S4x8192x4x256 .f32 :=
  Host.dotGeneral dot_S4x8192x4x128_S128x256_S4x8192x4x256_3_0_012_1_n_n none (shapeCast _ (extractStridedSlice S4x8192x512 ![0, 0, 0] p slices_S4x8192x2064_S4x8192x512_0_0_0) shapeCasts_S4x8192x512_S4x8192x4x128) cs

/-- The spectra's real parts. -/
def re (p : FVec Ideal S4x8192x2064 .f32) (cs : FVec Ideal S128x256 .f32) : FVec Ideal S4x8192x512 .bf16 :=
  truncf .bf16 (shapeCast _ (extractStridedSlice S4x8192x4x128 ![0, 0, 0, 0] (spectra p cs) slices_S4x8192x4x256_S4x8192x4x128_0_0_0_0) shapeCasts_S4x8192x4x128_S4x8192x512) bitsLt_bf16_f32

/-- The spectra's imaginary parts. -/
def im (p : FVec Ideal S4x8192x2064 .f32) (cs : FVec Ideal S128x256 .f32) : FVec Ideal S4x8192x512 .bf16 :=
  truncf .bf16 (shapeCast _ (extractStridedSlice S4x8192x4x128 ![0, 0, 0, 128] (spectra p cs) slices_S4x8192x4x256_S4x8192x4x128_0_0_0_128) shapeCasts_S4x8192x4x128_S4x8192x512) bitsLt_bf16_f32

/-- The queries, scaled. -/
def queries (p : FVec Ideal S4x8192x2064 .f32) : FVec Ideal S4x8192x256 .f32 :=
  mulf (extractStridedSlice S4x8192x256 ![0, 0, 512] p slices_S4x8192x2064_S4x8192x256_0_0_512) (broadcastInDim S4x8192x256 ![] bcast_S_S4x8192x256 (constant S_ .f32 0x3E000000#32))

/-- The keys. -/
def keys (p : FVec Ideal S4x8192x2064 .f32) : FVec Ideal S4x8192x256 .f32 :=
  extractStridedSlice S4x8192x256 ![0, 0, 768] p slices_S4x8192x2064_S4x8192x256_0_0_768

/-- The values. -/
def values (p : FVec Ideal S4x8192x2064 .f32) : FVec Ideal S4x8192x512 .bf16 :=
  truncf .bf16 (extractStridedSlice S4x8192x512 ![0, 0, 1024] p slices_S4x8192x2064_S4x8192x512_0_0_1024) bitsLt_bf16_f32

/-- The output gates' columns. -/
def outs (p : FVec Ideal S4x8192x2064 .f32) : FVec Ideal S4x8192x512 .bf16 :=
  truncf .bf16 (extractStridedSlice S4x8192x512 ![0, 0, 1536] p slices_S4x8192x2064_S4x8192x512_0_0_1536) bitsLt_bf16_f32

/-- The forward gates. -/
def gate0 (p : FVec Ideal S4x8192x2064 .f32) (u : FVec Ideal S2x16x256 .f32) (v : FVec Ideal S2x256 .f32) : FVec Ideal S4x8192x256 .f32 :=
  addf (Host.dotGeneral dot_S4x8192x16_S16x256_S4x8192x256_2_0_01_1_n_n none (extractStridedSlice S4x8192x16 ![0, 0, 2048] p slices_S4x8192x2064_S4x8192x16_0_0_2048) (shapeCast _ (extractStridedSlice S1x16x256 ![0, 0, 0] u slices_S2x16x256_S1x16x256_0_0_0) shapeCasts_S1x16x256_S16x256)) (broadcastInDim S4x8192x256 ![0, 1, 2] bcast_S1x1x256_S4x8192x256_0_1_2 (broadcastInDim S1x1x256 ![2] bcast_S256_S1x1x256_2 (shapeCast _ (extractStridedSlice S1x256 ![0, 0] v slices_S2x256_S1x256_0_0) shapeCasts_S1x256_S256)))

/-- The backward gates. -/
def gate1 (p : FVec Ideal S4x8192x2064 .f32) (u : FVec Ideal S2x16x256 .f32) (v : FVec Ideal S2x256 .f32) : FVec Ideal S4x8192x256 .f32 :=
  addf (Host.dotGeneral dot_S4x8192x16_S16x256_S4x8192x256_2_0_01_1_n_n none (extractStridedSlice S4x8192x16 ![0, 0, 2048] p slices_S4x8192x2064_S4x8192x16_0_0_2048) (shapeCast _ (extractStridedSlice S1x16x256 ![1, 0, 0] u slices_S2x16x256_S1x16x256_1_0_0) shapeCasts_S1x16x256_S16x256)) (broadcastInDim S4x8192x256 ![0, 1, 2] bcast_S1x1x256_S4x8192x256_0_1_2 (broadcastInDim S1x1x256 ![2] bcast_S256_S1x1x256_2 (shapeCast _ (extractStridedSlice S1x256 ![1, 0] v slices_S2x256_S1x256_1_0) shapeCasts_S1x256_S256)))

/-- Zero at every entry. -/
def zeros : FVec Ideal S4x8192x256 .f32 := broadcastInDim S4x8192x256 ![] bcast_S_S4x8192x256 (constant S_ .f32 0x00000000#32)

/-- The decays' logarithms, by chunks. -/
def logs (z : FVec Ideal S4x8192x256 .f32) : FVec Ideal S4x128x64x256 .f32 :=
  shapeCast _ (Host.divf (Host.negf (select (cmpf .une (subf (Host.negf z) zeros) (subf (Host.negf z) zeros)) (addf (Host.negf z) zeros) (addf (maximumf (Host.negf z) zeros) (Host.log1p (Host.exp (Host.negf (Host.absf (subf (Host.negf z) zeros)))))))) (broadcastInDim S4x8192x256 ![] bcast_S_S4x8192x256 (constant S_ .f32 0x41800000#32))) shapeCasts_S4x8192x256_S4x128x64x256

/-- The running sums of the chunks' rows. -/
def runs (x : FVec Ideal S4x128x64x256 .f32) : FVec Ideal S4x128x64x256 .f32 :=
  Host.reduceWindowAdd ![1, 1, 64, 1] ![1, 1, 1, 1] ![0, 0, 63, 0] ![0, 0, 0, 0] x (broadcastInDim S_ ![] bcast_S_S_ (constant S_ .f32 0x00000000#32)) reduceWindows_S4x128x64x256_S4x128x64x256_w1s1p0_0_w1s1p0_0_w64s1p63_0_w1s1p0_0 h_S_

/-- The running sums from the chunks' ends. -/
def back (x : FVec Ideal S4x128x64x256 .f32) : FVec Ideal S4x128x64x256 .f32 := Host.reverse [2] (runs (Host.reverse [2] x))

/-- The chunks' rows in one run. -/
def flat (x : FVec Ideal S4x128x64x256 .f32) : FVec Ideal S4x8192x256 .f32 := shapeCast _ x shapeCasts_S4x128x64x256_S4x8192x256

/-- The least whole sums of eight chunks. -/
def lows (x y : FVec Ideal S4x128x64x256 .f32) : FVec Ideal S4x16x8x256 .f32 :=
  broadcastInDim S4x16x8x256 ![0, 1, 2, 3] bcast_S4x16x1x256_S4x16x8x256_0_1_2_3 (broadcastInDim S4x16x1x256 ![0, 1, 3] bcast_S4x16x256_S4x16x1x256_0_1_3 (Host.reduce FloatOps.minimumf (shapeCast _ (minimumf (shapeCast _ (extractStridedSlice S4x128x1x256 ![0, 0, 63, 0] x slices_S4x128x64x256_S4x128x1x256_0_0_63_0) shapeCasts_S4x128x1x256_S4x128x256) (shapeCast _ (extractStridedSlice S4x128x1x256 ![0, 0, 0, 0] y slices_S4x128x64x256_S4x128x1x256_0_0_0_0) shapeCasts_S4x128x1x256_S4x128x256)) shapeCasts_S4x128x256_S4x16x8x256) (constant S_ .f32 0x7F800000#32) reducesTo_S4x16x8x256_S4x16x256_d2 h_S_))

theorem chan_at (g : FVec Ideal S1024 .f32) (b : Fin 4) (s : Fin 8192) (d : Fin 1024) : chan g (ix3 b s d) = g (ix1 d) := by
  unfold chan
  pointwise

theorem mods_at (x : FVec Ideal S4x1x1024 .f32) (b : Fin 4) (s : Fin 8192) (d : Fin 1024) : mods x (ix3 b s d) = x (ix3 b 0 d) := by
  unfold mods
  pointwise

theorem unit_at (x : FVec Ideal S4x8192x1024 .f32) (b : Fin 4) (s : Fin 8192) (d : Fin 1024) : unit x (ix3 b s d) = rms (fun d => x (ix3 b s d)) d := by
  unfold unit rms
  pointwise

/-- The modulated norm is the kernel's, the channel's factors associated the other way. -/
theorem modulated_at (h : FVec Ideal S4x8192x1024 .f32) (sc sh : FVec Ideal S4x1x1024 .f32) (g : FVec Ideal S1024 .f32) (b : Fin 4) (s : Fin 8192) (d : Fin 1024) :
    modulated h sc sh g (ix3 b s d) = normed (fun d => h (ix3 b s d)) (fun d => g (ix1 d)) (fun d => sc (ix3 b 0 d)) (fun d => sh (ix3 b 0 d)) d := by
  unfold modulated
  pointwise
  simp only [mods_at, unit_at, chan_at]
  unfold normed
  pointwise
  rw [mul_assoc]

theorem proj_at (f : FVec Ideal S4x8192x1024 .f32) (w : FVec Ideal S1024x2064 .f32) (b : Fin 4) (s : Fin 8192) (o : Fin 2064) :
    proj f w (ix3 b s o) = ∑ e : Fin 1024, f (ix3 b s e) * w (ix2 e o) := by
  unfold proj
  pointwise

theorem spectra_at (p : FVec Ideal S4x8192x2064 .f32) (cs : FVec Ideal S128x256 .f32) (b : Fin 4) (s : Fin 8192) (g : Fin 4) (o : Fin 256) :
    spectra p cs (ix4 b s g o) = ∑ e : Fin 128, p (ix3 b s ⟨128 * g + e, by omega⟩) * cs (ix2 e o) := by
  have h : ∀ (e : Fin 128) q, (⟨(g : ℕ) * 128 + (e : ℕ), q⟩ : Fin 2064) = ⟨128 * g + e, by omega⟩ := fun e q => Fin.ext (by show (g : ℕ) * 128 + (e : ℕ) = 128 * (g : ℕ) + (e : ℕ); omega)
  unfold spectra
  pointwise
  simp only [h]

/-- The product's first columns. -/
def cols (p : FVec Ideal S4x8192x2064 .f32) (b : Fin 4) (s : Fin 8192) (o : Fin 2048) : EReal := p (ix3 b s ⟨o, by omega⟩)

theorem re_at (p : FVec Ideal S4x8192x2064 .f32) (cs : FVec Ideal S128x256 .f32) (b : Fin 4) (s : Fin 8192) (d : Fin 512) :
    re p cs (ix3 b s d) = fou (cols p) (fun e o => cs (ix2 e o)) 0 (by omega) b s d := by
  refine (show re p cs (ix3 b s d) = spectra p cs (ix4 b s ⟨(d : ℕ) / 128, by omega⟩ ⟨0 + (d : ℕ) % 128, by omega⟩) by unfold re; generalize spectra p cs = x; pointwise).trans ?_
  exact spectra_at p cs b s _ _

theorem im_at (p : FVec Ideal S4x8192x2064 .f32) (cs : FVec Ideal S128x256 .f32) (b : Fin 4) (s : Fin 8192) (d : Fin 512) :
    im p cs (ix3 b s d) = fou (cols p) (fun e o => cs (ix2 e o)) 128 (by omega) b s d := by
  refine (show im p cs (ix3 b s d) = spectra p cs (ix4 b s ⟨(d : ℕ) / 128, by omega⟩ ⟨128 + (d : ℕ) % 128, by omega⟩) by unfold im; generalize spectra p cs = x; pointwise).trans ?_
  exact spectra_at p cs b s _ _

theorem queries_at (p : FVec Ideal S4x8192x2064 .f32) (b : Fin 4) (s : Fin 8192) (d : Fin 256) :
    queries p (ix3 b s d) = cols p b s ⟨512 + d, by omega⟩ * Ideal.ofBits .f32 0x3E000000#32 := by
  unfold queries cols
  pointwise

theorem keys_at (p : FVec Ideal S4x8192x2064 .f32) (b : Fin 4) (s : Fin 8192) (d : Fin 256) : keys p (ix3 b s d) = cols p b s ⟨768 + d, by omega⟩ := by
  unfold keys cols
  pointwise

theorem values_at (p : FVec Ideal S4x8192x2064 .f32) (b : Fin 4) (s : Fin 8192) (d : Fin 512) : values p (ix3 b s d) = cols p b s ⟨1024 + d, by omega⟩ := by
  unfold values cols
  pointwise

theorem outs_at (p : FVec Ideal S4x8192x2064 .f32) (b : Fin 4) (s : Fin 8192) (d : Fin 512) : outs p (ix3 b s d) = cols p b s ⟨1536 + d, by omega⟩ := by
  unfold outs cols
  pointwise

theorem gate0_at (p : FVec Ideal S4x8192x2064 .f32) (u : FVec Ideal S2x16x256 .f32) (v : FVec Ideal S2x256 .f32) (b : Fin 4) (s : Fin 8192) (d : Fin 256) :
    gate0 p u v (ix3 b s d) = (∑ c : Fin 16, p (ix3 b s ⟨2048 + c, by omega⟩) * u (ix3 0 c d)) + v (ix2 0 d) := by
  unfold gate0
  pointwise

theorem gate1_at (p : FVec Ideal S4x8192x2064 .f32) (u : FVec Ideal S2x16x256 .f32) (v : FVec Ideal S2x256 .f32) (b : Fin 4) (s : Fin 8192) (d : Fin 256) :
    gate1 p u v (ix3 b s d) = (∑ c : Fin 16, p (ix3 b s ⟨2048 + c, by omega⟩) * u (ix3 1 c d)) + v (ix2 1 d) := by
  unfold gate1
  pointwise

/-- A decay's logarithm in the reference's spelling. -/
theorem logs_at (z : FVec Ideal S4x8192x256 .f32) (b : Fin 4) (c : Fin 128) (k : Fin 64) (d : Fin 256) :
    logs z (ix4 b c k d) = logSig (z (ix3 b ⟨64 * c + k, by omega⟩ d)) * Ideal.ofBits .f32 0x3D800000#32 := by
  have h : ∀ q, (⟨(c : ℕ) * 64 + (k : ℕ), q⟩ : Fin 8192) = ⟨64 * c + k, by omega⟩ := fun q => Fin.ext (by show (c : ℕ) * 64 + (k : ℕ) = 64 * (c : ℕ) + (k : ℕ); omega)
  rw [← Cert.Inproj.logSig_eq, ← Cert.Inproj.over_sixteen]
  unfold logs zeros
  pointwise
  simp only [h]
  rw [if_neg fun h => h rfl]
  rfl

theorem runs_at (x : FVec Ideal S4x128x64x256 .f32) (b : Fin 4) (c : Fin 128) (s : Fin 64) (d : Fin 256) :
    runs x (ix4 b c s d) = ∑ k : Fin 64, if (k : ℕ) ≤ s then x (ix4 b c k d) else 0 :=
  Cert.Inproj.running x _ (fun i => by pointwise) _ _ b c s d

theorem back_at (x : FVec Ideal S4x128x64x256 .f32) (b : Fin 4) (c : Fin 128) (s : Fin 64) (d : Fin 256) :
    back x (ix4 b c s d) = ∑ k : Fin 64, if (s : ℕ) ≤ k then x (ix4 b c k d) else 0 := by
  have hr : ∀ (y : FVec Ideal S4x128x64x256 .f32) (k : Fin 64), Host.reverse [2] y (ix4 b c k d) = y (ix4 b c k.rev d) := fun y k => by
    pointwise
    rfl
  unfold back
  refine (hr _ s).trans ((runs_at _ b c s.rev d).trans ?_)
  refine (Equiv.sum_comp Fin.revPerm _).symm.trans (Finset.sum_congr rfl fun k _ => ?_)
  rw [hr]
  have e : (k.rev : ℕ) ≤ (s.rev : ℕ) ↔ (s : ℕ) ≤ k := by
    rw [Fin.val_rev, Fin.val_rev]
    omega
  simp only [Fin.revPerm_apply, Fin.rev_rev]
  exact if_congr e rfl rfl

theorem flat_at (x : FVec Ideal S4x128x64x256 .f32) (b : Fin 4) (s : Fin 8192) (d : Fin 256) :
    flat x (ix3 b s d) = x (ix4 b ⟨(s : ℕ) / 64, by omega⟩ ⟨(s : ℕ) % 64, by omega⟩ d) := by
  unfold flat
  pointwise

theorem fold8 (f : Fin 8 → EReal) : Finset.univ.fold min (Ideal.ofBits .f32 0x7F800000#32) f = min (min (min (min (min (min (min (f 0) (f 1)) (f 2)) (f 3)) (f 4)) (f 5)) (f 6)) (f 7) := by
  have h : Ideal.ofBits .f32 0x7F800000#32 = (⊤ : EReal) := by simp [Ideal.ofBits, Ideal.ieee]
  rw [h]
  show min (f 0) (min (f 1) (min (f 2) (min (f 3) (min (f 4) (min (f 5) (min (f 6) (min (f 7) ⊤))))))) = _
  rw [min_top_right]
  simp only [min_assoc]

theorem lows_at (x y : FVec Ideal S4x128x64x256 .f32) (b : Fin 4) (t : Fin 16) (i : Fin 8) (d : Fin 256) :
    lows x y (ix4 b t i d) = Finset.univ.fold min (Ideal.ofBits .f32 0x7F800000#32) fun k : Fin 8 =>
      min (x (ix4 b ⟨8 * t + k, by omega⟩ 63 d)) (y (ix4 b ⟨8 * t + k, by omega⟩ 0 d)) := by
  have h : ∀ (k : Fin 8) q, (⟨(t : ℕ) * 8 + (k : ℕ), q⟩ : Fin 128) = ⟨8 * t + k, by omega⟩ := fun k q => Fin.ext (by show (t : ℕ) * 8 + (k : ℕ) = 8 * (t : ℕ) + (k : ℕ); omega)
  unfold lows
  pointwise
  simp only [h]

/-- The run ends at the nine staged results. -/
theorem run_in (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = re (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg7))
      ∧ r.2.mem ((c.tc : Thread nD τ).loc main_v70) = im (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg7))
      ∧ r.2.mem ((c.tc : Thread nD τ).loc main_v72) = queries (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      ∧ r.2.mem ((c.tc : Thread nD τ).loc main_v22) = keys (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      ∧ r.2.mem ((c.tc : Thread nD τ).loc main_v73) = values (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      ∧ r.2.mem ((c.tc : Thread nD τ).loc main_v74) = outs (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))
      ∧ r.2.mem ((c.tc : Thread nD τ).loc main_v75) = flat (runs (logs (gate0 (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)) (m ((c.tc : Thread nD τ).loc main_arg6)))))
      ∧ r.2.mem ((c.tc : Thread nD τ).loc main_v76) = flat (back (logs (gate1 (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)) (m ((c.tc : Thread nD τ).loc main_arg6)))))
      ∧ r.2.mem ((c.tc : Thread nD τ).loc main_v68) = lows (runs (logs (gate0 (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)) (m ((c.tc : Thread nD τ).loc main_arg6))))) (back (logs (gate1 (proj (modulated (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)) (m ((c.tc : Thread nD τ).loc main_arg6)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have h := run (F := Ideal) m ρ
  unfold res_main_v75 res_main_v76 res_main_v68 at h
  unfold lows flat back runs logs zeros gate0 gate1 outs values keys queries im re spectra proj modulated unit chan mods
  exact h

end Cert.Reference8Ideal.Value

end
-- ==== Proof.InprojEq.lean ====
/- The even layer's input projection: the kernel's arrays are the reference's, given what the staged arrays hold. -/
module

public import proofs.«01_k».proof.Proof.InprojBlocks
public import proofs.«01_k».proof.Proof.InprojRef
public import Idealize.ShloMosaic.Lib.Tactic.CleanTypes

@[expose] public section

set_option maxRecDepth 16384

noncomputable section

namespace Cert.Inproj

open Cert.Reference8Ideal Cert.Reference8Ideal.Gen Idealize.ShloMosaic Idealize.ShloMosaic.TcCoe Idealize.SL.Sem Idealize.ShloMosaic.StableHlo
open Cert.Kernel8Ideal.Value (projA zA gatesA reArr imArr qArr kArr vArr rArr fArr bArr leastArr)
open Cert.Reference8Ideal.Value

variable (h : FVec Ideal S4x8192x1024 .f32) (sc sh : FVec Ideal S4x1x1024 .f32) (g : FVec Ideal S1024 .f32) (w : FVec Ideal S1024x2064 .f32)
variable (u : FVec Ideal S2x16x256 .f32) (v : FVec Ideal S2x256 .f32)
variable (g' : FVec Ideal Cert.Kernel8Ideal.S1x1024 .f32) (w' : FVec Ideal Cert.Kernel8Ideal.S1024x2048 .bf16) (z' : FVec Ideal Cert.Kernel8Ideal.S1024x128 .bf16)
variable (u' : FVec Ideal Cert.Kernel8Ideal.S128x512 .bf16) (s' : FVec Ideal Cert.Kernel8Ideal.S1x512 .f32)

/-- The product's first columns. -/
theorem proj_eq (hg : ∀ e : Fin 1024, g' (ix2 0 e) = g (ix1 e)) (hw : ∀ (e : Fin 1024) (o : Fin 2048), w' (ix2 e o) = w (ix2 e ⟨o, by omega⟩)) :
    projA h sc sh g' w' = cols (proj (modulated h sc sh g) w) := by
  funext b s o
  unfold projA cols
  rw [proj_at]
  simp only [modulated_at, hg, hw]

/-- The product's last columns, then zeros. -/
theorem z_eq (hg : ∀ e : Fin 1024, g' (ix2 0 e) = g (ix1 e))
    (hz : ∀ (e : Fin 1024) (k : Fin 128), z' (ix2 e k) = if h : (k : ℕ) < 16 then w (ix2 e ⟨2048 + k, by omega⟩) else (0 : EReal))
    (b : Fin 4) (s : Fin 8192) (k : Fin 128) (hk : (k : ℕ) < 16) :
    zA h sc sh g' z' b s k = proj (modulated h sc sh g) w (ix3 b s ⟨2048 + k, by omega⟩) := by
  unfold zA
  rw [proj_at]
  simp only [modulated_at, hg, hz, dif_pos hk]

/-- A sum whose terms from the sixteenth on are zero. -/
theorem sum16 (f : Fin 128 → EReal) (hf : ∀ k : Fin 128, ¬(k : ℕ) < 16 → f k = 0) : ∑ k : Fin 128, f k = ∑ k : Fin 16, f ⟨k, by omega⟩ := by
  refine (Fin.sum_univ_add (a := 16) (b := 112) f).trans ?_
  rw [Finset.sum_eq_zero (s := (Finset.univ : Finset (Fin 112))) fun k _ => hf _ (by show ¬16 + (k : ℕ) < 16; omega), add_zero]
  rfl

section
variable (hg : ∀ e : Fin 1024, g' (ix2 0 e) = g (ix1 e))
variable (hz : ∀ (e : Fin 1024) (k : Fin 128), z' (ix2 e k) = if h : (k : ℕ) < 16 then w (ix2 e ⟨2048 + k, by omega⟩) else (0 : EReal))
include hg hz

theorem gates0 (hu : ∀ (k : Fin 128) (d : Fin 256), u' (ix2 k ⟨0 + d, by omega⟩) = if h : (k : ℕ) < 16 then u (ix3 0 ⟨k, h⟩ d) else (0 : EReal))
    (hs : ∀ d : Fin 256, s' (ix2 0 ⟨0 + d, by omega⟩) = v (ix2 0 d)) (b : Fin 4) (s : Fin 8192) (d : Fin 256) :
    gatesA (zA h sc sh g' z') u' s' b s ⟨0 + d, by omega⟩ = gate0 (proj (modulated h sc sh g) w) u v (ix3 b s d) := by
  unfold gatesA
  rw [gate0_at, hs, sum16 _ fun k hk => by rw [hu, dif_neg hk, mul_zero]]
  refine congrArg (· + v (ix2 0 d)) (Finset.sum_congr rfl fun k _ => ?_)
  rw [hu, dif_pos k.isLt, z_eq h sc sh g w g' z' hg hz b s _ k.isLt]

theorem gates1 (hu : ∀ (k : Fin 128) (d : Fin 256), u' (ix2 k ⟨256 + d, by omega⟩) = if h : (k : ℕ) < 16 then u (ix3 1 ⟨k, h⟩ d) else (0 : EReal))
    (hs : ∀ d : Fin 256, s' (ix2 0 ⟨256 + d, by omega⟩) = v (ix2 1 d)) (b : Fin 4) (s : Fin 8192) (d : Fin 256) :
    gatesA (zA h sc sh g' z') u' s' b s ⟨256 + d, by omega⟩ = gate1 (proj (modulated h sc sh g) w) u v (ix3 b s d) := by
  unfold gatesA
  rw [gate1_at, hs, sum16 _ fun k hk => by rw [hu, dif_neg hk, mul_zero]]
  refine congrArg (· + v (ix2 1 d)) (Finset.sum_congr rfl fun k _ => ?_)
  rw [hu, dif_pos k.isLt, z_eq h sc sh g w g' z' hg hz b s _ k.isLt]

end

variable (G : Fin 4 → Fin 8192 → Fin 512 → EReal) (x y : FVec Ideal S4x8192x256 .f32)

theorem cumF_eq (hx : ∀ b s (d : Fin 256), G b s ⟨0 + d, by omega⟩ = x (ix3 b s d)) (b : Fin 4) (s : Fin 8192) (d : Fin 256) :
    cumF (decay G) b s d = runs (logs x) (ix4 b ⟨(s : ℕ) / 64, by omega⟩ ⟨(s : ℕ) % 64, by omega⟩ d) := by
  rw [runs_at]
  unfold cumF
  refine Finset.sum_congr rfl fun k _ => if_congr Iff.rfl ?_ rfl
  unfold decay
  rw [hx, logs_at]

theorem cumB_eq (hy : ∀ b s (d : Fin 256), G b s ⟨256 + d, by omega⟩ = y (ix3 b s d)) (b : Fin 4) (s : Fin 8192) (d : Fin 256) :
    cumB (decay G) b s d = back (logs y) (ix4 b ⟨(s : ℕ) / 64, by omega⟩ ⟨(s : ℕ) % 64, by omega⟩ d) := by
  rw [back_at]
  unfold cumB
  refine Finset.sum_congr rfl fun k _ => if_congr Iff.rfl ?_ rfl
  unfold decay
  rw [hy, logs_at]

theorem fArr_eq (hx : ∀ b s (d : Fin 256), G b s ⟨0 + d, by omega⟩ = x (ix3 b s d)) : fArr (decay G) = flat (runs (logs x)) := by
  funext j
  idx_vars j
  exact (cumF_eq G x hx j0 j1 j2).trans (flat_at _ _ _ _).symm

theorem bArr_eq (hy : ∀ b s (d : Fin 256), G b s ⟨256 + d, by omega⟩ = y (ix3 b s d)) : bArr (decay G) = flat (back (logs y)) := by
  funext j
  idx_vars j
  exact (cumB_eq G y hy j0 j1 j2).trans (flat_at _ _ _ _).symm

theorem ends_eq (hx : ∀ b s (d : Fin 256), G b s ⟨0 + d, by omega⟩ = x (ix3 b s d)) (hy : ∀ b s (d : Fin 256), G b s ⟨256 + d, by omega⟩ = y (ix3 b s d))
    (b : Fin 4) (c : Fin 128) (d : Fin 256) : ends (decay G) b c d = min (runs (logs x) (ix4 b c 63 d)) (back (logs y) (ix4 b c 0 d)) := by
  unfold ends
  rw [cumF_eq G x hx, cumB_eq G y hy]
  have e1 : (⟨(64 * (c : ℕ) + 63) / 64, by omega⟩ : Fin 128) = c := Fin.ext (by show (64 * (c : ℕ) + 63) / 64 = c; omega)
  have e2 : (⟨(64 * (c : ℕ) + 63) % 64, by omega⟩ : Fin 64) = 63 := Fin.ext (by show (64 * (c : ℕ) + 63) % 64 = 63; omega)
  have e3 : (⟨(64 * (c : ℕ)) / 64, by omega⟩ : Fin 128) = c := Fin.ext (by show (64 * (c : ℕ)) / 64 = c; omega)
  have e4 : (⟨(64 * (c : ℕ)) % 64, by omega⟩ : Fin 64) = 0 := Fin.ext (by show (64 * (c : ℕ)) % 64 = 0; omega)
  exact congrArg₂ min (congrArg₂ (fun p q => runs (logs x) (ix4 b p q d)) e1 e2) (congrArg₂ (fun p q => back (logs y) (ix4 b p q d)) e3 e4)

theorem leastArr_eq (hx : ∀ b s (d : Fin 256), G b s ⟨0 + d, by omega⟩ = x (ix3 b s d)) (hy : ∀ b s (d : Fin 256), G b s ⟨256 + d, by omega⟩ = y (ix3 b s d)) :
    leastArr (decay G) = lows (runs (logs x)) (back (logs y)) := by
  funext j
  idx_vars j
  refine Eq.trans ?_ ((lows_at _ _ j0 j1 j2 j3).trans (fold8 _)).symm
  show least (decay G) j0 j1 j3 = _
  unfold least
  simp only [ends_eq G x y hx hy]
  rfl

variable (P : FVec Ideal S4x8192x2064 .f32) (cs : FVec Ideal S128x256 .f32)

theorem reArr_eq : reArr (cols P) cs = re P cs := by
  funext j
  idx_vars j
  exact (re_at P cs j0 j1 j2).symm

theorem imArr_eq : imArr (cols P) cs = im P cs := by
  funext j
  idx_vars j
  exact (im_at P cs j0 j1 j2).symm

theorem qArr_eq : qArr (cols P) = queries P := by
  funext j
  idx_vars j
  exact (queries_at P j0 j1 j2).symm

theorem kArr_eq : kArr (cols P) = keys P := by
  funext j
  idx_vars j
  exact (keys_at P j0 j1 j2).symm

theorem vArr_eq : vArr (cols P) = values P := by
  funext j
  idx_vars j
  exact (values_at P j0 j1 j2).symm

theorem rArr_eq : rArr (cols P) = outs P := by
  funext j
  idx_vars j
  exact (outs_at P j0 j1 j2).symm

end Cert.Inproj

end
-- ==== Proof.InprojClaim.lean ====
/- The even layer's input projection: the equality of the two programs' results. -/
module

public import proofs.«01_k».proof.Defs
public import proofs.«01_k».proof.Proof.InprojArray
public import proofs.«01_k».proof.Proof.InprojDecay
public import proofs.«01_k».proof.Proof.InprojStaged
public import proofs.«01_k».proof.Proof.InprojMask
public import proofs.«01_k».proof.Proof.InprojEq
public import Idealize.ShloMosaic.Lib.Claim
public import Idealize.ShloMosaic.Lib.Tactic.CleanTypes

@[expose] public section

set_option maxRecDepth 16384

noncomputable section

namespace Cert.Proof

open Cert.Inproj Idealize.ShloMosaic Idealize.ShloMosaic.TcCoe Idealize.SL.Sem Idealize.ShloMosaic.StableHlo
open Cert.Kernel8Ideal.Value (projM zM LM)

set_option maxHeartbeats 8000000 in
theorem algebraic8 : Cert.algebraic_Kernel8Ideal_Reference8Ideal := by
  intro m g m' g' _ hagree
  refine ⟨fun c => (Cert.Kernel8Ideal.Gen.dats m 0 c).arrAt 11 Cert.Kernel8Ideal.cfg0.N, fun c => (Cert.Kernel8Ideal.Gen.dats m 0 c).arrAt 12 Cert.Kernel8Ideal.cfg0.N, fun c => (Cert.Kernel8Ideal.Gen.dats m 0 c).arrAt 13 Cert.Kernel8Ideal.cfg0.N, fun c => (Cert.Kernel8Ideal.Gen.dats m 0 c).arrAt 14 Cert.Kernel8Ideal.cfg0.N, fun c => (Cert.Kernel8Ideal.Gen.dats m 0 c).arrAt 15 Cert.Kernel8Ideal.cfg0.N, fun c => (Cert.Kernel8Ideal.Gen.dats m 0 c).arrAt 16 Cert.Kernel8Ideal.cfg0.N, fun c => (Cert.Kernel8Ideal.Gen.dats m 0 c).arrAt 17 Cert.Kernel8Ideal.cfg0.N, fun c => (Cert.Kernel8Ideal.Gen.dats m 0 c).arrAt 18 Cert.Kernel8Ideal.cfg0.N, fun c => (Cert.Kernel8Ideal.Gen.dats m 0 c).arrAt 19 Cert.Kernel8Ideal.cfg0.N,
    Cert.Kernel8Ideal.Value.run_blocks m g, ?_⟩
  refine θ_run_mono (Cert.Reference8Ideal.Value.run_in m' g') ?_
  intro r hr c
  obtain ⟨h0, h1, h2, h3, h4, h5, h6, h7, h8, p⟩ := hr c
  obtain ⟨a0, a1, a2, a3, a4, a5, a6, a7⟩ := hagree c
  clear hr hagree
  rw [a0, a1, a2, a3, a4] at h0 h1 h2 h3 h4 h5 h6 h7 h8
  rw [a7] at h0 h1
  rw [a5, a6] at h6 h7 h8
  refine ⟨h0.trans ?_, h1.trans ?_, h2.trans ?_, h3.trans ?_, h4.trans ?_, h5.trans ?_, h6.trans ?_, h7.trans ?_, h8.trans ?_, p⟩
  all_goals clear h0 h1 h2 h3 h4 h5 h6 h7 h8 p
  · have e := Cert.Kernel8Ideal.Value.final_re m c
    unfold projM at e
    rw [proj_eq _ _ _ _ _ _ _ (staged_g m c) (staged_w m c), staged_cs] at e
    exact (e.trans (reArr_eq _ _)).symm
  · have e := Cert.Kernel8Ideal.Value.final_im m c
    unfold projM at e
    rw [proj_eq _ _ _ _ _ _ _ (staged_g m c) (staged_w m c), staged_cs] at e
    exact (e.trans (imArr_eq _ _)).symm
  · have e := Cert.Kernel8Ideal.Value.final_q m c
    unfold projM at e
    rw [proj_eq _ _ _ _ _ _ _ (staged_g m c) (staged_w m c)] at e
    exact (e.trans (qArr_eq _)).symm
  · have e := Cert.Kernel8Ideal.Value.final_k m c
    unfold projM at e
    rw [proj_eq _ _ _ _ _ _ _ (staged_g m c) (staged_w m c)] at e
    exact (e.trans (kArr_eq _)).symm
  · have e := Cert.Kernel8Ideal.Value.final_v m c
    unfold projM at e
    rw [proj_eq _ _ _ _ _ _ _ (staged_g m c) (staged_w m c)] at e
    exact (e.trans (vArr_eq _)).symm
  · have e := Cert.Kernel8Ideal.Value.final_r m c
    unfold projM at e
    rw [proj_eq _ _ _ _ _ _ _ (staged_g m c) (staged_w m c)] at e
    exact (e.trans (rArr_eq _)).symm
  · have e := Cert.Kernel8Ideal.Value.final_f m c (staged_l m c)
    unfold LM zM at e
    exact (e.trans (fArr_eq _ _ (gates0 _ _ _ _ _ _ _ _ _ _ _ (staged_g m c) (staged_z m c) (staged_u0 m c) (staged_s0 m c)))).symm
  · have e := Cert.Kernel8Ideal.Value.final_b m c (staged_r m c)
    unfold LM zM at e
    exact (e.trans (bArr_eq _ _ (gates1 _ _ _ _ _ _ _ _ _ _ _ (staged_g m c) (staged_z m c) (staged_u1 m c) (staged_s1 m c)))).symm
  · have e := Cert.Kernel8Ideal.Value.final_least m c (staged_l m c) (staged_r m c)
    unfold LM zM at e
    exact (e.trans (leastArr_eq _ _ _ (gates0 _ _ _ _ _ _ _ _ _ _ _ (staged_g m c) (staged_z m c) (staged_u0 m c) (staged_s0 m c)) (gates1 _ _ _ _ _ _ _ _ _ _ _ (staged_g m c) (staged_z m c) (staged_u1 m c) (staged_s1 m c)))).symm

end Cert.Proof

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_qk
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.AttClaim
public import proofs.«01_k».proof.Proof.FfnClaim
public import proofs.«01_k».proof.Proof.OutClaim
public import proofs.«01_k».proof.Proof.QkvClaim
public import proofs.«01_k».proof.Proof.MixClaim
public import proofs.«01_k».proof.Proof.AdalnClaim
public import proofs.«01_k».proof.Proof.KvClaim
public import Idealize.ShloMosaic.Adequacy
public import Idealize.ShloMosaic.Init
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.InprojClaim

@[expose] public section

set_option maxRecDepth 16384

noncomputable section

namespace Cert.Proof

open Idealize.ShloMosaic Idealize.SL.Sem

/-- The kernel as printed runs, keeps its arguments and ends quiescent. -/
theorem frame_kernel : Cert.quiescent_Kernel := fun m g _ => Cert.Kernel.Gen.frame m g

/-- The idealized kernel runs, keeps its arguments and ends quiescent, from every memory. -/
theorem frame_kernel_ideal : Cert.quiescent_KernelIdeal := fun m g _ => Cert.KernelIdeal.Gen.frame m g

/-- The same under the precondition. -/
theorem frame_kernel_ideal_pre : Cert.quiescent_KernelIdeal_pre_finite_qk := fun m g _ => Cert.KernelIdeal.Gen.frame m g

/-- The idealized reference runs, keeps its arguments and ends quiescent, from every memory. -/
theorem frame_reference_ideal : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The same under the precondition. -/
theorem frame_reference_ideal_pre : Cert.quiescent_ReferenceIdeal_pre_finite_qk := fun m g _ => frame_reference_ideal m g trivial

/-- The kernel's scale constant is the named real. -/
theorem preserves : Cert.preserves_Kernel_KernelIdeal :=
  IdealRules.named_const.statement Cert.KernelIdeal.κ "q_scale" .f32 0x3E0293EE#32 (((11863283 / 134217728) * (Real.log 2)⁻¹ : ℝ) : EReal) rfl

/-- The feed-forward as printed runs, keeps its arguments and ends quiescent. -/
theorem frame_kernel2 : Cert.quiescent_Kernel2 := fun m g _ => Cert.Kernel2.Gen.frame m g

/-- The idealized feed-forward runs, keeps its arguments and ends quiescent. -/
theorem frame_kernel2_ideal : Cert.quiescent_Kernel2Ideal := fun m g _ => Cert.Kernel2Ideal.Gen.frame m g

/-- The idealized reference of the feed-forward runs, keeps its arguments and ends quiescent. -/
theorem frame_reference2_ideal : Cert.quiescent_Reference2Ideal := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

/-- The output projection as printed runs, keeps its arguments and ends quiescent. -/
theorem frame_kernel3 : Cert.quiescent_Kernel3 := fun m g _ => Cert.Kernel3.Gen.frame m g

/-- The idealized output projection runs, keeps its arguments and ends quiescent. -/
theorem frame_kernel3_ideal : Cert.quiescent_Kernel3Ideal := fun m g _ => Cert.Kernel3Ideal.Gen.frame m g

/-- The idealized reference of the output projection runs, keeps its arguments and ends quiescent. -/
theorem frame_reference3_ideal : Cert.quiescent_Reference3Ideal := fun m g _ =>
  (θ_run Cert.Reference3Ideal.defs _ _).mono (fun r h => ⟨fun c => (h c).2,
      Idealize.ShloMosaic.sem_eq_zero_of_no_sems (by decide) r.2⟩)
    (Cert.Reference3Ideal.Value.run (F := Ideal) m g)

/-- The projection into heads as printed runs, keeps its arguments and ends quiescent. -/
theorem frame_kernel4 : Cert.quiescent_Kernel4 := fun m g _ => Cert.Kernel4.Gen.frame m g

/-- The idealized projection into heads runs, keeps its arguments and ends quiescent. -/
theorem frame_kernel4_ideal : Cert.quiescent_Kernel4Ideal := fun m g _ => Cert.Kernel4Ideal.Gen.frame m g

/-- The idealized reference of the projection into heads runs, keeps its arguments and ends quiescent. -/
theorem frame_reference4_ideal : Cert.quiescent_Reference4Ideal := fun m g _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m g)

/-- The even mixing output as printed runs, keeps its arguments and ends quiescent. -/
theorem frame_kernel5 : Cert.quiescent_Kernel5 := fun m g _ => Cert.Kernel5.Gen.frame m g

/-- The idealized even mixing output runs, keeps its arguments and ends quiescent. -/
theorem frame_kernel5_ideal : Cert.quiescent_Kernel5Ideal := fun m g _ => Cert.Kernel5Ideal.Gen.frame m g

/-- The idealized reference of the even mixing output runs, keeps its arguments and ends quiescent. -/
theorem frame_reference5_ideal : Cert.quiescent_Reference5Ideal := fun m g _ =>
  (θ_run Cert.Reference5Ideal.defs _ _).mono (fun r h => ⟨fun c => (h c).2,
      Idealize.ShloMosaic.sem_eq_zero_of_no_sems (by decide) r.2⟩)
    (Cert.Reference5Ideal.Value.run (F := Ideal) m g)

/-- The modulation as printed runs, keeps its arguments and ends quiescent. -/
theorem frame_kernel6 : Cert.quiescent_Kernel6 := fun m g _ => Cert.Kernel6.Gen.frame m g

/-- The idealized modulation runs, keeps its arguments and ends quiescent. -/
theorem frame_kernel6_ideal : Cert.quiescent_Kernel6Ideal := fun m g _ => Cert.Kernel6Ideal.Gen.frame m g

/-- The idealized reference of the modulation runs, keeps its arguments and ends quiescent. -/
theorem frame_reference6_ideal : Cert.quiescent_Reference6Ideal := fun m g _ =>
  (θ_run Cert.Reference6Ideal.defs _ _).mono (fun r h => ⟨fun c => (h c).2,
      Idealize.ShloMosaic.sem_eq_zero_of_no_sems (by decide) r.2⟩)
    (Cert.Reference6Ideal.Value.run (F := Ideal) m g)

/-- The context's keys and values as printed runs, keeps its arguments and ends quiescent. -/
theorem frame_kernel7 : Cert.quiescent_Kernel7 := fun m g _ => Cert.Kernel7.Gen.frame m g

/-- The idealized context's keys and values runs, keeps its arguments and ends quiescent. -/
theorem frame_kernel7_ideal : Cert.quiescent_Kernel7Ideal := fun m g _ => Cert.Kernel7Ideal.Gen.frame m g

/-- The idealized reference of the context's keys and values runs, keeps its arguments and ends quiescent. -/
theorem frame_reference7_ideal : Cert.quiescent_Reference7Ideal := fun m g _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m g)

/-- The even layer's input projection as printed runs, keeps its arguments and ends quiescent. -/
theorem frame_kernel8 : Cert.quiescent_Kernel8 := fun m g _ => Cert.Kernel8.Gen.frame m g

/-- The idealized even layer's input projection runs, keeps its arguments and ends quiescent. -/
theorem frame_kernel8_ideal : Cert.quiescent_Kernel8Ideal := fun m g _ => Cert.Kernel8Ideal.Gen.frame m g

/-- The idealized reference of the even layer's input projection runs, keeps its arguments and ends quiescent. -/
theorem frame_reference8_ideal : Cert.quiescent_Reference8Ideal := fun m g _ =>
  (θ_run Cert.Reference8Ideal.defs _ _).mono (fun r h => ⟨fun c => (h c).2.2.2.2.2.2.2.2.2,
      Idealize.ShloMosaic.sem_eq_zero_of_no_sems (by decide) r.2⟩)
    (Cert.Reference8Ideal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts,
    Cert.Pre_finite_qk.Gen.facts,
    frame_kernel, frame_kernel_ideal, frame_kernel_ideal_pre, frame_reference_ideal, frame_reference_ideal_pre,
    frame_kernel2, frame_kernel2_ideal, frame_reference2_ideal, frame_kernel3, frame_kernel3_ideal, frame_reference3_ideal,
    frame_kernel4, frame_kernel4_ideal, frame_reference4_ideal, frame_kernel5, frame_kernel5_ideal, frame_reference5_ideal,
    frame_kernel6, frame_kernel6_ideal, frame_reference6_ideal, frame_kernel7, frame_kernel7_ideal, frame_reference7_ideal,
    frame_kernel8, frame_kernel8_ideal, frame_reference8_ideal,
    preserves, algebraic, trivial, algebraic2, trivial, algebraic3, trivial, algebraic4, trivial, algebraic5, trivial, algebraic6, trivial, algebraic7, trivial, algebraic8⟩

end Cert.Proof

end
